-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg_far_finite [hPre_scales_nonneg_far_finite : Cert.Pre_scales_nonneg_far_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg_far_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg_far_finite [hPre_scales_nonneg_far_finite : Cert.Pre_scales_nonneg_far_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg_far_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales_nonneg_far_finite [hKernelIdeal : Cert.KernelIdeal.Facts] [hPre_scales_nonneg_far_finite : Cert.Pre_scales_nonneg_far_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg_far_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales_nonneg_far_finite [hReferenceIdeal : Cert.ReferenceIdeal.Facts] [hPre_scales_nonneg_far_finite : Cert.Pre_scales_nonneg_far_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg_far_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_on_all_but_far_lane_pre_scales_nonneg_far_finite [hKernelIdeal : Cert.KernelIdeal.Facts] [hReferenceIdeal : Cert.ReferenceIdeal.Facts] [hPre_scales_nonneg_far_finite : Cert.Pre_scales_nonneg_far_finite.Facts] [hOn_all_but_far_lane : Cert.On_all_but_far_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg_far_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![2, 20, 896, 128]⟩ : Shape).Idx, (Cert.On_all_but_far_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v4_0) i = v0 c i)
          ∧ (∀ i : (⟨4, ![2, 20, 896, 128]⟩ : Shape).Idx, (Cert.On_all_but_far_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v4_1) i = v1 c i)
          ∧ (∀ i : (⟨4, ![2, 20, 896, 128]⟩ : Shape).Idx, (Cert.On_all_but_far_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v4_2) i = v2 c i)
          ∧ (∀ i : (⟨3, ![20, 1, 128]⟩ : Shape).Idx, (Cert.On_all_but_far_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v4_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![2, 20, 896, 128]⟩ : Shape).Idx, (Cert.On_all_but_far_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v134) i = v0 c i)
          ∧ (∀ i : (⟨4, ![2, 20, 896, 128]⟩ : Shape).Idx, (Cert.On_all_but_far_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v149) i = v1 c i)
          ∧ (∀ i : (⟨4, ![2, 20, 896, 128]⟩ : Shape).Idx, (Cert.On_all_but_far_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v153) i = v2 c i)
          ∧ (∀ i : (⟨3, ![20, 1, 128]⟩ : Shape).Idx, (Cert.On_all_but_far_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.ReferenceIdeal.nD Cert.ReferenceIdeal.τ).loc Cert.ReferenceIdeal.main_v155) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scales_nonneg_far_finite : Cert.Pre_scales_nonneg_far_finite.Facts) (hOn_all_but_far_lane : Cert.On_all_but_far_lane.Facts),
    quiescent_Kernel (hKernel := hKernel)
    ∧ quiescent_KernelIdeal (hKernelIdeal := hKernelIdeal)
    ∧ quiescent_KernelIdeal_pre_scales_nonneg_far_finite (hKernelIdeal := hKernelIdeal) (hPre_scales_nonneg_far_finite := hPre_scales_nonneg_far_finite)
    ∧ quiescent_ReferenceIdeal (hReferenceIdeal := hReferenceIdeal)
    ∧ quiescent_ReferenceIdeal_pre_scales_nonneg_far_finite (hReferenceIdeal := hReferenceIdeal) (hPre_scales_nonneg_far_finite := hPre_scales_nonneg_far_finite)
    ∧ preserves_Kernel_KernelIdeal
    ∧ algebraic_KernelIdeal_ReferenceIdeal_on_all_but_far_lane_pre_scales_nonneg_far_finite (hKernelIdeal := hKernelIdeal) (hReferenceIdeal := hReferenceIdeal) (hPre_scales_nonneg_far_finite := hPre_scales_nonneg_far_finite) (hOn_all_but_far_lane := hOn_all_but_far_lane)
-- ==== On_all_but_far_lane.lean ====
abbrev S2x896x20x128 : Shape := ⟨4, ![2, 896, 20, 128]⟩
abbrev S2x20 : Shape := ⟨2, ![2, 20]⟩
abbrev S20x32 : Shape := ⟨2, ![20, 32]⟩
abbrev S_ : Shape := ⟨0, ![]⟩
abbrev S2x20x896x128 : Shape := ⟨4, ![2, 20, 896, 128]⟩
abbrev S20x1x128 : Shape := ⟨3, ![20, 1, 128]⟩

class Facts : Prop where
  bcast_S_S2x20x896x128 : S_.BroadcastsInDim S2x20x896x128 (![] : Fin 0 → Fin S2x20x896x128.rank)
  bcast_S_S20x1x128 : S_.BroadcastsInDim S20x1x128 (![] : Fin 0 → Fin S20x1x128.rank)

variable [Facts]

def fn {F : FTy → Type} [FloatOps F] (main_arg0 : FVec F S2x896x20x128 .fp8e4m3) (main_arg1 : FVec F S2x896x20x128 .fp8e4m3) (main_arg2 : FVec F S2x896x20x128 .fp8e4m3) (main_arg3 : FVec F S2x20 .f32) (main_arg4 : FVec F S2x20 .f32) (main_arg5 : FVec F S2x20 .f32) (main_arg6 : FVec F S2x896x20x128 .fp8e5m2) (main_arg7 : FVec F S2x20 .f32) (main_arg8 : FVec F S20x32 .f32) : IVec S2x20x896x128 1 × IVec S2x20x896x128 1 × IVec S2x20x896x128 1 × IVec S20x1x128 1 :=
  let main_c : IVec S_ 1 := constantI S_ 1 1#1
  let main_v0 : IVec S2x20x896x128 1 := broadcastInDim S2x20x896x128 ![] bcast_S_S2x20x896x128 main_c
  let main_v1 : IVec S20x1x128 32 := iotaInDim S20x1x128 32 2
  let main_c_0 : IVec S_ 32 := constantI S_ 32 31#32
  let main_v2 : IVec S20x1x128 32 := broadcastInDim S20x1x128 ![] bcast_S_S20x1x128 main_c_0
  let main_v3 : IVec S20x1x128 1 := cmpi .ne main_v1 main_v2
  (main_v0, main_v0, main_v0, main_v3)
-- ==== Pre_scales_nonneg_far_finite.lean ====
abbrev S2x896x20x128 : Shape := ⟨4, ![2, 896, 20, 128]⟩
abbrev S2x20 : Shape := ⟨2, ![2, 20]⟩
abbrev S20x32 : Shape := ⟨2, ![20, 32]⟩
abbrev S_ : Shape := ⟨0, ![]⟩
abbrev S20x1 : Shape := ⟨2, ![20, 1]⟩
abbrev S20 : Shape := ⟨1, ![20]⟩

class Facts : Prop where
  bcast_S_S2x20 : S_.BroadcastsInDim S2x20 (![] : Fin 0 → Fin S2x20.rank)
  reducesTo_S2x20_S_d0_1 : S2x20.ReducesTo [0, 1] S_
  h_S_ : 0 < S_.numel
  slices_S20x32_S20x1_0_31 : S20x32.Slices ![0, 31] S20x1
  shapeCasts_S20x1_S20 : S20x1.ShapeCasts S20
  bcast_S_S20 : S_.BroadcastsInDim S20 (![] : Fin 0 → Fin S20.rank)
  reducesTo_S20_S_d0 : S20.ReducesTo [0] S_

variable [Facts]

def fn_part1 {F : FTy → Type} [FloatOps F] (main_v13 : FVec F S20 .f32) (main_v14 : IVec S_ 1) (main_v16 : IVec S20 1) : IVec S_ 1 :=
  let main_cst_5 : FVec F S_ .f32 := constant S_ .f32 0x7F800000#32
  let main_v17 : FVec F S20 .f32 := broadcastInDim S20 ![] bcast_S_S20 main_cst_5
  let main_v18 : IVec S20 1 := cmpf .olt main_v13 main_v17
  let main_v19 : IVec S20 1 := andi main_v16 main_v18
  let main_c_6 : IVec S_ 1 := constantI S_ 1 1#1
  let main_v20 : IVec S_ 1 := (fun x v => Host.reduce IntOp.andi x v reducesTo_S20_S_d0 h_S_) main_v19 main_c_6
  let main_v21 : IVec S_ 1 := andi main_v14 main_v20
  main_v21

def fn {F : FTy → Type} [FloatOps F] (main_arg0 : FVec F S2x896x20x128 .fp8e4m3) (main_arg1 : FVec F S2x896x20x128 .fp8e4m3) (main_arg2 : FVec F S2x896x20x128 .fp8e4m3) (main_arg3 : FVec F S2x20 .f32) (main_arg4 : FVec F S2x20 .f32) (main_arg5 : FVec F S2x20 .f32) (main_arg6 : FVec F S2x896x20x128 .fp8e5m2) (main_arg7 : FVec F S2x20 .f32) (main_arg8 : FVec F S20x32 .f32) : IVec S_ 1 :=
  let main_cst : FVec F S_ .f32 := constant S_ .f32 0x00000000#32
  let main_v0 : FVec F S2x20 .f32 := broadcastInDim S2x20 ![] bcast_S_S2x20 main_cst
  let main_v1 : IVec S2x20 1 := cmpf .oge main_arg5 main_v0
  let main_cst_0 : FVec F S_ .f32 := constant S_ .f32 0x7F800000#32
  let main_v2 : FVec F S2x20 .f32 := broadcastInDim S2x20 ![] bcast_S_S2x20 main_cst_0
  let main_v3 : IVec S2x20 1 := cmpf .olt main_arg5 main_v2
  let main_v4 : IVec S2x20 1 := andi main_v1 main_v3
  let main_c : IVec S_ 1 := constantI S_ 1 1#1
  let main_v5 : IVec S_ 1 := (fun x v => Host.reduce IntOp.andi x v reducesTo_S2x20_S_d0_1 h_S_) main_v4 main_c
  let main_cst_1 : FVec F S_ .f32 := constant S_ .f32 0x00000000#32
  let main_v6 : FVec F S2x20 .f32 := broadcastInDim S2x20 ![] bcast_S_S2x20 main_cst_1
  let main_v7 : IVec S2x20 1 := cmpf .oge main_arg7 main_v6
  let main_cst_2 : FVec F S_ .f32 := constant S_ .f32 0x7F800000#32
  let main_v8 : FVec F S2x20 .f32 := broadcastInDim S2x20 ![] bcast_S_S2x20 main_cst_2
  let main_v9 : IVec S2x20 1 := cmpf .olt main_arg7 main_v8
  let main_v10 : IVec S2x20 1 := andi main_v7 main_v9
  let main_c_3 : IVec S_ 1 := constantI S_ 1 1#1
  let main_v11 : IVec S_ 1 := (fun x v => Host.reduce IntOp.andi x v reducesTo_S2x20_S_d0_1 h_S_) main_v10 main_c_3
  let main_v12 : FVec F S20x1 .f32 := (extractStridedSlice S20x1 ![0, 31] · slices_S20x32_S20x1_0_31) main_arg8
  let main_v13 : FVec F S20 .f32 := shapeCast S20 main_v12 shapeCasts_S20x1_S20
  let main_v14 : IVec S_ 1 := andi main_v5 main_v11
  let main_cst_4 : FVec F S_ .f32 := constant S_ .f32 0xFF800000#32
  let main_v15 : FVec F S20 .f32 := broadcastInDim S20 ![] bcast_S_S20 main_cst_4
  let main_v16 : IVec S20 1 := cmpf .ogt main_v13 main_v15
  fn_part1 (F := F) main_v13 main_v14 main_v16
-- ==== Kernel.lean ====
abbrev S2x896x20x128 : Shape := ⟨4, ![2, 896, 20, 128]⟩
abbrev S2x20 : Shape := ⟨2, ![2, 20]⟩
abbrev S20x32 : Shape := ⟨2, ![20, 32]⟩
abbrev S2x20x896x128 : Shape := ⟨4, ![2, 20, 896, 128]⟩
abbrev S20x1x128 : Shape := ⟨3, ![20, 1, 128]⟩
abbrev S1x1x896x128 : Shape := ⟨4, ![1, 1, 896, 128]⟩
abbrev S1x1x128 : Shape := ⟨3, ![1, 1, 128]⟩
abbrev S128x256 : Shape := ⟨2, ![128, 256]⟩
abbrev S896x896 : Shape := ⟨2, ![896, 896]⟩
abbrev S8x256 : Shape := ⟨2, ![8, 256]⟩
abbrev S1x1 : Shape := ⟨2, ![1, 1]⟩
abbrev S1x256 : Shape := ⟨2, ![1, 256]⟩
abbrev S896x128 : Shape := ⟨2, ![896, 128]⟩
abbrev S128x128 : Shape := ⟨2, ![128, 128]⟩
abbrev S128x896 : Shape := ⟨2, ![128, 896]⟩
abbrev S16x8x128 : Shape := ⟨3, ![16, 8, 128]⟩
abbrev S8x128 : Shape := ⟨2, ![8, 128]⟩
abbrev S128 : Shape := ⟨1, ![128]⟩
abbrev S1x128 : Shape := ⟨2, ![1, 128]⟩
abbrev S1x1x128x128 : Shape := ⟨4, ![1, 1, 128, 128]⟩
abbrev S384x128 : Shape := ⟨2, ![384, 128]⟩
abbrev S256x128 : Shape := ⟨2, ![256, 128]⟩
abbrev S384x256 : Shape := ⟨2, ![384, 256]⟩
abbrev S128x384 : Shape := ⟨2, ![128, 384]⟩
abbrev S1x1x256x128 : Shape := ⟨4, ![1, 1, 256, 128]⟩
abbrev S640x128 : Shape := ⟨2, ![640, 128]⟩
abbrev S640x256 : Shape := ⟨2, ![640, 256]⟩
abbrev S128x640 : Shape := ⟨2, ![128, 640]⟩
abbrev S896x256 : Shape := ⟨2, ![896, 256]⟩
abbrev S256x768 : Shape := ⟨2, ![256, 768]⟩
abbrev S768x128 : Shape := ⟨2, ![768, 128]⟩
abbrev S128x768 : Shape := ⟨2, ![128, 768]⟩
abbrev S256x512 : Shape := ⟨2, ![256, 512]⟩
abbrev S512x128 : Shape := ⟨2, ![512, 128]⟩
abbrev S128x512 : Shape := ⟨2, ![128, 512]⟩
abbrev S256x256 : Shape := ⟨2, ![256, 256]⟩
abbrev S256 : Shape := ⟨1, ![256]⟩
abbrev S32x128 : Shape := ⟨2, ![32, 128]⟩
abbrev S32x256 : Shape := ⟨2, ![32, 256]⟩
abbrev S32 : Shape := ⟨1, ![32]⟩
abbrev S32x1 : Shape := ⟨2, ![32, 1]⟩
abbrev S1 : Shape := ⟨1, ![1]⟩

abbrev nBuf : Space → Nat
  | .hbm => 17
  | .vmem => 20
  | .smem => 5
  | _ => 0

abbrev bufTy : (tb : Table) → Fin (tcTables nBuf tb) → BufTy
  | .hbm, ⟨0, _⟩ => ⟨S2x896x20x128, .fp8e4m3⟩
  | .hbm, ⟨1, _⟩ => ⟨S2x896x20x128, .fp8e4m3⟩
  | .hbm, ⟨2, _⟩ => ⟨S2x896x20x128, .fp8e4m3⟩
  | .hbm, ⟨3, _⟩ => ⟨S2x20, .f32⟩
  | .hbm, ⟨4, _⟩ => ⟨S2x20, .f32⟩
  | .hbm, ⟨5, _⟩ => ⟨S2x20, .f32⟩
  | .hbm, ⟨6, _⟩ => ⟨S2x896x20x128, .fp8e5m2⟩
  | .hbm, ⟨7, _⟩ => ⟨S2x20, .f32⟩
  | .hbm, ⟨8, _⟩ => ⟨S20x32, .f32⟩
  | .hbm, ⟨9, _⟩ => ⟨S2x20x896x128, .fp8e4m3⟩
  | .hbm, ⟨10, _⟩ => ⟨S2x20x896x128, .fp8e4m3⟩
  | .hbm, ⟨11, _⟩ => ⟨S2x20x896x128, .fp8e4m3⟩
  | .hbm, ⟨12, _⟩ => ⟨S2x20x896x128, .fp8e5m2⟩
  | .hbm, ⟨13, _⟩ => ⟨S2x20x896x128, .bf16⟩
  | .hbm, ⟨14, _⟩ => ⟨S2x20x896x128, .bf16⟩
  | .hbm, ⟨15, _⟩ => ⟨S2x20x896x128, .bf16⟩
  | .hbm, ⟨16, _⟩ => ⟨S20x1x128, .f32⟩
  | .local _ .vmem, ⟨0, _⟩ => ⟨S1x1x896x128, .fp8e4m3⟩
  | .local _ .vmem, ⟨1, _⟩ => ⟨S1x1x896x128, .fp8e4m3⟩
  | .local _ .vmem, ⟨2, _⟩ => ⟨S1x1x896x128, .fp8e4m3⟩
  | .local _ .vmem, ⟨3, _⟩ => ⟨S1x1x896x128, .fp8e4m3⟩
  | .local _ .vmem, ⟨4, _⟩ => ⟨S1x1x896x128, .fp8e4m3⟩
  | .local _ .vmem, ⟨5, _⟩ => ⟨S1x1x896x128, .fp8e4m3⟩
  | .local _ .vmem, ⟨6, _⟩ => ⟨S1x1x896x128, .fp8e5m2⟩
  | .local _ .vmem, ⟨7, _⟩ => ⟨S1x1x896x128, .fp8e5m2⟩
  | .local _ .vmem, ⟨8, _⟩ => ⟨S1x1x896x128, .bf16⟩
  | .local _ .vmem, ⟨9, _⟩ => ⟨S1x1x896x128, .bf16⟩
  | .local _ .vmem, ⟨10, _⟩ => ⟨S1x1x896x128, .bf16⟩
  | .local _ .vmem, ⟨11, _⟩ => ⟨S1x1x896x128, .bf16⟩
  | .local _ .vmem, ⟨12, _⟩ => ⟨S1x1x896x128, .bf16⟩
  | .local _ .vmem, ⟨13, _⟩ => ⟨S1x1x896x128, .bf16⟩
  | .local _ .vmem, ⟨14, _⟩ => ⟨S1x1x128, .f32⟩
  | .local _ .vmem, ⟨15, _⟩ => ⟨S1x1x128, .f32⟩
  | .local _ .vmem, ⟨16, _⟩ => ⟨S128x256, .f32⟩
  | .local _ .vmem, ⟨17, _⟩ => ⟨S896x896, .bf16⟩
  | .local _ .vmem, ⟨18, _⟩ => ⟨S896x896, .bf16⟩
  | .local _ .vmem, ⟨19, _⟩ => ⟨S8x256, .f32⟩
  | .local _ .smem, ⟨0, _⟩ => ⟨S2x20, .f32⟩
  | .local _ .smem, ⟨1, _⟩ => ⟨S2x20, .f32⟩
  | .local _ .smem, ⟨2, _⟩ => ⟨S2x20, .f32⟩
  | .local _ .smem, ⟨3, _⟩ => ⟨S2x20, .f32⟩
  | .local _ .smem, ⟨4, _⟩ => ⟨S20x32, .f32⟩
  | _, _ => ⟨S2x896x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![20, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v1225 : Index := Scalar.indexCast arg0
  let c31 : Index := 31#32
  ![v1225.toNat, 31]
def k0_off2 (i : grid0.Coords) : Fin 2 → Nat :=
  let arg0 : BitVec 32 := BitVec.ofNat 32 (i 0).val
  let v1233 : Index := Scalar.indexCast arg0
  let c0_389 : Index := 0#32
  ![v1233.toNat, 0]
def k0_off3 (i : grid0.Coords) : Fin 2 → Nat :=
  let arg0 : BitVec 32 := BitVec.ofNat 32 (i 0).val
  let v1244 : Index := Scalar.indexCast arg0
  let c1 : Index := 1#32
  ![v1244.toNat, 1]
def k0_off4 (i : grid0.Coords) : Fin 2 → Nat :=
  let arg0 : BitVec 32 := BitVec.ofNat 32 (i 0).val
  let v1255 : Index := Scalar.indexCast arg0
  let c2 : Index := 2#32
  ![v1255.toNat, 2]
def k0_off5 (i : grid0.Coords) : Fin 2 → Nat :=
  let arg0 : BitVec 32 := BitVec.ofNat 32 (i 0).val
  let v1266 : Index := Scalar.indexCast arg0
  let c3 : Index := 3#32
  ![v1266.toNat, 3]
def k0_off6 (i : grid0.Coords) : Fin 2 → Nat :=
  let arg0 : BitVec 32 := BitVec.ofNat 32 (i 0).val
  let v1277 : Index := Scalar.indexCast arg0
  let c4 : Index := 4#32
  ![v1277.toNat, 4]
def k0_off7 (i : grid0.Coords) : Fin 2 → Nat :=
  let arg0 : BitVec 32 := BitVec.ofNat 32 (i 0).val
  let v1288 : Index := Scalar.indexCast arg0
  let c5 : Index := 5#32
  ![v1288.toNat, 5]
def k0_off8 (i : grid0.Coords) : Fin 2 → Nat :=
  let arg0 : BitVec 32 := BitVec.ofNat 32 (i 0).val
  let v1299 : Index := Scalar.indexCast arg0
  let c6 : Index := 6#32
  ![v1299.toNat, 6]
def k0_off9 (i : grid0.Coords) : Fin 2 → Nat :=
  let arg0 : BitVec 32 := BitVec.ofNat 32 (i 0).val
  let v1310 : Index := Scalar.indexCast arg0
  let c7 : Index := 7#32
  ![v1310.toNat, 7]
def k0_off10 (i : grid0.Coords) : Fin 2 → Nat :=
  let arg0 : BitVec 32 := BitVec.ofNat 32 (i 0).val
  let v1321 : Index := Scalar.indexCast arg0
  let c8 : Index := 8#32
  ![v1321.toNat, 8]
def k0_off11 (i : grid0.Coords) : Fin 2 → Nat :=
  let arg0 : BitVec 32 := BitVec.ofNat 32 (i 0).val
  let v1332 : Index := Scalar.indexCast arg0
  let c9 : Index := 9#32
  ![v1332.toNat, 9]
def k0_off12 (i : grid0.Coords) : Fin 2 → Nat :=
  let arg0 : BitVec 32 := BitVec.ofNat 32 (i 0).val
  let v1343 : Index := Scalar.indexCast arg0
  let c10 : Index := 10#32
  ![v1343.toNat, 10]
def k0_off13 (i : grid0.Coords) : Fin 2 → Nat :=
  let arg0 : BitVec 32 := BitVec.ofNat 32 (i 0).val
  let v1354 : Index := Scalar.indexCast arg0
  let c11 : Index := 11#32
  ![v1354.toNat, 11]
def k0_off14 (i : grid0.Coords) : Fin 2 → Nat :=
  let arg0 : BitVec 32 := BitVec.ofNat 32 (i 0).val
  let v1365 : Index := Scalar.indexCast arg0
  let c12 : Index := 12#32
  ![v1365.toNat, 12]
def k0_off15 (i : grid0.Coords) : Fin 2 → Nat :=
  let arg0 : BitVec 32 := BitVec.ofNat 32 (i 0).val
  let v1376 : Index := Scalar.indexCast arg0
  let c13 : Index := 13#32
  ![v1376.toNat, 13]
def k0_off16 (i : grid0.Coords) : Fin 2 → Nat :=
  let arg0 : BitVec 32 := BitVec.ofNat 32 (i 0).val
  let v1387 : Index := Scalar.indexCast arg0
  let c14 : Index := 14#32
  ![v1387.toNat, 14]
def k0_off17 (i : grid0.Coords) : Fin 2 → Nat :=
  let arg0 : BitVec 32 := BitVec.ofNat 32 (i 0).val
  let v1398 : Index := Scalar.indexCast arg0
  let c15 : Index := 15#32
  ![v1398.toNat, 15]
def k0_off18 (i : grid0.Coords) : Fin 2 → Nat :=
  let arg0 : BitVec 32 := BitVec.ofNat 32 (i 0).val
  let v1409 : Index := Scalar.indexCast arg0
  let c16 : Index := 16#32
  ![v1409.toNat, 16]
def k0_off19 (i : grid0.Coords) : Fin 2 → Nat :=
  let arg0 : BitVec 32 := BitVec.ofNat 32 (i 0).val
  let v1420 : Index := Scalar.indexCast arg0
  let c17 : Index := 17#32
  ![v1420.toNat, 17]
def k0_off20 (i : grid0.Coords) : Fin 2 → Nat :=
  let arg0 : BitVec 32 := BitVec.ofNat 32 (i 0).val
  let v1431 : Index := Scalar.indexCast arg0
  let c18 : Index := 18#32
  ![v1431.toNat, 18]
def k0_off21 (i : grid0.Coords) : Fin 2 → Nat :=
  let arg0 : BitVec 32 := BitVec.ofNat 32 (i 0).val
  let v1442 : Index := Scalar.indexCast arg0
  let c19 : Index := 19#32
  ![v1442.toNat, 19]
def k0_off22 (i : grid0.Coords) : Fin 2 → Nat :=
  let arg0 : BitVec 32 := BitVec.ofNat 32 (i 0).val
  let v1453 : Index := Scalar.indexCast arg0
  let c20 : Index := 20#32
  ![v1453.toNat, 20]
def k0_off23 (i : grid0.Coords) : Fin 2 → Nat :=
  let arg0 : BitVec 32 := BitVec.ofNat 32 (i 0).val
  let v1464 : Index := Scalar.indexCast arg0
  let c21 : Index := 21#32
  ![v1464.toNat, 21]
def k0_off24 (i : grid0.Coords) : Fin 2 → Nat :=
  let arg0 : BitVec 32 := BitVec.ofNat 32 (i 0).val
  let v1475 : Index := Scalar.indexCast arg0
  let c22 : Index := 22#32
  ![v1475.toNat, 22]
def k0_off25 (i : grid0.Coords) : Fin 2 → Nat :=
  let arg0 : BitVec 32 := BitVec.ofNat 32 (i 0).val
  let v1486 : Index := Scalar.indexCast arg0
  let c23 : Index := 23#32
  ![v1486.toNat, 23]
def k0_off26 (i : grid0.Coords) : Fin 2 → Nat :=
  let arg0 : BitVec 32 := BitVec.ofNat 32 (i 0).val
  let v1497 : Index := Scalar.indexCast arg0
  let c24 : Index := 24#32
  ![v1497.toNat, 24]
def k0_off27 (i : grid0.Coords) : Fin 2 → Nat :=
  let arg0 : BitVec 32 := BitVec.ofNat 32 (i 0).val
  let v1508 : Index := Scalar.indexCast arg0
  let c25 : Index := 25#32
  ![v1508.toNat, 25]
def k0_off28 (i : grid0.Coords) : Fin 2 → Nat :=
  let arg0 : BitVec 32 := BitVec.ofNat 32 (i 0).val
  let v1519 : Index := Scalar.indexCast arg0
  let c26 : Index := 26#32
  ![v1519.toNat, 26]
def k0_off29 (i : grid0.Coords) : Fin 2 → Nat :=
  let arg0 : BitVec 32 := BitVec.ofNat 32 (i 0).val
  let v1530 : Index := Scalar.indexCast arg0
  let c27 : Index := 27#32
  ![v1530.toNat, 27]
def k0_off30 (i : grid0.Coords) : Fin 2 → Nat :=
  let arg0 : BitVec 32 := BitVec.ofNat 32 (i 0).val
  let v1541 : Index := Scalar.indexCast arg0
  let c28 : Index := 28#32
  ![v1541.toNat, 28]
def k0_off31 (i : grid0.Coords) : Fin 2 → Nat :=
  let arg0 : BitVec 32 := BitVec.ofNat 32 (i 0).val
  let v1552 : Index := Scalar.indexCast arg0
  let c29 : Index := 29#32
  ![v1552.toNat, 29]
def k0_off32 (i : grid0.Coords) : Fin 2 → Nat :=
  let arg0 : BitVec 32 := BitVec.ofNat 32 (i 0).val
  let v1563 : Index := Scalar.indexCast arg0
  let c30 : Index := 30#32
  ![v1563.toNat, 30]
def k0_off33 (i : grid0.Coords) : Fin 2 → Nat :=
  let arg1 : BitVec 32 := BitVec.ofNat 32 (i 1).val
  let v11 : Index := Scalar.indexCast arg1
  let arg0 : BitVec 32 := BitVec.ofNat 32 (i 0).val
  let v12 : Index := Scalar.indexCast arg0
  ![v11.toNat, v12.toNat]
def k0_cond4 (i : grid0.Coords) : BitVec 1 :=
  let arg1 : BitVec 32 := BitVec.ofNat 32 (i 1).val
  let c1_i32 : BitVec 32 := 1#32
  let v1221 : BitVec 1 := Scalar.cmpi .eq arg1 c1_i32
  let v1222 : BitVec 32 := Scalar.extui v1221
  let c0_i32_385 : BitVec 32 := 0#32
  let v1223 : BitVec 1 := Scalar.cmpi .ne v1222 c0_i32_385
  v1223

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S2x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S20x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x896x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x896x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x896x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x896x128 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x896x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x896x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x896x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x896x20x128 : Shape := ⟨4, ![2, 896, 20, 128]⟩
abbrev S2x20 : Shape := ⟨2, ![2, 20]⟩
abbrev S20x32 : Shape := ⟨2, ![20, 32]⟩
abbrev S2x20x896x128 : Shape := ⟨4, ![2, 20, 896, 128]⟩
abbrev S_ : Shape := ⟨0, ![]⟩
abbrev S2x20x1x1 : Shape := ⟨4, ![2, 20, 1, 1]⟩
abbrev S896 : Shape := ⟨1, ![896]⟩
abbrev S896x1 : Shape := ⟨2, ![896, 1]⟩
abbrev S1x896 : Shape := ⟨2, ![1, 896]⟩
abbrev S896x896 : Shape := ⟨2, ![896, 896]⟩
abbrev S2x20x896x896 : Shape := ⟨4, ![2, 20, 896, 896]⟩
abbrev S896x896x1 : Shape := ⟨3, ![896, 896, 1]⟩
abbrev S20x896x896 : Shape := ⟨3, ![20, 896, 896]⟩
abbrev S1x20x896x896 : Shape := ⟨4, ![1, 20, 896, 896]⟩
abbrev S2x20x896 : Shape := ⟨3, ![2, 20, 896]⟩
abbrev S2x20x896x1 : Shape := ⟨4, ![2, 20, 896, 1]⟩
abbrev S32 : Shape := ⟨1, ![32]⟩
abbrev S1x1x32 : Shape := ⟨3, ![1, 1, 32]⟩
abbrev S896x896x32 : Shape := ⟨3, ![896, 896, 32]⟩
abbrev S20x128 : Shape := ⟨2, ![20, 128]⟩
abbrev S20x1x128 : Shape := ⟨3, ![20, 1, 128]⟩

abbrev nBuf : Space → Nat
  | .hbm => 203
  | .vmem => 8
  | .smem => 0
  | _ => 0

abbrev hbmTy0_0 (i : Nat) : BufTy := match i % 128 with
  | 0 => ⟨S2x896x20x128, .fp8e4m3⟩
  | 1 => ⟨S2x896x20x128, .fp8e4m3⟩
  | 2 => ⟨S2x896x20x128, .fp8e4m3⟩
  | 3 => ⟨S2x20, .f32⟩
  | 4 => ⟨S2x20, .f32⟩
  | 5 => ⟨S2x20, .f32⟩
  | 6 => ⟨S2x896x20x128, .fp8e5m2⟩
  | 7 => ⟨S2x20, .f32⟩
  | 8 => ⟨S20x32, .f32⟩
  | 9 => ⟨S2x896x20x128, .bf16⟩
  | 10 => ⟨S2x896x20x128, .bf16⟩
  | 11 => ⟨S2x896x20x128, .bf16⟩
  | 12 => ⟨S2x896x20x128, .bf16⟩
  | 13 => ⟨S2x20x896x128, .bf16⟩
  | 14 => ⟨S2x20x896x128, .bf16⟩
  | 15 => ⟨S2x20x896x128, .bf16⟩
  | 16 => ⟨S2x20x896x128, .bf16⟩
  | 17 => ⟨S_, .f32⟩
  | 18 => ⟨S2x20, .f32⟩
  | 19 => ⟨S2x20, .f32⟩
  | 20 => ⟨S2x20, .f32⟩
  | 21 => ⟨S2x20x1x1, .f32⟩
  | 22 => ⟨S2x20, .f32⟩
  | 23 => ⟨S2x20x1x1, .f32⟩
  | 24 => ⟨S_, .f32⟩
  | 25 => ⟨S2x20, .f32⟩
  | 26 => ⟨S2x20, .f32⟩
  | 27 => ⟨S2x20x1x1, .f32⟩
  | 28 => ⟨S896, .i32⟩
  | 29 => ⟨S896x1, .i32⟩
  | 30 => ⟨S1x896, .i32⟩
  | 31 => ⟨S896x896, .i32⟩
  | 32 => ⟨S896x896, .i32⟩
  | 33 => ⟨S896x896, .i32⟩
  | 34 => ⟨S_, .i32⟩
  | 35 => ⟨S896x896, .i32⟩
  | 36 => ⟨S896x896, .i32⟩
  | 37 => ⟨S_, .i32⟩
  | 38 => ⟨S896x896, .i32⟩
  | 39 => ⟨S896x896, .i1⟩
  | 40 => ⟨S896x896, .i32⟩
  | 41 => ⟨S_, .i32⟩
  | 42 => ⟨S896x896, .i32⟩
  | 43 => ⟨S896x896, .i32⟩
  | 44 => ⟨S_, .i32⟩
  | 45 => ⟨S896x896, .i32⟩
  | 46 => ⟨S896x896, .i1⟩
  | 47 => ⟨S896x896, .i32⟩
  | 48 => ⟨S896x896, .i32⟩
  | 49 => ⟨S_, .i32⟩
  | 50 => ⟨S896x896, .i32⟩
  | 51 => ⟨S896x896, .i1⟩
  | 52 => ⟨S896x896, .i32⟩
  | 53 => ⟨S896x896, .i32⟩
  | 54 => ⟨S_, .i32⟩
  | 55 => ⟨S896x896, .i32⟩
  | 56 => ⟨S896x896, .i1⟩
  | 57 => ⟨S896x896, .i32⟩
  | 58 => ⟨S896x896, .i32⟩
  | 59 => ⟨S_, .i32⟩
  | 60 => ⟨S896x896, .i32⟩
  | 61 => ⟨S896x896, .i1⟩
  | 62 => ⟨S896x896, .i32⟩
  | 63 => ⟨S896x896, .i32⟩
  | 64 => ⟨S_, .i32⟩
  | 65 => ⟨S896x896, .i32⟩
  | 66 => ⟨S896x896, .i1⟩
  | 67 => ⟨S896x896, .i32⟩
  | 68 => ⟨S896x896, .i32⟩
  | 69 => ⟨S_, .i32⟩
  | 70 => ⟨S896x896, .i32⟩
  | 71 => ⟨S896x896, .i1⟩
  | 72 => ⟨S896x896, .i32⟩
  | 73 => ⟨S896x896, .i32⟩
  | 74 => ⟨S_, .i32⟩
  | 75 => ⟨S896x896, .i32⟩
  | 76 => ⟨S896x896, .i1⟩
  | 77 => ⟨S896x896, .i32⟩
  | 78 => ⟨S896x896, .i32⟩
  | 79 => ⟨S_, .i32⟩
  | 80 => ⟨S896x896, .i32⟩
  | 81 => ⟨S896x896, .i1⟩
  | 82 => ⟨S896x896, .i32⟩
  | 83 => ⟨S896x896, .i32⟩
  | 84 => ⟨S_, .i32⟩
  | 85 => ⟨S896x896, .i32⟩
  | 86 => ⟨S896x896, .i1⟩
  | 87 => ⟨S896x896, .i32⟩
  | 88 => ⟨S896x896, .i32⟩
  | 89 => ⟨S_, .i32⟩
  | 90 => ⟨S896x896, .i32⟩
  | 91 => ⟨S896x896, .i1⟩
  | 92 => ⟨S896x896, .i32⟩
  | 93 => ⟨S896x896, .i32⟩
  | 94 => ⟨S_, .i32⟩
  | 95 => ⟨S896x896, .i32⟩
  | 96 => ⟨S896x896, .i1⟩
  | 97 => ⟨S896x896, .i32⟩
  | 98 => ⟨S896x896, .i32⟩
  | 99 => ⟨S_, .i32⟩
  | 100 => ⟨S896x896, .i32⟩
  | 101 => ⟨S896x896, .i1⟩
  | 102 => ⟨S896x896, .i32⟩
  | 103 => ⟨S896x896, .i32⟩
  | 104 => ⟨S_, .i32⟩
  | 105 => ⟨S896x896, .i32⟩
  | 106 => ⟨S896x896, .i1⟩
  | 107 => ⟨S896x896, .i32⟩
  | 108 => ⟨S896x896, .i32⟩
  | 109 => ⟨S_, .i32⟩
  | 110 => ⟨S896x896, .i32⟩
  | 111 => ⟨S896x896, .i1⟩
  | 112 => ⟨S896x896, .i32⟩
  | 113 => ⟨S896x896, .i32⟩
  | 114 => ⟨S_, .i32⟩
  | 115 => ⟨S896x896, .i32⟩
  | 116 => ⟨S896x896, .i32⟩
  | 117 => ⟨S_, .i32⟩
  | 118 => ⟨S896x896, .i32⟩
  | 119 => ⟨S896x896, .i1⟩
  | 120 => ⟨S896x896, .i32⟩
  | 121 => ⟨S1x896, .i32⟩
  | 122 => ⟨S896x1, .i32⟩
  | 123 => ⟨S896x896, .i32⟩
  | 124 => ⟨S896x896, .i32⟩
  | 125 => ⟨S896x896, .i1⟩
  | 126 => ⟨S2x20x896x896, .f32⟩
  | 127 => ⟨S2x20x896x896, .f32⟩
  | _ => ⟨S2x896x20x128, .fp8e4m3⟩

abbrev hbmTy0_1 (i : Nat) : BufTy := match i % 128 with
  | 0 => ⟨S2x20x896x896, .f32⟩
  | 1 => ⟨S_, .i32⟩
  | 2 => ⟨S896x896, .i32⟩
  | 3 => ⟨S896x896, .i1⟩
  | 4 => ⟨S_, .i32⟩
  | 5 => ⟨S896x896, .i32⟩
  | 6 => ⟨S896x896, .i32⟩
  | 7 => ⟨S896x896, .i32⟩
  | 8 => ⟨S896x896x1, .i32⟩
  | 9 => ⟨S20x896x896, .f32⟩
  | 10 => ⟨S1x20x896x896, .f32⟩
  | 11 => ⟨S2x20x896x896, .f32⟩
  | 12 => ⟨S2x20x896x896, .f32⟩
  | 13 => ⟨S_, .f32⟩
  | 14 => ⟨S_, .f32⟩
  | 15 => ⟨S2x20x896x896, .i1⟩
  | 16 => ⟨S2x20x896x896, .f32⟩
  | 17 => ⟨S2x20x896x896, .f32⟩
  | 18 => ⟨S_, .f32⟩
  | 19 => ⟨S2x20x896, .f32⟩
  | 20 => ⟨S2x20x896x1, .f32⟩
  | 21 => ⟨S2x20x896x896, .f32⟩
  | 22 => ⟨S2x20x896x896, .f32⟩
  | 23 => ⟨S2x20x896x896, .f32⟩
  | 24 => ⟨S_, .f32⟩
  | 25 => ⟨S2x20x896, .f32⟩
  | 26 => ⟨S2x20x896x1, .f32⟩
  | 27 => ⟨S_, .f32⟩
  | 28 => ⟨S2x20x896x1, .f32⟩
  | 29 => ⟨S2x20x896x1, .f32⟩
  | 30 => ⟨S2x20x896x896, .f32⟩
  | 31 => ⟨S2x20x896x896, .f32⟩
  | 32 => ⟨S2x20x896x896, .f32⟩
  | 33 => ⟨S2x20x896x896, .f32⟩
  | 34 => ⟨S2x20x896x896, .f32⟩
  | 35 => ⟨S2x20x896x896, .f32⟩
  | 36 => ⟨S_, .f32⟩
  | 37 => ⟨S2x20x896, .f32⟩
  | 38 => ⟨S2x20x896x1, .f32⟩
  | 39 => ⟨S2x20x896x896, .f32⟩
  | 40 => ⟨S2x20x896x896, .f32⟩
  | 41 => ⟨S2x20x896x896, .f32⟩
  | 42 => ⟨S2x20x896x896, .bf16⟩
  | 43 => ⟨S2x20x896x896, .bf16⟩
  | 44 => ⟨S2x20x896x128, .f32⟩
  | 45 => ⟨S2x20x896x128, .f32⟩
  | 46 => ⟨S2x20x896x128, .f32⟩
  | 47 => ⟨S2x20x896x128, .f32⟩
  | 48 => ⟨S2x20x896x128, .f32⟩
  | 49 => ⟨S2x20x896x128, .bf16⟩
  | 50 => ⟨S_, .f32⟩
  | 51 => ⟨S20x896x896, .f32⟩
  | 52 => ⟨S896x896x1, .i32⟩
  | 53 => ⟨S32, .i32⟩
  | 54 => ⟨S1x1x32, .i32⟩
  | 55 => ⟨S896x896x32, .i32⟩
  | 56 => ⟨S896x896x32, .i32⟩
  | 57 => ⟨S896x896x32, .i1⟩
  | 58 => ⟨S896x896x32, .f32⟩
  | 59 => ⟨S20x32, .f32⟩
  | 60 => ⟨S_, .f32⟩
  | 61 => ⟨S2x20, .f32⟩
  | 62 => ⟨S2x20, .f32⟩
  | 63 => ⟨S2x20x1x1, .f32⟩
  | 64 => ⟨S2x20x896x128, .f32⟩
  | 65 => ⟨S2x20x896x128, .f32⟩
  | 66 => ⟨S2x20x896x128, .bf16⟩
  | 67 => ⟨S2x20x1x1, .f32⟩
  | 68 => ⟨S2x20x896x128, .f32⟩
  | 69 => ⟨S2x20x896x128, .f32⟩
  | 70 => ⟨S2x20x896x128, .bf16⟩
  | 71 => ⟨S_, .i32⟩
  | 72 => ⟨S_, .f32⟩
  | 73 => ⟨S20x128, .f32⟩
  | 74 => ⟨S20x1x128, .f32⟩
  | _ => ⟨S2x896x20x128, .fp8e4m3⟩

abbrev hbmTy (i : Nat) : BufTy := match i / 128 with
  | 0 => hbmTy0_0 i
  | 1 => hbmTy0_1 i
  | _ => ⟨S2x896x20x128, .fp8e4m3⟩

abbrev bufTy : (tb : Table) → Fin (tcTables nBuf tb) → BufTy
  | .hbm, ⟨i, _⟩ => hbmTy i
  | .local _ .vmem, ⟨0, _⟩ => ⟨S2x896x20x128, .fp8e4m3⟩
  | .local _ .vmem, ⟨1, _⟩ => ⟨S2x896x20x128, .fp8e4m3⟩
  | .local _ .vmem, ⟨2, _⟩ => ⟨S2x896x20x128, .fp8e4m3⟩
  | .local _ .vmem, ⟨3, _⟩ => ⟨S2x896x20x128, .fp8e5m2⟩
  | .local _ .vmem, ⟨4, _⟩ => ⟨S2x896x20x128, .bf16⟩
  | .local _ .vmem, ⟨5, _⟩ => ⟨S2x896x20x128, .bf16⟩
  | .local _ .vmem, ⟨6, _⟩ => ⟨S2x896x20x128, .bf16⟩
  | .local _ .vmem, ⟨7, _⟩ => ⟨S2x896x20x128, .bf16⟩
  | _, _ => ⟨S2x896x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_17 : Ref sig .tc := ⟨.hbm, 114, rfl⟩
abbrev main_v83 : Ref sig .tc := ⟨.hbm, 115, rfl⟩
abbrev main_v84 : Ref sig .tc := ⟨.hbm, 116, rfl⟩
abbrev main_c_18 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_19 : Ref sig .tc := ⟨.hbm, 129, rfl⟩
abbrev main_v96 : Ref sig .tc := ⟨.hbm, 130, rfl⟩
abbrev main_v97 : Ref sig .tc := ⟨.hbm, 131, rfl⟩
abbrev main_c_20 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_21 : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_v106 : Ref sig .tc := ⟨.hbm, 145, rfl⟩
abbrev main_cst_22 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_23 : Ref sig .tc := ⟨.hbm, 152, rfl⟩
abbrev main_v112 : Ref sig .tc := ⟨.hbm, 153, rfl⟩
abbrev main_v113 : Ref sig .tc := ⟨.hbm, 154, rfl⟩
abbrev main_cst_24 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_25 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_26 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_27 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_c_28 : Ref sig .tc := ⟨.hbm, 199, rfl⟩
abbrev main_call2_v0 : Ref sig .tc := ⟨.hbm, 200, rfl⟩
abbrev main_v154 : Ref sig .tc := ⟨.hbm, 201, rfl⟩
abbrev main_v155 : Ref sig .tc := ⟨.hbm, 202, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x896x20x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x20x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x20x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x20x128 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x20x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x896x20x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x20x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x896x20x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Entry.lean ====
/-
  The blocks a grid point reads, as places of the argument arrays: point `2 h + b` reads head `h` of batch `b`.
-/
module

public import proofs.«01_k».proof.Proof.Gen.KernelIdeal.Frame
public import Idealize.ShloMosaic.Lib.ValueIdxCore
import Idealize.ShloMosaic.Lib.Pipeline.ValueKit.Point

@[expose] public section

set_option maxRecDepth 16384

noncomputable section

namespace Cert.KernelIdeal.Gen.Entry

open Idealize.ShloMosaic Idealize.ShloMosaic.TcCoe Idealize.SL.Sem Cert.KernelIdeal Cert.KernelIdeal.Gen

variable (m : (ℓ : Loc nD τ sig) → Buf (Elt Ideal) ℓ)

/-- A point's head. -/
theorem head : ∀ t : Fin cfg0.N, (grid0.coords t 0).val = t.val / 2 :=
  (by decide +kernel : ∀ t : Fin grid0.N, (grid0.coords t 0).val = t.val / 2)
/-- A point's batch. -/
theorem batch : ∀ t : Fin cfg0.N, (grid0.coords t 1).val = t.val % 2 :=
  (by decide +kernel : ∀ t : Fin grid0.N, (grid0.coords t 1).val = t.val % 2)

/-- The scalar windows are whole arrays. -/
theorem idxS : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)
/-- The code windows are one head of one batch. -/
theorem idxB : ∀ t : Fin cfg0.N, win0_5.index t = ![t.val % 2, t.val / 2, 0, 0] ∧ win0_6.index t = ![t.val % 2, t.val / 2, 0, 0]
    ∧ win0_7.index t = ![t.val % 2, t.val / 2, 0, 0] ∧ win0_8.index t = ![t.val % 2, t.val / 2, 0, 0] :=
  (by decide +kernel : ∀ t : Fin grid0.N, _)

/-- The queries' scales. -/
theorem e0 (c : Dev nD) (t : Fin cfg0.N) : iblk m c 0 t = m ((c : Thread nD τ).loc main_arg3) := by
  blk_ext! [iblk, V, idxS t]
/-- The keys' scales. -/
theorem e1 (c : Dev nD) (t : Fin cfg0.N) : iblk m c 1 t = m ((c : Thread nD τ).loc main_arg4) := by
  blk_ext! [iblk, V, idxS t]
/-- The values' scales. -/
theorem e2 (c : Dev nD) (t : Fin cfg0.N) : iblk m c 2 t = m ((c : Thread nD τ).loc main_arg5) := by
  blk_ext! [iblk, V, idxS t]
/-- The output gradients' scales. -/
theorem e3 (c : Dev nD) (t : Fin cfg0.N) : iblk m c 3 t = m ((c : Thread nD τ).loc main_arg7) := by
  blk_ext! [iblk, V, idxS t]
/-- The bias table. -/
theorem e4 (c : Dev nD) (t : Fin cfg0.N) : iblk m c 4 t = m ((c : Thread nD τ).loc main_arg8) := by
  blk_ext! [iblk, V, idxS t]

/-- The queries' codes. -/
theorem e5 (c : Dev nD) (t : Fin cfg0.N) (b : Fin 2) (h : Fin 20) (hb : b.val = t.val % 2) (hh : h.val = t.val / 2) (a : Fin 896) (d : Fin 128) :
    iblk m c 5 t (ValueIdx.ix4 0 0 a d) = m ((c : Thread nD τ).loc main_arg0) (ValueIdx.ix4 b a h d) := by
  blk_ext! [iblk, V, idxB t]
  · exact hb.symm
  · exact hh.symm

/-- The keys' codes. -/
theorem e6 (c : Dev nD) (t : Fin cfg0.N) (b : Fin 2) (h : Fin 20) (hb : b.val = t.val % 2) (hh : h.val = t.val / 2) (a : Fin 896) (d : Fin 128) :
    iblk m c 6 t (ValueIdx.ix4 0 0 a d) = m ((c : Thread nD τ).loc main_arg1) (ValueIdx.ix4 b a h d) := by
  blk_ext! [iblk, V, idxB t]
  · exact hb.symm
  · exact hh.symm

/-- The values' codes. -/
theorem e7 (c : Dev nD) (t : Fin cfg0.N) (b : Fin 2) (h : Fin 20) (hb : b.val = t.val % 2) (hh : h.val = t.val / 2) (a : Fin 896) (d : Fin 128) :
    iblk m c 7 t (ValueIdx.ix4 0 0 a d) = m ((c : Thread nD τ).loc main_arg2) (ValueIdx.ix4 b a h d) := by
  blk_ext! [iblk, V, idxB t]
  · exact hb.symm
  · exact hh.symm

/-- The output gradients' codes. -/
theorem e8 (c : Dev nD) (t : Fin cfg0.N) (b : Fin 2) (h : Fin 20) (hb : b.val = t.val % 2) (hh : h.val = t.val / 2) (a : Fin 896) (d : Fin 128) :
    iblk m c 8 t (ValueIdx.ix4 0 0 a d) = m ((c : Thread nD τ).loc main_arg6) (ValueIdx.ix4 b a h d) := by
  blk_ext! [iblk, V, idxB t]
  · exact hb.symm
  · exact hh.symm

end Cert.KernelIdeal.Gen.Entry
-- ==== Proof.Tiles.lean ====
/-
  The vocabulary the kernel's payloads are read in, and one lemma for each operation a payload applies.

  A tile is a rectangle cut from one global matrix `G : ℕ → ℕ → EReal`: `Sub X G r c` says that the vector `X` holds the
  entries of `G` from row `r` and column `c` on. Every operation of the body carries such a description of its operands
  to one of its result; the module of each payload composes these lemmas.
-/
module

public import Idealize.ShloMosaic.PureOps.Ideal.Laws
public import Idealize.ShloMosaic.Lib.ValueIdx
public import Idealize.ShloMosaic.Lib.MatmulPlain
public import Idealize.ShloMosaic.Lib.Pipeline.Value

@[expose] public section

noncomputable section

namespace Cert.KernelIdeal.Tiles

open Idealize.ShloMosaic Idealize.ShloMosaic.ValueIdx
open scoped BigOperators

/-- `X` is the tile of the matrix `G` whose first entry is at row `r`, column `c`. -/
def Sub {m n : ℕ} (X : (⟨2, ![m, n]⟩ : Shape).Idx → EReal) (G : ℕ → ℕ → EReal) (r c : ℕ) : Prop :=
  ∀ (a : Fin m) (b : Fin n), X (ix2 a b) = G (r + a) (c + b)

/-- `X`, a tile's rows split into groups of `8`, is the tile of `G` from row `r`, column `c`. -/
def Sub3 {l m n : ℕ} (X : (⟨3, ![l, m, n]⟩ : Shape).Idx → EReal) (G : ℕ → ℕ → EReal) (r c : ℕ) : Prop :=
  ∀ (i : Fin l) (a : Fin m) (b : Fin n), X (ix3 i a b) = G (r + (m * i + a)) (c + b)

/-- `X` is the stretch of the vector `g` from position `c`. -/
def Sub1 {n : ℕ} (X : (⟨1, ![n]⟩ : Shape).Idx → EReal) (g : ℕ → EReal) (c : ℕ) : Prop :=
  ∀ (b : Fin n), X (ix1 b) = g (c + b)

/-- `X`, a block with two leading unit axes, is the tile of `G` from row `r`, column `c`. -/
def Sub4 {m n : ℕ} (X : (⟨4, ![1, 1, m, n]⟩ : Shape).Idx → EReal) (G : ℕ → ℕ → EReal) (r c : ℕ) : Prop :=
  ∀ (a : Fin m) (b : Fin n), X (ix4 0 0 a b) = G (r + a) (c + b)

section
variable {m n : ℕ} {G H : ℕ → ℕ → EReal} {r c : ℕ}

/-- A tile's matrix may be replaced by one that agrees with it on the tile. -/
theorem Sub.congr {X : (⟨2, ![m, n]⟩ : Shape).Idx → EReal} (h : Sub X G r c)
    (e : ∀ a b, a < m → b < n → G (r + a) (c + b) = H (r + a) (c + b)) : Sub X H r c :=
  fun a b => (h a b).trans (e a b a.isLt b.isLt)

/-- The pointwise sum of two tiles. -/
theorem add {X Y : (⟨2, ![m, n]⟩ : Shape).Idx → EReal} (hX : Sub X G r c) (hY : Sub Y H r c) :
    Sub (addf (F := Ideal) (φ := .f32) X Y) (fun k q => G k q + H k q) r c :=
  fun a b => congrArg₂ (· + ·) (hX a b) (hY a b)

/-- The pointwise difference of two tiles. -/
theorem sub {X Y : (⟨2, ![m, n]⟩ : Shape).Idx → EReal} (hX : Sub X G r c) (hY : Sub Y H r c) :
    Sub (subf (F := Ideal) (φ := .f32) X Y) (fun k q => G k q - H k q) r c :=
  fun a b => congrArg₂ (· - ·) (hX a b) (hY a b)

/-- The pointwise product of two tiles. -/
theorem mul {X Y : (⟨2, ![m, n]⟩ : Shape).Idx → EReal} (hX : Sub X G r c) (hY : Sub Y H r c) :
    Sub (mulf (F := Ideal) (φ := .f32) X Y) (fun k q => G k q * H k q) r c :=
  fun a b => congrArg₂ (· * ·) (hX a b) (hY a b)

/-- The pointwise quotient of two tiles. -/
theorem div {X Y : (⟨2, ![m, n]⟩ : Shape).Idx → EReal} (hX : Sub X G r c) (hY : Sub Y H r c) :
    Sub (divf (F := Ideal) (φ := .f32) X Y) (fun k q => Ideal.div (G k q) (H k q)) r c :=
  fun a b => congrArg₂ Ideal.div (hX a b) (hY a b)

/-- The pointwise maximum of two tiles. -/
theorem max' {X Y : (⟨2, ![m, n]⟩ : Shape).Idx → EReal} (hX : Sub X G r c) (hY : Sub Y H r c) :
    Sub (maximumf (F := Ideal) (φ := .f32) X Y) (fun k q => max (G k q) (H k q)) r c :=
  fun a b => congrArg₂ max (hX a b) (hY a b)

/-- The pointwise power of two. -/
theorem exp2' {X : (⟨2, ![m, n]⟩ : Shape).Idx → EReal} (hX : Sub X G r c) :
    Sub (exp2 (F := Ideal) (φ := .f32) X) (fun k q => Ideal.exp2 (G k q)) r c :=
  fun a b => congrArg Ideal.exp2 (hX a b)

/-- A scalar broadcast is the tile of a constant matrix. -/
theorem splat (x : EReal) (r c : ℕ) : Sub (m := m) (n := n) (broadcast ⟨2, ![m, n]⟩ x) (fun _ _ => x) r c :=
  fun _ _ => rfl

/-- A constant is the tile of a constant matrix. -/
theorem cst (x : BitVec 32) (r c : ℕ) :
    Sub (m := m) (n := n) (constant (F := Ideal) ⟨2, ![m, n]⟩ .f32 x) (fun _ _ => Ideal.ofBits .f32 x) r c :=
  fun _ _ => rfl

/-- The zero constant is the tile of the zero matrix. -/
theorem zero (r c : ℕ) :
    Sub (m := m) (n := n) (constant (F := Ideal) ⟨2, ![m, n]⟩ .f32 0x00000000#32) (fun _ _ => 0) r c :=
  fun _ _ => Ideal.ofBits_zero_f32

/-- A smaller tile cut from a tile. -/
theorem slice {m' n' : ℕ} {X : (⟨2, ![m, n]⟩ : Shape).Idx → EReal} (hX : Sub X G r c) (i j : ℕ)
    (h : (⟨2, ![m, n]⟩ : Shape).Slices ![i, j] ⟨2, ![m', n']⟩) :
    Sub (extractStridedSlice ⟨2, ![m', n']⟩ ![i, j] X h) G (r + i) (c + j) := by
  intro a b
  have h0 : i + m' ≤ m := h.2 0
  have h1 : j + n' ≤ n := h.2 1
  rw [extractStridedSlice_apply _ _ _ (ix2 a b) (ix2 ⟨i + a, by omega⟩ ⟨j + b, by omega⟩)
    (fun | ⟨0, _⟩ => rfl | ⟨1, _⟩ => rfl), hX]
  simp only [Nat.add_assoc]

/-- A tile transposed is the tile of the transposed matrix. -/
theorem tr {X : (⟨2, ![m, n]⟩ : Shape).Idx → EReal} (hX : Sub X G r c)
    (h : (⟨2, ![m, n]⟩ : Shape).Transposes [1, 0] ⟨2, ![n, m]⟩) :
    Sub (transpose ⟨2, ![n, m]⟩ [1, 0] X h) (fun k q => G q k) c r := by
  intro a b
  rw [transpose_apply _ _ _ (ix2 a b) (ix2 b a) (fun | ⟨0, _⟩ => rfl | ⟨1, _⟩ => rfl), hX]

/-- The rows of a tile split into groups. -/
theorem split3 {l k : ℕ} {X : (⟨2, ![m, n]⟩ : Shape).Idx → EReal} (hX : Sub X G r c) (hm : m = l * k)
    (h : (⟨2, ![m, n]⟩ : Shape).ShapeCasts ⟨3, ![l, k, n]⟩) :
    Sub3 (shapeCast ⟨3, ![l, k, n]⟩ X h) G r c := by
  intro i a b
  have hlt : k * i + a < m := by
    subst hm
    calc k * i + a < k * i + k := by have := a.isLt; omega
      _ = (i + 1) * k := by ring
      _ ≤ l * k := Nat.mul_le_mul_right _ i.isLt
  rw [shapeCast_apply _ _ (ix3 i a b) (ix2 ⟨k * i + a, hlt⟩ b), hX]
  rw [Shape.rowMajor_val_two, Shape.rowMajor_val_three]
  show (k * i.val + a.val) * n + b.val = (i.val * k + a.val) * n + b.val
  ring

/-- A reshape of a tile to its own shape. -/
theorem same {X : (⟨2, ![m, n]⟩ : Shape).Idx → EReal} (hX : Sub X G r c)
    (h : (⟨2, ![m, n]⟩ : Shape).ShapeCasts ⟨2, ![m, n]⟩) : Sub (shapeCast ⟨2, ![m, n]⟩ X h) G r c := by
  rw [shapeCast_self]; exact hX

/-- A reshape that adds two leading unit axes. -/
theorem toBlock {X : (⟨2, ![m, n]⟩ : Shape).Idx → EReal} (hX : Sub X G r c)
    (h : (⟨2, ![m, n]⟩ : Shape).ShapeCasts ⟨4, ![1, 1, m, n]⟩) : Sub4 (shapeCast ⟨4, ![1, 1, m, n]⟩ X h) G r c := by
  intro a b
  rw [shapeCast_apply _ _ (ix4 0 0 a b) (ix2 a b), hX]
  rw [Shape.rowMajor_val_two, Shape.rowMajor_val_four]
  show a.val * n + b.val = ((0 * 1 + 0) * m + a.val) * n + b.val
  ring

/-- A reshape that drops two leading unit axes. -/
theorem ofBlock {X : (⟨4, ![1, 1, m, n]⟩ : Shape).Idx → EReal} (hX : Sub4 X G r c)
    (h : (⟨4, ![1, 1, m, n]⟩ : Shape).ShapeCasts ⟨2, ![m, n]⟩) : Sub (shapeCast ⟨2, ![m, n]⟩ X h) G r c := by
  intro a b
  rw [shapeCast_apply _ _ (ix2 a b) (ix4 0 0 a b), hX]
  rw [Shape.rowMajor_val_two, Shape.rowMajor_val_four]
  show ((0 * 1 + 0) * m + a.val) * n + b.val = a.val * n + b.val
  ring

/-- A vector viewed as one row. -/
theorem row1 {X : (⟨1, ![n]⟩ : Shape).Idx → EReal} {g : ℕ → EReal} (hX : Sub1 X g c)
    (h : (⟨1, ![n]⟩ : Shape).ShapeCasts ⟨2, ![1, n]⟩) : Sub (shapeCast ⟨2, ![1, n]⟩ X h) (fun _ q => g q) 0 c := by
  intro a b
  rw [shapeCast_apply _ _ (ix2 a b) (ix1 b), hX]
  rw [Shape.rowMajor_val_two, Shape.rowMajor_val_one]
  show b.val = a.val * n + b.val
  have := a.isLt
  have h0 : a.val = 0 := by omega
  rw [h0]; ring

/-- One row repeated down a tile. -/
theorem spread {X : (⟨2, ![1, n]⟩ : Shape).Idx → EReal} {g : ℕ → EReal} (hX : Sub X (fun _ q => g q) 0 c) (hn : n ≠ 1)
    (h : (⟨2, ![1, n]⟩ : Shape).Broadcasts ⟨2, ![m, n]⟩) (r : ℕ) :
    Sub (broadcastTo ⟨2, ![m, n]⟩ X h) (fun _ q => g q) r c := by
  intro a b
  rw [broadcastTo_apply _ _ (ix2 a b) (ix2 0 b)
    (fun | ⟨0, _⟩ => (if_pos rfl).symm | ⟨1, _⟩ => (if_neg hn).symm), hX]

end

/-- A fold of `max` from the least value is the supremum. -/
theorem fold_max_eq_sup {ι : Type} (s : Finset ι) (f : ι → EReal) : s.fold max ⊥ f = s.sup f := rfl

/-- The bit pattern the maxima start from is the least extended real. -/
theorem ofBits_neg_inf : Ideal.ofBits .f32 0xFF800000#32 = ⊥ := by simp [Ideal.ofBits, Ideal.ieee]

/-- A `Fin`-indexed supremum as one over a range of naturals. -/
theorem sup_fin_eq_range (n : ℕ) (f : ℕ → EReal) : (Finset.univ : Finset (Fin n)).sup (fun k => f k.val) = (Finset.range n).sup f := by
  apply le_antisymm
  · exact Finset.sup_le fun k _ => Finset.le_sup (f := f) (Finset.mem_range.2 k.isLt)
  · exact Finset.sup_le fun k hk => Finset.le_sup (f := fun k : Fin n => f k.val) (b := ⟨k, Finset.mem_range.1 hk⟩) (Finset.mem_univ _)

/-- The part of a column's maximum at row residue `a` modulo `8`, over the first `t` row tiles. -/
def PMax (U : ℕ → ℕ → EReal) (t : ℕ) (a q : ℕ) : EReal := (Finset.range (16 * t)).sup fun j => U (8 * j + a) q
/-- The part of a column's sum at row residue `a` modulo `8`, over the first `t` row tiles. -/
def PSum (U : ℕ → ℕ → EReal) (t : ℕ) (a q : ℕ) : EReal := ∑ j ∈ Finset.range (16 * t), U (8 * j + a) q
/-- A column's maximum over its first `n` rows. -/
def CMax (U : ℕ → ℕ → EReal) (n : ℕ) (q : ℕ) : EReal := (Finset.range n).sup fun k => U k q
/-- A column's sum over its first `n` rows. -/
def CSum (U : ℕ → ℕ → EReal) (n : ℕ) (q : ℕ) : EReal := ∑ k ∈ Finset.range n, U k q

/-- A range of `16 (t + 1)` as the first `16 t` and the next sixteen: the maximum. -/
theorem PMax_succ (U : ℕ → ℕ → EReal) (t a q : ℕ) :
    max (PMax U t a q) ((Finset.range 16).sup fun i => U (128 * t + (8 * i + a)) q) = PMax U (t + 1) a q := by
  unfold PMax
  apply le_antisymm
  · refine max_le (Finset.sup_mono (Finset.range_mono (by omega))) (Finset.sup_le fun i hi => ?_)
    have hi := Finset.mem_range.1 hi
    have := Finset.le_sup (f := fun j => U (8 * j + a) q) (b := 16 * t + i) (s := Finset.range (16 * (t + 1))) (Finset.mem_range.2 (by omega))
    rwa [show 8 * (16 * t + i) + a = 128 * t + (8 * i + a) by ring] at this
  · refine Finset.sup_le fun j hj => ?_
    have hj := Finset.mem_range.1 hj
    by_cases h : j < 16 * t
    · exact le_max_of_le_left (Finset.le_sup (f := fun j => U (8 * j + a) q) (Finset.mem_range.2 h))
    · refine le_max_of_le_right ?_
      have := Finset.le_sup (f := fun i => U (128 * t + (8 * i + a)) q) (b := j - 16 * t) (s := Finset.range 16) (Finset.mem_range.2 (by omega))
      rwa [show 128 * t + (8 * (j - 16 * t) + a) = 8 * j + a by omega] at this

/-- The same for the sum. -/
theorem PSum_succ (U : ℕ → ℕ → EReal) (t a q : ℕ) :
    PSum U t a q + (∑ i ∈ Finset.range 16, U (128 * t + (8 * i + a)) q) = PSum U (t + 1) a q := by
  unfold PSum
  rw [show 16 * (t + 1) = 16 * t + 16 by ring, Finset.sum_range_add]
  refine congrArg _ (Finset.sum_congr rfl fun i _ => ?_)
  rw [show 8 * (16 * t + i) + a = 128 * t + (8 * i + a) by ring]

/-- The maximum over one tile's row groups. -/
def TMax (U : ℕ → ℕ → EReal) (r : ℕ) (a q : ℕ) : EReal := (Finset.range 16).sup fun i => U (r + (8 * i + a)) q
/-- The sum over one tile's row groups. -/
def TSum (U : ℕ → ℕ → EReal) (r : ℕ) (a q : ℕ) : EReal := ∑ i ∈ Finset.range 16, U (r + (8 * i + a)) q

/-- The maximum over the leading axis of a tile whose rows are split into sixteen groups of eight. -/
theorem groupMax {n : ℕ} {X : (⟨3, ![16, 8, n]⟩ : Shape).Idx → EReal} {U : ℕ → ℕ → EReal} {r c : ℕ} (hX : Sub3 X U r c)
    (h : (⟨3, ![16, 8, n]⟩ : Shape).Reduces [0] ⟨2, ![8, n]⟩) (hφ : FKind.Formats .f32)
    (hacc : (0xFF800000#32 : BitVec 32) = FKind.maximumf.neutral .f32 hφ) :
    Sub (multiReduction (F := Ideal) (φ := .f32) .maximumf [0] ⟨2, ![8, n]⟩ X 0xFF800000#32 h hφ hacc) (TMax U r) 0 c := by
  intro a b
  rw [Ideal.multiReduction_maximumf_single]
  show (Finset.univ : Finset (Fin 16)).fold max (Ideal.ofBits .f32 0xFF800000#32) _ = _
  rw [ofBits_neg_inf]
  refine (fold_max_eq_sup _ _).trans ?_
  unfold TMax
  rw [← sup_fin_eq_range]
  refine Finset.sup_congr rfl fun (i : Fin 16) _ => ?_
  have e : h.lift (ix2 a b) i = ix3 i a b := by
    funext d; apply Fin.ext
    match d with
    | ⟨0, _⟩ => rfl
    | ⟨1, _⟩ => rfl
    | ⟨2, _⟩ => rfl
  show X (h.lift (ix2 a b) i) = _
  rw [e, hX, Nat.zero_add]

/-- The sum over the leading axis of a tile whose rows are split into sixteen groups of eight. -/
theorem groupSum {n : ℕ} {X : (⟨3, ![16, 8, n]⟩ : Shape).Idx → EReal} {U : ℕ → ℕ → EReal} {r c : ℕ} (hX : Sub3 X U r c)
    (h : (⟨3, ![16, 8, n]⟩ : Shape).Reduces [0] ⟨2, ![8, n]⟩) (hφ : FKind.Formats .f32)
    (hacc : (0x00000000#32 : BitVec 32) = FKind.add.neutral .f32 hφ) :
    Sub (multiReduction (F := Ideal) (φ := .f32) .add [0] ⟨2, ![8, n]⟩ X 0x00000000#32 h hφ hacc) (TSum U r) 0 c := by
  intro a b
  rw [Ideal.multiReduction_add_single]
  unfold TSum
  rw [← Fin.sum_univ_eq_sum_range (fun i => U (r + (8 * i + (0 + a))) (c + b)) 16]
  refine Finset.sum_congr rfl fun (i : Fin 16) _ => ?_
  have e : h.lift (ix2 a b) i = ix3 i a b := by
    funext d; apply Fin.ext
    match d with
    | ⟨0, _⟩ => rfl
    | ⟨1, _⟩ => rfl
    | ⟨2, _⟩ => rfl
  rw [e, hX, Nat.zero_add]

/-- One tile's part is the part over the first tile. -/
theorem TMax_zero (U : ℕ → ℕ → EReal) (a q : ℕ) : TMax U 0 a q = PMax U 1 a q := by
  unfold TMax PMax; simp only [Nat.zero_add, Nat.mul_one]
/-- One tile's part is the part over the first tile. -/
theorem TSum_zero (U : ℕ → ℕ → EReal) (a q : ℕ) : TSum U 0 a q = PSum U 1 a q := by
  unfold TSum PSum; simp only [Nat.zero_add, Nat.mul_one]

/-- The first tile's part of the maximum. -/
theorem pmax0 {n : ℕ} {X : (⟨2, ![8, n]⟩ : Shape).Idx → EReal} {U : ℕ → ℕ → EReal} {c : ℕ} (h : Sub X (TMax U 0) 0 c) :
    Sub X (PMax U 1) 0 c := h.congr fun _ _ _ _ => TMax_zero ..
/-- The first tile's part of the sum. -/
theorem psum0 {n : ℕ} {X : (⟨2, ![8, n]⟩ : Shape).Idx → EReal} {U : ℕ → ℕ → EReal} {c : ℕ} (h : Sub X (TSum U 0) 0 c) :
    Sub X (PSum U 1) 0 c := h.congr fun _ _ _ _ => TSum_zero ..
/-- One more tile's part of the maximum. -/
theorem pmaxS {n : ℕ} {X Y : (⟨2, ![8, n]⟩ : Shape).Idx → EReal} {U : ℕ → ℕ → EReal} {c : ℕ} (t r : ℕ) (hr : r = 128 * t)
    (hX : Sub X (PMax U t) 0 c) (hY : Sub Y (TMax U r) 0 c) :
    Sub (maximumf (F := Ideal) (φ := .f32) X Y) (PMax U (t + 1)) 0 c := by
  subst hr; exact (max' hX hY).congr fun _ _ _ _ => PMax_succ ..
/-- One more tile's part of the sum. -/
theorem psumS {n : ℕ} {X Y : (⟨2, ![8, n]⟩ : Shape).Idx → EReal} {U : ℕ → ℕ → EReal} {c : ℕ} (t r : ℕ) (hr : r = 128 * t)
    (hX : Sub X (PSum U t) 0 c) (hY : Sub Y (TSum U r) 0 c) :
    Sub (addf (F := Ideal) (φ := .f32) X Y) (PSum U (t + 1)) 0 c := by
  subst hr; exact (add hX hY).congr fun _ _ _ _ => PSum_succ ..

/-- The eight parts' maximum is the column's. -/
theorem CMax_eq (U : ℕ → ℕ → EReal) (t q : ℕ) : (Finset.range 8).sup (fun a => PMax U t a q) = CMax U (128 * t) q := by
  unfold PMax CMax
  apply le_antisymm
  · refine Finset.sup_le fun a ha => Finset.sup_le fun j hj => ?_
    have ha := Finset.mem_range.1 ha
    have hj := Finset.mem_range.1 hj
    exact Finset.le_sup (f := fun k => U k q) (Finset.mem_range.2 (by omega))
  · refine Finset.sup_le fun k hk => ?_
    have hk := Finset.mem_range.1 hk
    refine le_trans ?_ (Finset.le_sup (f := fun a => (Finset.range (16 * t)).sup fun j => U (8 * j + a) q) (b := k % 8)
      (Finset.mem_range.2 (Nat.mod_lt _ (by norm_num))))
    have := Finset.le_sup (f := fun j => U (8 * j + k % 8) q) (b := k / 8) (s := Finset.range (16 * t)) (Finset.mem_range.2 (by omega))
    rwa [show 8 * (k / 8) + k % 8 = k by omega] at this

/-- The eight parts' sum is the column's. -/
theorem CSum_eq (U : ℕ → ℕ → EReal) (t q : ℕ) : (∑ a ∈ Finset.range 8, PSum U t a q) = CSum U (128 * t) q := by
  unfold PSum CSum
  rw [Finset.sum_comm, ← Finset.sum_product', Finset.sum_bij' (t := Finset.range (128 * t)) (fun p _ => 8 * p.1 + p.2) (fun k _ => (k / 8, k % 8))]
  · intro p hp
    have hp := Finset.mem_product.1 hp
    have h1 := Finset.mem_range.1 hp.1
    have h2 := Finset.mem_range.1 hp.2
    exact Finset.mem_range.2 (by omega)
  · intro k hk
    have hk := Finset.mem_range.1 hk
    exact Finset.mem_product.2 ⟨Finset.mem_range.2 (by show k / 8 < _; omega), Finset.mem_range.2 (by show k % 8 < _; omega)⟩
  · intro p hp
    have hp := Finset.mem_product.1 hp
    have h2 := Finset.mem_range.1 hp.2
    exact Prod.ext (by show (8 * p.1 + p.2) / 8 = p.1; omega) (by show (8 * p.1 + p.2) % 8 = p.2; omega)
  · intro k _
    show 8 * (k / 8) + k % 8 = k
    omega
  · intro p _; rfl

/-- The maximum over the eight parts. -/
theorem colMax {n : ℕ} {X : (⟨2, ![8, n]⟩ : Shape).Idx → EReal} {U : ℕ → ℕ → EReal} {t c : ℕ} (hX : Sub X (PMax U t) 0 c)
    (h : (⟨2, ![8, n]⟩ : Shape).Reduces [0] ⟨1, ![n]⟩) (hφ : FKind.Formats .f32)
    (hacc : (0xFF800000#32 : BitVec 32) = FKind.maximumf.neutral .f32 hφ) :
    Sub1 (multiReduction (F := Ideal) (φ := .f32) .maximumf [0] ⟨1, ![n]⟩ X 0xFF800000#32 h hφ hacc) (CMax U (128 * t)) c := by
  intro b
  rw [Ideal.multiReduction_maximumf_single]
  show (Finset.univ : Finset (Fin 8)).fold max (Ideal.ofBits .f32 0xFF800000#32) _ = _
  rw [ofBits_neg_inf, ← CMax_eq, ← sup_fin_eq_range]
  refine (fold_max_eq_sup _ _).trans ?_
  refine Finset.sup_congr rfl fun (i : Fin 8) _ => ?_
  have e : h.lift (ix1 b) i = ix2 i b := by
    funext d; apply Fin.ext
    match d with
    | ⟨0, _⟩ => rfl
    | ⟨1, _⟩ => rfl
  show X (h.lift (ix1 b) i) = _
  rw [e, hX, Nat.zero_add]

/-- The sum over the eight parts. -/
theorem colSum {n : ℕ} {X : (⟨2, ![8, n]⟩ : Shape).Idx → EReal} {U : ℕ → ℕ → EReal} {t c : ℕ} (hX : Sub X (PSum U t) 0 c)
    (h : (⟨2, ![8, n]⟩ : Shape).Reduces [0] ⟨1, ![n]⟩) (hφ : FKind.Formats .f32)
    (hacc : (0x00000000#32 : BitVec 32) = FKind.add.neutral .f32 hφ) :
    Sub1 (multiReduction (F := Ideal) (φ := .f32) .add [0] ⟨1, ![n]⟩ X 0x00000000#32 h hφ hacc) (CSum U (128 * t)) c := by
  intro b
  rw [Ideal.multiReduction_add_single, ← CSum_eq, ← Fin.sum_univ_eq_sum_range (fun a => PSum U t a (c + b)) 8]
  refine Finset.sum_congr rfl fun (i : Fin 8) _ => ?_
  have e : h.lift (ix1 b) i = ix2 i b := by
    funext d; apply Fin.ext
    match d with
    | ⟨0, _⟩ => rfl
    | ⟨1, _⟩ => rfl
  rw [e, hX, Nat.zero_add]

/-- A product of a tile of rows of `A` with a tile of rows of `B`, both over all `K` columns from `s`: the tile of
    `A Bᵀ`. -/
theorem dotT {M K N : ℕ} {φ₁ φ₂ : FTy} (prec : Option ContractPrecision) {X : (⟨2, ![M, K]⟩ : Shape).Idx → EReal}
    {Y : (⟨2, ![N, K]⟩ : Shape).Idx → EReal} {Z : (⟨2, ![M, N]⟩ : Shape).Idx → EReal} {A B : ℕ → ℕ → EReal} {r c s : ℕ}
    (hX : Sub X A r s) (hY : Sub Y B c s) (hZ : Sub Z (fun _ _ => 0) r c) :
    Sub (FloatOps.matmul (F := Ideal) (φ₁ := φ₁) (φ₂ := φ₂) (DotDims.transposedRhs M K N) prec X Y Z)
      (fun k q => ∑ d ∈ Finset.range K, A k (s + d) * B q (s + d)) r c := by
  intro a b
  rw [Ideal.matmul_transposedRhs_apply, hZ, zero_add]
  show _ = ∑ d ∈ Finset.range K, A (r + a) (s + d) * B (c + b) (s + d)
  rw [← Fin.sum_univ_eq_sum_range (fun d => A (r + a) (s + d) * B (c + b) (s + d)) K]
  exact Finset.sum_congr rfl fun d _ => congrArg₂ (· * ·) (hX a d) (hY b d)

/-- A product of a tile of `A` with the tile of `B` whose rows are `A`'s columns. -/
theorem dotN {M K N : ℕ} {φ₁ φ₂ : FTy} (prec : Option ContractPrecision) {X : (⟨2, ![M, K]⟩ : Shape).Idx → EReal}
    {Y : (⟨2, ![K, N]⟩ : Shape).Idx → EReal} {Z : (⟨2, ![M, N]⟩ : Shape).Idx → EReal} {A B : ℕ → ℕ → EReal} {r c s : ℕ}
    (hX : Sub X A r s) (hY : Sub Y B s c) (hZ : Sub Z (fun _ _ => 0) r c) :
    Sub (FloatOps.matmul (F := Ideal) (φ₁ := φ₁) (φ₂ := φ₂) (DotDims.plain M K N) prec X Y Z)
      (fun k q => ∑ d ∈ Finset.range K, A k (s + d) * B (s + d) q) r c := by
  intro a b
  rw [Ideal.matmul_plain_apply, hZ, zero_add]
  show _ = ∑ d ∈ Finset.range K, A (r + a) (s + d) * B (s + d) (c + b)
  rw [← Fin.sum_univ_eq_sum_range (fun d => A (r + a) (s + d) * B (s + d) (c + b)) K]
  exact Finset.sum_congr rfl fun d _ => congrArg₂ (· * ·) (hX a d) (hY d b)

end Cert.KernelIdeal.Tiles
-- ==== Proof.Loads.lean ====
/-
  Loads and stores in the vocabulary of `Tiles`: a load of a box from a buffer that holds a matrix is a tile of it, and a
  buffer filled piece by piece, each piece a tile of one matrix, holds that matrix wherever a piece covers.
-/
module

public import proofs.«01_k».proof.Proof.Tiles
public import Idealize.ShloMosaic.Lib.WholeRead
public import Idealize.ShloMosaic.Lib.Pipeline.FrameBody
public import Idealize.ShloMosaic.Lib.Ring

@[expose] public section

noncomputable section

namespace Cert.KernelIdeal.Tiles

open Idealize.ShloMosaic Idealize.ShloMosaic.ValueIdx Idealize.SL.Sem

variable {sig : RefSig} {κ : Kind} {sp : Space} {m n M N r c : ℕ} {G : ℕ → ℕ → EReal}

/-- A load of a box from a whole buffer that holds a tile of `G`. -/
theorem loadBox (R : Memref sig κ sp ⟨2, ![m, n]⟩ .f32) (hR : R.IsWhole) {X : (⟨2, ![m, n]⟩ : Shape).Idx → Elt Ideal .f32}
    (hX : Sub X G r c) (i j : ℕ) (inb : ∀ a, (![i, j] : Fin 2 → ℕ) a + (⟨2, ![M, N]⟩ : Shape).size a ≤ (⟨2, ![m, n]⟩ : Shape).size a) :
    Sub (m := M) (n := N) (fun x => (View.readAt (Elt Ideal) R.view (Rect.unit (s := ⟨2, ![m, n]⟩) ![i, j] (⟨2, ![M, N]⟩ : Shape).size inb).toLoadRect (hR.unread X) x)) G (r + i) (c + j) := by
  intro a b
  have h0 : i + M ≤ m := inb 0
  have h1 : j + N ≤ n := inb 1
  show (View.readAt (Elt Ideal) R.view (Rect.unit (s := ⟨2, ![m, n]⟩) ![i, j] (⟨2, ![M, N]⟩ : Shape).size inb).toLoadRect (hR.unread X) (ix2 a b)) = _
  rw [hR.readAt_unread]
  have e : (Rect.unit (s := ⟨2, ![m, n]⟩) ![i, j] (⟨2, ![M, N]⟩ : Shape).size inb).toLoadRect.idx (ix2 a b) = ix2 ⟨i + a, by omega⟩ ⟨j + b, by omega⟩ := by
    funext d; apply Fin.ext
    match d with
    | ⟨0, _⟩ => exact congrArg (i + ·) (Nat.one_mul _)
    | ⟨1, _⟩ => exact congrArg (j + ·) (Nat.one_mul _)
  have := hX ⟨i + a, by omega⟩ ⟨j + b, by omega⟩
  rw [e]
  refine this.trans ?_
  simp only [Nat.add_assoc]

/-- A load of a whole block with two leading unit axes. -/
theorem loadBlock {e : EltTy} (v : Elt Ideal e → EReal) (R : Memref sig κ sp ⟨4, ![1, 1, m, n]⟩ e) (hR : R.IsWhole) {X : (⟨4, ![1, 1, m, n]⟩ : Shape).Idx → Elt Ideal e}
    (hX : Sub4 (fun i => v (X i)) G r c) (inb : ∀ a, (![0, 0, 0, 0] : Fin 4 → ℕ) a + (⟨4, ![1, 1, m, n]⟩ : Shape).size a ≤ (⟨4, ![1, 1, m, n]⟩ : Shape).size a) :
    Sub4 (m := m) (n := n) (fun x => v (View.readAt (Elt Ideal) R.view (Rect.unit (s := ⟨4, ![1, 1, m, n]⟩) ![0, 0, 0, 0] (⟨4, ![1, 1, m, n]⟩ : Shape).size inb).toLoadRect (hR.unread X) x)) G r c := by
  intro a b
  show v (View.readAt (Elt Ideal) R.view (Rect.unit (s := ⟨4, ![1, 1, m, n]⟩) ![0, 0, 0, 0] (⟨4, ![1, 1, m, n]⟩ : Shape).size inb).toLoadRect (hR.unread X) (ix4 0 0 a b)) = _
  rw [hR.readAt_unread]
  have e : (Rect.unit (s := ⟨4, ![1, 1, m, n]⟩) ![0, 0, 0, 0] (⟨4, ![1, 1, m, n]⟩ : Shape).size inb).toLoadRect.idx (ix4 0 0 a b) = ix4 0 0 a b := by
    funext d; apply Fin.ext
    match d with
    | ⟨0, _⟩ => rfl
    | ⟨1, _⟩ => rfl
    | ⟨2, _⟩ => exact (Nat.zero_add _).trans (Nat.one_mul _)
    | ⟨3, _⟩ => exact (Nat.zero_add _).trans (Nat.one_mul _)
  rw [e]
  exact hX a b

/-- Every piece of the list holds the entries of `G` at the places it is stored to. -/
def AllOk (G : ℕ → ℕ → EReal) (L : List (View.Piece (Elt Ideal) ⟨2, ![m, n]⟩ .bf16)) : Prop :=
  ∀ p ∈ L, ∀ x, (p.2 x) = G (p.1.off 0 + p.1.stride 0 * (x 0).val) (p.1.off 1 + p.1.stride 1 * (x 1).val)

/-- No piece yet. -/
theorem AllOk.nil : AllOk (m := m) (n := n) G [] := fun _ h => absurd h List.not_mem_nil

/-- One more stored tile. -/
theorem AllOk.cons {i j : ℕ} {inb : ∀ a, (![i, j] : Fin 2 → ℕ) a + (⟨2, ![M, N]⟩ : Shape).size a ≤ (⟨2, ![m, n]⟩ : Shape).size a}
    {w : (⟨2, ![M, N]⟩ : Shape).Idx → Elt Ideal .bf16} {L : List (View.Piece (Elt Ideal) ⟨2, ![m, n]⟩ .bf16)}
    (hw : Sub w G i j) (hL : AllOk G L) :
    AllOk G (⟨Rect.unit (s := ⟨2, ![m, n]⟩) ![i, j] (⟨2, ![M, N]⟩ : Shape).size inb, w⟩ :: L) := by
  intro p hp
  rcases List.mem_cons.1 hp with rfl | hp
  · intro x
    have := hw (x 0) (x 1)
    have ex : x = ix2 (x 0) (x 1) := eq_ix2 x
    show (w x) = G (i + 1 * (x 0).val) (j + 1 * (x 1).val)
    rw [Nat.one_mul, Nat.one_mul]
    refine Eq.trans ?_ this
    exact congrArg w ex
  · exact hL p hp

/-- The list stores a block of `128 × 128` at row `i`, column `j`. -/
def hasBlk (L : List (View.Piece (Elt Ideal) ⟨2, ![m, n]⟩ .bf16)) (i j : ℕ) : Bool :=
  L.any fun p => p.1.off 0 == i && (p.1.off 1 == j && (p.1.size 0 == 128 && (p.1.size 1 == 128 && (p.1.stride 0 == 1 && p.1.stride 1 == 1))))

/-- The list stores every block of the box at row `i`, column `j` of `nr × nc` blocks. -/
def hasBox (L : List (View.Piece (Elt Ideal) ⟨2, ![m, n]⟩ .bf16)) (i j nr nc : ℕ) : Bool :=
  (List.range nr).all fun a => (List.range nc).all fun b => hasBlk L (i + 128 * a) (j + 128 * b)

/-- A stored block covers its places. -/
theorem hasBlk_cover {L : List (View.Piece (Elt Ideal) ⟨2, ![m, n]⟩ .bf16)} {i j : ℕ} (h : hasBlk L i j = true)
    (y : (⟨2, ![m, n]⟩ : Shape).Idx) (h0 : i ≤ (y 0).val ∧ (y 0).val < i + 128) (h1 : j ≤ (y 1).val ∧ (y 1).val < j + 128) :
    ∃ p ∈ L, y ∈ p.1.set := by
  obtain ⟨p, hp, h⟩ := List.any_eq_true.1 h
  simp only [Bool.and_eq_true, beq_iff_eq] at h
  obtain ⟨e0, e1, s0, s1, t0, t1⟩ := h
  refine ⟨p, hp, p.1.toLoadRect.mem_set.2 fun a => ?_⟩
  match a with
  | ⟨0, _⟩ =>
    refine ⟨(y 0).val - i, ?_, ?_⟩
    · show _ < p.1.size 0
      rw [s0]; omega
    · show (y 0).val = p.1.off 0 + p.1.stride 0 * _
      rw [e0, t0]; omega
  | ⟨1, _⟩ =>
    refine ⟨(y 1).val - j, ?_, ?_⟩
    · show _ < p.1.size 1
      rw [s1]; omega
    · show (y 1).val = p.1.off 1 + p.1.stride 1 * _
      rw [e1, t1]; omega

/-- The blocks of a box cover it. -/
theorem hasBox_cover {L : List (View.Piece (Elt Ideal) ⟨2, ![m, n]⟩ .bf16)} {i j nr nc : ℕ} (h : hasBox L i j nr nc = true)
    (y : (⟨2, ![m, n]⟩ : Shape).Idx) (h0 : i ≤ (y 0).val ∧ (y 0).val < i + 128 * nr) (h1 : j ≤ (y 1).val ∧ (y 1).val < j + 128 * nc) :
    ∃ p ∈ L, y ∈ p.1.set := by
  have hb : hasBlk L (i + 128 * (((y 0).val - i) / 128)) (j + 128 * (((y 1).val - j) / 128)) = true := by
    have h := List.all_eq_true.1 h (((y 0).val - i) / 128) (List.mem_range.2 (by omega))
    exact List.all_eq_true.1 h (((y 1).val - j) / 128) (List.mem_range.2 (by omega))
  exact hasBlk_cover hb y ⟨by omega, by omega⟩ ⟨by omega, by omega⟩

/-- The value of the pieces' canon at a covered place. -/
theorem canonValue {S : Shape} {e : EltTy} (v : Elt Ideal e → EReal) (G : S.Idx → EReal) : ∀ (L : List (View.Piece (Elt Ideal) S e))
    (_ : ∀ p ∈ L, ∀ x : p.1.shape.Idx, v (p.2 x) = G (p.1.emb x)) (y : S.Idx) (_ : ∃ p ∈ L, y ∈ p.1.set), v (View.canon L y) = G y
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canonValue v G L (fun q hq => hL q (by simp [hq])) y ?_
      obtain ⟨q, hq, hyq⟩ := hy
      rcases List.mem_cons.mp hq with rfl | hq'
      · exact absurd hyq hm
      · exact ⟨q, hq', hyq⟩

/-- A load of a box from a buffer filled piece by piece with tiles of `G` that cover the box. -/
theorem loadCov (V : View sig κ sp ⟨2, ![m, n]⟩ .bf16) {L : List (View.Piece (Elt Ideal) ⟨2, ![m, n]⟩ .bf16)}
    (hL : AllOk G L) (i j nr nc : ℕ) (hc : hasBox L i j nr nc = true) (hM : M = 128 * nr) (hN : N = 128 * nc)
    (inb : ∀ a, (![i, j] : Fin 2 → ℕ) a + (⟨2, ![M, N]⟩ : Shape).size a ≤ (⟨2, ![m, n]⟩ : Shape).size a) :
    Sub (m := M) (n := N) (fun x => (V.readCov L (Rect.unit (s := ⟨2, ![m, n]⟩) ![i, j] (⟨2, ![M, N]⟩ : Shape).size inb).toLoadRect x)) G i j := by
  intro a b
  have h0 : i + M ≤ m := inb 0
  have h1 : j + N ≤ n := inb 1
  show (V.readCov L (Rect.unit (s := ⟨2, ![m, n]⟩) ![i, j] (⟨2, ![M, N]⟩ : Shape).size inb).toLoadRect (ix2 a b)) = _
  rw [View.readCov_eq_canon']
  have e : (Rect.unit (s := ⟨2, ![m, n]⟩) ![i, j] (⟨2, ![M, N]⟩ : Shape).size inb).toLoadRect.idx (ix2 a b) = ix2 ⟨i + a, by omega⟩ ⟨j + b, by omega⟩ := by
    funext d; apply Fin.ext
    match d with
    | ⟨0, _⟩ => exact congrArg (i + ·) (Nat.one_mul _)
    | ⟨1, _⟩ => exact congrArg (j + ·) (Nat.one_mul _)
  show (View.canon L ((Rect.unit (s := ⟨2, ![m, n]⟩) ![i, j] (⟨2, ![M, N]⟩ : Shape).size inb).toLoadRect.idx (ix2 a b))) = _
  rw [e]
  have hy := hasBox_cover hc (ix2 ⟨i + a, by omega⟩ ⟨j + b, by omega⟩) ⟨Nat.le_add_right _ _, by show i + a.val < _; omega⟩ ⟨Nat.le_add_right _ _, by show j + b.val < _; omega⟩
  exact canonValue (fun x => x) (fun y => G (y 0).val (y 1).val) L (fun p hp x => hL p hp x) _ hy

/-- A load of a box from a buffer filled by one piece that covers it. -/
theorem loadOne (V : View sig κ sp ⟨2, ![m, n]⟩ .f32) {w : (⟨2, ![m, n]⟩ : Shape).Idx → Elt Ideal .f32}
    {inb' : ∀ a, (![0, 0] : Fin 2 → ℕ) a + (⟨2, ![m, n]⟩ : Shape).size a ≤ (⟨2, ![m, n]⟩ : Shape).size a}
    (hw : Sub w G 0 0) (i j : ℕ)
    (inb : ∀ a, (![i, j] : Fin 2 → ℕ) a + (⟨2, ![M, N]⟩ : Shape).size a ≤ (⟨2, ![m, n]⟩ : Shape).size a) :
    Sub (m := M) (n := N) (fun x => (V.readCov [⟨Rect.unit (s := ⟨2, ![m, n]⟩) ![0, 0] (⟨2, ![m, n]⟩ : Shape).size inb', w⟩]
      (Rect.unit (s := ⟨2, ![m, n]⟩) ![i, j] (⟨2, ![M, N]⟩ : Shape).size inb).toLoadRect x)) G i j := by
  intro a b
  have h0 : i + M ≤ m := inb 0
  have h1 : j + N ≤ n := inb 1
  show (V.readCov _ (Rect.unit (s := ⟨2, ![m, n]⟩) ![i, j] (⟨2, ![M, N]⟩ : Shape).size inb).toLoadRect (ix2 a b)) = _
  rw [View.readCov_eq_canon']
  have e : (Rect.unit (s := ⟨2, ![m, n]⟩) ![i, j] (⟨2, ![M, N]⟩ : Shape).size inb).toLoadRect.idx (ix2 a b) = ix2 ⟨i + a, by omega⟩ ⟨j + b, by omega⟩ := by
    funext d; apply Fin.ext
    match d with
    | ⟨0, _⟩ => exact congrArg (i + ·) (Nat.one_mul _)
    | ⟨1, _⟩ => exact congrArg (j + ·) (Nat.one_mul _)
  show (View.canon _ ((Rect.unit (s := ⟨2, ![m, n]⟩) ![i, j] (⟨2, ![M, N]⟩ : Shape).size inb).toLoadRect.idx (ix2 a b))) = _
  rw [e]
  refine canonValue (fun x => x) (fun y => G (y 0).val (y 1).val)
    [⟨Rect.unit (s := ⟨2, ![m, n]⟩) ![0, 0] (⟨2, ![m, n]⟩ : Shape).size inb', w⟩] (fun p hp => by
      obtain rfl := List.mem_singleton.1 hp
      intro x
      have := hw (x 0) (x 1)
      show w x = G (0 + 1 * (x 0).val) (0 + 1 * (x 1).val)
      rw [Nat.one_mul, Nat.one_mul]
      exact (congrArg w (eq_ix2 x)).trans this) _
    ⟨_, List.mem_singleton.2 rfl, (LoadRect.mem_set _).2 fun d => ?_⟩
  match d with
  | ⟨0, _⟩ => exact ⟨i + a, by show i + a.val < m; omega, by show i + a.val = 0 + 1 * (i + a.val); omega⟩
  | ⟨1, _⟩ => exact ⟨j + b, by show j + b.val < n; omega, by show j + b.val = 0 + 1 * (j + b.val); omega⟩

/-- Every piece of a list stored to a block with two leading unit axes holds the entries of `G` at its places. -/
def AllOk4 (G : ℕ → ℕ → EReal) (L : List (View.Piece (Elt Ideal) ⟨4, ![1, 1, m, n]⟩ .bf16)) : Prop :=
  ∀ p ∈ L, ∀ x : p.1.shape.Idx, (p.2 x) = G (p.1.emb x 2).val (p.1.emb x 3).val

/-- No piece yet. -/
theorem AllOk4.nil : AllOk4 (m := m) (n := n) G [] := fun _ h => absurd h List.not_mem_nil

/-- One more stored tile. -/
theorem AllOk4.cons {i j : ℕ} {inb : ∀ a, (![0, 0, i, j] : Fin 4 → ℕ) a + (⟨4, ![1, 1, M, N]⟩ : Shape).size a ≤ (⟨4, ![1, 1, m, n]⟩ : Shape).size a}
    {w : (⟨4, ![1, 1, M, N]⟩ : Shape).Idx → Elt Ideal .bf16} {L : List (View.Piece (Elt Ideal) ⟨4, ![1, 1, m, n]⟩ .bf16)}
    (hw : Sub4 w G i j) (hL : AllOk4 G L) :
    AllOk4 G (⟨Rect.unit (s := ⟨4, ![1, 1, m, n]⟩) ![0, 0, i, j] (⟨4, ![1, 1, M, N]⟩ : Shape).size inb, w⟩ :: L) := by
  intro p hp
  rcases List.mem_cons.1 hp with rfl | hp
  · intro x
    have := hw (x 2) (x 3)
    have ex : x = ix4 0 0 (x 2) (x 3) := by
      have e := eq_ix4 (n0 := 1) (n1 := 1) (n2 := M) (n3 := N) x
      have a0 : (show Fin 1 from x 0) = 0 := Subsingleton.elim _ _
      have a1 : (show Fin 1 from x 1) = 0 := Subsingleton.elim _ _
      exact e.trans (congrArg₂ (fun a b => ix4 (n0 := 1) (n1 := 1) (n2 := M) (n3 := N) a b (x 2) (x 3)) a0 a1)
    show (w x) = G (i + 1 * (x 2).val) (j + 1 * (x 3).val)
    rw [Nat.one_mul, Nat.one_mul]
    exact (congrArg w ex).trans this
  · exact hL p hp

/-- What covering pieces leave in a block, read back. -/
theorem readBlock {sig : RefSig} {κ : Kind} {sp : Space} (V : View sig κ sp ⟨4, ![1, 1, m, n]⟩ .bf16)
    {L : List (View.Piece (Elt Ideal) ⟨4, ![1, 1, m, n]⟩ .bf16)} (f : V.ty.Contents (Elt Ideal)) (hL : AllOk4 G L) (hc : ∀ y, ∃ p ∈ L, y ∈ p.1.set) :
    Sub4 (fun x => (V.read (Elt Ideal) (V.writes (Elt Ideal) f L) x)) G 0 0 := by
  intro a b
  show (V.read (Elt Ideal) (V.writes (Elt Ideal) f L) (ix4 0 0 a b)) = _
  rw [View.read_writes_eq_canon _ _ _ hc, Nat.zero_add, Nat.zero_add]
  exact canonValue (fun x => x) (fun y => G (y 2).val (y 3).val) L (fun p hp x => hL p hp x) _ (hc _)

end Cert.KernelIdeal.Tiles
-- ==== Proof.Model.lean ====
/-
  What one head and batch of the kernel computes, as matrices over the extended reals: scores (rows: keys, columns:
  queries), softmax weights, their gradients and the three products that leave the kernel; and the steps from the tile
  operations of `Tiles` to them.
-/
module

public import proofs.«01_k».proof.Proof.Loads
public import proofs.«01_k».proof.Proof.Gen.KernelIdeal.Frame

@[expose] public section

noncomputable section

namespace Cert.KernelIdeal.Tiles

open Idealize.ShloMosaic Idealize.ShloMosaic.ValueIdx Idealize.SL.Sem

/-- The data of one head and batch: the four blocks of codes, the bias by key and query residue (scaled by the logarithm's
    base, less the far bias), and the four scales. -/
structure Ctx where
  Q : ℕ → ℕ → EReal
  K : ℕ → ℕ → EReal
  V : ℕ → ℕ → EReal
  DO : ℕ → ℕ → EReal
  T : ℕ → ℕ → EReal
  qs : EReal
  ks : EReal
  vs : EReal
  os : EReal

namespace Ctx
variable (C : Ctx)

/-- The factor of the scores. -/
def c : EReal := Gen.k0_pay33 (F := Ideal) C.qs C.ks
/-- The factor of the weights' gradients. -/
def dps : EReal := Gen.k0_pay34 (F := Ideal) C.os C.vs
/-- The factor of the queries' gradient. -/
def gq : EReal := Ideal.ofBits .f32 0x3DB504F3#32 * C.ks * C.dps
/-- The factor of the keys' gradient. -/
def gk : EReal := Ideal.ofBits .f32 0x3DB504F3#32 * C.qs * C.dps

/-- Keys by queries. -/
def S (k q : ℕ) : EReal := ∑ d ∈ Finset.range 128, C.K k (0 + d) * C.Q q (0 + d)
/-- Values by output gradients. -/
def D (k q : ℕ) : EReal := ∑ d ∈ Finset.range 128, C.V k (0 + d) * C.DO q (0 + d)
/-- The scaled scores. -/
def Sc (k q : ℕ) : EReal := C.S k q * C.c
/-- The scores with the bias, less the far bias; minus infinity for a later key. -/
def U (k q : ℕ) : EReal :=
  if q / 128 ≤ k / 128 + 1 then C.Sc k q + C.T (k % 128) (128 * (q / 128 - k / 128) + q % 128) else C.Sc k q
/-- A query's greatest score. -/
def M (q : ℕ) : EReal := CMax C.U (128 * (q / 128 + 1)) q
/-- The weights before normalizing. -/
def E (k q : ℕ) : EReal := Ideal.exp2 (C.U k q - C.M q)
/-- The weights times the products with the output gradient. -/
def ED (k q : ℕ) : EReal := C.E k q * C.D k q
/-- A column's sum over the key blocks up to its own. -/
def LSum (F : ℕ → ℕ → EReal) (q : ℕ) : EReal := CSum F (128 * (q / 128 + 1)) q
/-- The reciprocal of a query's total weight. -/
def RL (q : ℕ) : EReal := Ideal.div (Ideal.ofBits .f32 1065353216#32) (LSum C.E q)
/-- A query's mean product with the output gradient. -/
def TD (q : ℕ) : EReal := LSum C.ED q * C.RL q
/-- The softmax weights. -/
def P (k q : ℕ) : EReal := C.E k q * C.RL q
/-- The scores' gradient. -/
def DS (k q : ℕ) : EReal := C.P k q * (C.D k q - C.TD q)
/-- The softmax weights, zero for a later key block. -/
def PT (k q : ℕ) : EReal := if k / 128 ≤ q / 128 then C.P k q else 0
/-- The scores' gradient, zero for a later key block. -/
def DST (k q : ℕ) : EReal := if k / 128 ≤ q / 128 then C.DS k q else 0
/-- The queries' gradient. -/
def DQ (q d : ℕ) : EReal := (∑ k ∈ Finset.range 896, C.K k d * C.DST k q) * C.gq
/-- The keys' gradient. -/
def DK (k d : ℕ) : EReal := (∑ q ∈ Finset.range 896, C.DST k q * C.Q q d) * C.gk
/-- The values' gradient. -/
def DV (k d : ℕ) : EReal := (∑ q ∈ Finset.range 896, C.DO q d * C.PT k q) * C.os

end Ctx

section
variable {C : Ctx} {m n r c : ℕ} {G H : ℕ → ℕ → EReal}

/-- A change of format is no change. -/
theorem trunc {ψ φ : FTy} {X : (⟨2, ![m, n]⟩ : Shape).Idx → EReal} (hX : Sub X G r c) (h : ψ.bits < φ.bits) :
    Sub (truncf (F := Ideal) (φ := φ) ψ X h) G r c := fun a b => hX a b

/-- A change of format is no change. -/
theorem ext {ψ φ : FTy} {X : (⟨2, ![m, n]⟩ : Shape).Idx → EReal} (hX : Sub X G r c) (h : φ.bits < ψ.bits) :
    Sub (extf (F := Ideal) (φ := φ) ψ X h) G r c := fun a b => hX a b

/-- A broadcast scalar, by its value. -/
theorem splatV {x y : EReal} (h : x = y) (r c : ℕ) : Sub (m := m) (n := n) (broadcast ⟨2, ![m, n]⟩ x) (fun _ _ => y) r c :=
  fun _ _ => h

/-- The matrix product with the right factor transposed. -/
theorem mmT {M K N : ℕ} {φ₁ φ₂ : FTy} {dn : DotDims ⟨2, ![M, K]⟩ ⟨2, ![N, K]⟩ ⟨2, ![M, N]⟩} (hd : dn = DotDims.transposedRhs M K N)
    {X : (⟨2, ![M, K]⟩ : Shape).Idx → EReal} {Y : (⟨2, ![N, K]⟩ : Shape).Idx → EReal} {A B : ℕ → ℕ → EReal} {r c s : ℕ}
    (hX : Sub X A r s) (hY : Sub Y B c s) :
    Sub (matmul (F := Ideal) (φ₁ := φ₁) (φ₂ := φ₂) dn none X Y (constant (F := Ideal) ⟨2, ![M, N]⟩ .f32 0x00000000#32))
      (fun k q => ∑ d ∈ Finset.range K, A k (s + d) * B q (s + d)) r c := by
  subst hd; exact dotT none hX hY (zero r c)

/-- The matrix product. -/
theorem mmN {M K N : ℕ} {φ₁ φ₂ : FTy} {dn : DotDims ⟨2, ![M, K]⟩ ⟨2, ![K, N]⟩ ⟨2, ![M, N]⟩} (hd : dn = DotDims.plain M K N)
    {X : (⟨2, ![M, K]⟩ : Shape).Idx → EReal} {Y : (⟨2, ![K, N]⟩ : Shape).Idx → EReal} {A B : ℕ → ℕ → EReal} {r c s : ℕ}
    (hX : Sub X A r s) (hY : Sub Y B s c) :
    Sub (matmul (F := Ideal) (φ₁ := φ₁) (φ₂ := φ₂) dn none X Y (constant (F := Ideal) ⟨2, ![M, N]⟩ .f32 0x00000000#32))
      (fun k q => ∑ d ∈ Finset.range K, A k (s + d) * B (s + d) q) r c := by
  subst hd; exact dotN none hX hY (zero r c)

/-- The scores of a tile at or next to the diagonal. -/
theorem uNear {X Y : (⟨2, ![128, 128]⟩ : Shape).Idx → EReal} (a b o : ℕ) (hb : b = a + o) (ho : o ≤ 1)
    (hX : Sub X C.Sc (128 * a) (128 * b)) (hY : Sub Y C.T 0 (128 * o)) :
    Sub (addf (F := Ideal) (φ := .f32) X Y) C.U (128 * a) (128 * b) := by
  intro i j
  have hi := i.isLt
  have hj := j.isLt
  have e1 : (128 * b + j.val) / 128 = b := by omega
  have e2 : (128 * a + i.val) / 128 = a := by omega
  have e3 : (128 * b + j.val) % 128 = j := by omega
  have e4 : (128 * a + i.val) % 128 = i := by omega
  have e5 : b - a = o := by omega
  show X (ix2 i j) + Y (ix2 i j) = _
  rw [hX i j, hY i j]
  unfold Ctx.U
  rw [if_pos (by omega), e1, e2, e3, e4, e5, Nat.zero_add]

/-- The scores of a tile away from the diagonal. -/
theorem uFar {X : (⟨2, ![128, 128]⟩ : Shape).Idx → EReal} (a b : ℕ) (hb : a + 1 < b)
    (hX : Sub X C.Sc (128 * a) (128 * b)) : Sub X C.U (128 * a) (128 * b) := by
  intro i j
  have hi := i.isLt
  have hj := j.isLt
  have e1 : (128 * b + j.val) / 128 = b := by omega
  have e2 : (128 * a + i.val) / 128 = a := by omega
  rw [hX i j]
  unfold Ctx.U
  rw [if_neg (by omega)]

/-- A row of maxima over all key blocks up to the query's own. -/
theorem rowM {X : (⟨1, ![128]⟩ : Shape).Idx → EReal} (b : ℕ) (hX : Sub1 X (CMax C.U (128 * (b + 1))) (128 * b)) :
    Sub1 X C.M (128 * b) := by
  intro j
  have hj := j.isLt
  rw [hX j]
  unfold Ctx.M
  rw [show (128 * b + j.val) / 128 = b by omega]

/-- A row of sums over all key blocks up to the query's own. -/
theorem rowL {X : (⟨1, ![128]⟩ : Shape).Idx → EReal} (b : ℕ) (hX : Sub1 X (CSum G (128 * (b + 1))) (128 * b)) :
    Sub1 X (Ctx.LSum G) (128 * b) := by
  intro j
  have hj := j.isLt
  rw [hX j]
  unfold Ctx.LSum
  rw [show (128 * b + j.val) / 128 = b by omega]

/-- A tile of weights at or before the diagonal. -/
theorem toPT {X : (⟨2, ![128, 128]⟩ : Shape).Idx → EReal} (a b : ℕ) (h : a ≤ b) (hX : Sub X C.P (128 * a) (128 * b)) :
    Sub X C.PT (128 * a) (128 * b) := by
  refine hX.congr fun i j hi hj => ?_
  unfold Ctx.PT
  rw [if_pos (by omega)]

/-- A tile of gradients at or before the diagonal. -/
theorem toDST {X : (⟨2, ![128, 128]⟩ : Shape).Idx → EReal} (a b : ℕ) (h : a ≤ b) (hX : Sub X C.DS (128 * a) (128 * b)) :
    Sub X C.DST (128 * a) (128 * b) := by
  refine hX.congr fun i j hi hj => ?_
  unfold Ctx.DST
  rw [if_pos (by omega)]

/-- A tile of zeros after the diagonal. -/
theorem zeroPT {X : (⟨2, ![128, 128]⟩ : Shape).Idx → EReal} (a b : ℕ) (h : b < a) (hX : Sub X (fun _ _ => 0) (128 * a) (128 * b)) :
    Sub X C.PT (128 * a) (128 * b) := by
  refine hX.congr fun i j hi hj => ?_
  unfold Ctx.PT
  rw [if_neg (by omega)]

/-- A tile of zeros after the diagonal. -/
theorem zeroDST {X : (⟨2, ![128, 128]⟩ : Shape).Idx → EReal} (a b : ℕ) (h : b < a) (hX : Sub X (fun _ _ => 0) (128 * a) (128 * b)) :
    Sub X C.DST (128 * a) (128 * b) := by
  refine hX.congr fun i j hi hj => ?_
  unfold Ctx.DST
  rw [if_neg (by omega)]

/-- The sixteen-bit zero. -/
theorem ofBits_zero_bf16 : Ideal.ofBits .bf16 0x0000#16 = 0 := by simp [Ideal.ofBits, Ideal.ieee]

/-- A sum over a stretch of a range outside of which every term is zero. -/
theorem sum_stretch (f : ℕ → EReal) (s n N : ℕ) (h : s + n ≤ N) (h0 : ∀ k < s, f k = 0) (h1 : ∀ k, s + n ≤ k → k < N → f k = 0) :
    ∑ d ∈ Finset.range n, f (s + d) = ∑ k ∈ Finset.range N, f k := by
  obtain ⟨t, rfl⟩ := Nat.exists_eq_add_of_le h
  rw [Finset.sum_range_add, Finset.sum_range_add]
  have z0 : ∑ k ∈ Finset.range s, f k = 0 := Finset.sum_eq_zero fun k hk => h0 k (Finset.mem_range.1 hk)
  have z1 : ∑ k ∈ Finset.range t, f (s + n + k) = 0 := Finset.sum_eq_zero fun k hk => h1 _ (by omega) (by have := Finset.mem_range.1 hk; omega)
  rw [z0, z1, zero_add, add_zero]

/-- A strip of the queries' gradient. -/
theorem toDQ {X : (⟨2, ![m, n]⟩ : Shape).Idx → EReal} (kend q0 : ℕ) (hk : q0 + m ≤ kend) (he : kend ≤ 896) (hd : kend % 128 = 0)
    (hX : Sub X (fun q d => (∑ e ∈ Finset.range kend, C.K (0 + e) d * C.DST (0 + e) q) * C.gq) q0 0) : Sub X C.DQ q0 0 := by
  refine hX.congr fun i j hi hj => ?_
  unfold Ctx.DQ
  congr 1
  refine sum_stretch (fun k => C.K k (0 + j) * C.DST k (q0 + i)) 0 kend 896 (by omega) (fun k hk => by omega) fun k h1 h2 => ?_
  show _ * C.DST k (q0 + i) = 0
  unfold Ctx.DST
  rw [if_neg (by omega), mul_zero]

/-- A strip of the keys' gradient. -/
theorem toDK {X : (⟨2, ![m, n]⟩ : Shape).Idx → EReal} (k0 w : ℕ) (hk : k0 + w = 896) (hd : k0 % 128 = 0)
    (hX : Sub X (fun k d => (∑ e ∈ Finset.range w, C.DST k (k0 + e) * C.Q (k0 + e) d) * C.gk) k0 0) : Sub X C.DK k0 0 := by
  refine hX.congr fun i j hi hj => ?_
  unfold Ctx.DK
  congr 1
  refine sum_stretch (fun q => C.DST (k0 + i) q * C.Q q (0 + j)) k0 w 896 (by omega) (fun q hq => ?_) fun k h1 h2 => by omega
  show C.DST (k0 + i) q * _ = 0
  unfold Ctx.DST
  rw [if_neg (by omega), zero_mul]

/-- A strip of the values' gradient. -/
theorem toDV {X : (⟨2, ![m, n]⟩ : Shape).Idx → EReal} (k0 w : ℕ) (hk : k0 + w = 896) (hd : k0 % 128 = 0)
    (hX : Sub X (fun k d => (∑ e ∈ Finset.range w, C.DO (k0 + e) d * C.PT k (k0 + e)) * C.os) k0 0) : Sub X C.DV k0 0 := by
  refine hX.congr fun i j hi hj => ?_
  unfold Ctx.DV
  congr 1
  refine sum_stretch (fun q => C.DO q (0 + j) * C.PT (k0 + i) q) k0 w 896 (by omega) (fun q hq => ?_) fun k h1 h2 => by omega
  show _ * C.PT (k0 + i) q = 0
  unfold Ctx.PT
  rw [if_neg (by omega), mul_zero]

end

end Cert.KernelIdeal.Tiles
-- ==== Proof.Equation.lean ====
/-
  The attention gradient written over whole rows, with natural exponentials and each factor at its own place, and the proof
  that the matrices of `Model` are the same: the bias table less the far bias, the base-two exponential, the row sums
  normalized late and the factored scales change nothing over the extended reals.
-/
module

public import proofs.«01_k».proof.Proof.Model
public import Idealize.ShloMosaic.Lib.IdealHost

@[expose] public section

noncomputable section

namespace Cert.KernelIdeal.Tiles

open Idealize.ShloMosaic Idealize.ShloMosaic.ValueIdx Idealize.SL.Sem

/-- The bucket of a distance. -/
def bkt (a : ℕ) : ℕ :=
  if a < 16 then a else
    16 + (if 19 ≤ a then 1 else 0) + (if 21 ≤ a then 1 else 0) + (if 24 ≤ a then 1 else 0) + (if 27 ≤ a then 1 else 0)
      + (if 31 ≤ a then 1 else 0) + (if 35 ≤ a then 1 else 0) + (if 40 ≤ a then 1 else 0) + (if 46 ≤ a then 1 else 0)
      + (if 52 ≤ a then 1 else 0) + (if 59 ≤ a then 1 else 0) + (if 67 ≤ a then 1 else 0) + (if 77 ≤ a then 1 else 0)
      + (if 87 ≤ a then 1 else 0) + (if 99 ≤ a then 1 else 0) + (if 113 ≤ a then 1 else 0)

/-- Every distance from 113 on has the last bucket. -/
theorem bkt_far {a : ℕ} (h : 113 ≤ a) : bkt a = 31 := by
  unfold bkt
  rw [if_neg (by omega), if_pos (by omega), if_pos (by omega), if_pos (by omega), if_pos (by omega), if_pos (by omega),
    if_pos (by omega), if_pos (by omega), if_pos (by omega), if_pos (by omega), if_pos (by omega), if_pos (by omega),
    if_pos (by omega), if_pos (by omega), if_pos (by omega), if_pos (by omega)]

/-- A bucket is below 32. -/
theorem bkt_lt (a : ℕ) : bkt a < 32 := by
  by_cases h : 113 ≤ a
  · rw [bkt_far h]; omega
  · have : ∀ x : Fin 113, bkt x < 32 := by decide
    exact this ⟨a, by omega⟩

/-- The reciprocal of the natural logarithm of two. -/
def lg : ℝ := (Real.log 2)⁻¹

theorem lg_pos : 0 < lg := inv_pos.2 (Real.log_pos (by norm_num))

/-- A real factor that is not negative distributes over a sum. -/
theorem add_mul_real (x y : EReal) {r : ℝ} (h : 0 ≤ r) : (x + y) * (r : EReal) = x * r + y * r :=
  EReal.right_distrib_of_nonneg_of_ne_top (EReal.coe_nonneg.2 h) (EReal.coe_ne_top r) x y

theorem sub_mul_real (x y : EReal) {r : ℝ} (h : 0 ≤ r) : (x - y) * (r : EReal) = x * r - y * r := by
  rw [sub_eq_add_neg, sub_eq_add_neg, add_mul_real _ _ h, EReal.neg_mul]

theorem sum_mul_real {ι : Type} (s : Finset ι) (f : ι → EReal) {r : ℝ} (h : 0 ≤ r) : (∑ k ∈ s, f k) * (r : EReal) = ∑ k ∈ s, f k * r := by
  classical
  induction s using Finset.induction_on with
  | empty => simp
  | insert a s ha ih => rw [Finset.sum_insert ha, Finset.sum_insert ha, add_mul_real _ _ h, ih]

/-- Scores to exponents of two: shifted by the far bias and scaled by the logarithm's base. -/
def shift (f : ℝ) (x : EReal) : EReal := (x - f) * (lg : EReal)

theorem shift_bot (f : ℝ) : shift f ⊥ = ⊥ := by
  unfold shift
  rw [EReal.bot_sub, EReal.bot_mul_coe_of_pos lg_pos]

theorem shift_top (f : ℝ) : shift f ⊤ = ⊤ := by
  unfold shift
  rw [EReal.top_sub_coe, EReal.top_mul_coe_of_pos lg_pos]

theorem shift_coe (f x : ℝ) : shift f x = ((x - f) * lg : ℝ) := rfl

theorem shift_mono (f : ℝ) : Monotone (shift f) := fun x y h =>
  mul_le_mul_of_nonneg_right (EReal.sub_le_sub h le_rfl) (EReal.coe_nonneg.2 lg_pos.le)

/-- The base-two exponential of a shifted difference is the natural exponential of the difference. -/
theorem exp2_shift (f : ℝ) (x m : EReal) : Ideal.exp2 (shift f x - shift f m) = Ideal.exp (x - m) := by
  induction x with
  | bot => rw [shift_bot, EReal.bot_sub, EReal.bot_sub]; rfl
  | top =>
    rw [shift_top]
    induction m with
    | bot => rw [shift_bot]; rfl
    | top => rw [shift_top]; rfl
    | coe m => rw [shift_coe, EReal.top_sub_coe, EReal.top_sub_coe]; rfl
  | coe x =>
    rw [shift_coe]
    induction m with
    | bot => rw [shift_bot]; rfl
    | top => rw [shift_top]; rfl
    | coe m =>
      rw [shift_coe, ← EReal.coe_sub, ← EReal.coe_sub]
      show (((2 : ℝ) ^ ((x - f) * lg - (m - f) * lg) : ℝ) : EReal) = ((Real.exp (x - m) : ℝ) : EReal)
      refine congrArg _ ?_
      have h2 : Real.log 2 ≠ 0 := (Real.log_pos (by norm_num)).ne'
      rw [Real.rpow_def_of_pos (by norm_num)]
      refine congrArg _ ?_
      unfold lg
      field_simp
      ring

namespace Ctx
variable (C : Ctx) (b : ℕ → EReal)

/-- The scale `1/√128` of the scores, as rounded. -/
def ss : EReal := Ideal.ofBits .f32 0x3DB504F3#32

/-- A query's scores, minus infinity for a later key. -/
def RX (q k : ℕ) : EReal :=
  if k ≤ q then (∑ d ∈ Finset.range 128, C.Q q d * C.K k d) * (ss * C.qs * C.ks) + b (bkt (q - k)) else ⊥
/-- A query's greatest score. -/
def RM (q : ℕ) : EReal := (Finset.range 896).sup fun k => C.RX b q k
/-- The weights before normalizing. -/
def RE (q k : ℕ) : EReal := Ideal.exp (C.RX b q k - C.RM b q)
/-- A query's total weight. -/
def RL' (q : ℕ) : EReal := ∑ k ∈ Finset.range 896, C.RE b q k
/-- The softmax weights. -/
def RP (q k : ℕ) : EReal := C.RE b q k * Ideal.div 1 (C.RL' b q)
/-- The weights' gradients. -/
def RDP (q k : ℕ) : EReal := (∑ d ∈ Finset.range 128, C.DO q d * C.V k d) * (C.os * C.vs)
/-- A query's mean weight gradient. -/
def RDR (q : ℕ) : EReal := ∑ k ∈ Finset.range 896, C.RP b q k * C.RDP q k
/-- The scores' gradients. -/
def RDS (q k : ℕ) : EReal := C.RP b q k * (C.RDP q k - C.RDR b q)
/-- The queries' gradient. -/
def RDQ (q d : ℕ) : EReal := (∑ k ∈ Finset.range 896, C.RDS b q k * C.K k d) * (ss * C.ks)
/-- The keys' gradient. -/
def RDK (k d : ℕ) : EReal := (∑ q ∈ Finset.range 896, C.RDS b q k * C.Q q d) * (ss * C.qs)
/-- The values' gradient. -/
def RDV (k d : ℕ) : EReal := (∑ q ∈ Finset.range 896, C.RP b q k * C.DO q d) * C.os

/-- What is assumed: the bias tile holds the biases of the distances less the far bias, scaled; the far bias is finite; the
    two scales of the weights' gradients are finite and not negative. -/
structure Ok (f o v : ℝ) : Prop where
  hT : ∀ a < 128, ∀ l < 256, C.T a l = if a ≤ l then (b (bkt (l - a)) - f) * (lg : EReal) else ⊥
  hf : b 31 = f
  ho : C.os = o
  hv : C.vs = v
  o0 : 0 ≤ o
  v0 : 0 ≤ v

end Ctx

namespace Ctx.Ok
variable {C : Ctx} {b : ℕ → EReal} {f o v : ℝ} (H : C.Ok b f o v)
include H

theorem c_eq : C.c = ss * C.qs * C.ks * (lg : EReal) := rfl

theorem sc_eq (k q : ℕ) : C.Sc k q = (∑ d ∈ Finset.range 128, C.Q q d * C.K k d) * (ss * C.qs * C.ks) * (lg : EReal) := by
  unfold Ctx.Sc Ctx.S
  rw [H.c_eq, ← mul_assoc]
  simp only [Nat.zero_add, mul_comm]

theorem shift_real (x : EReal) : shift f (x + (f : EReal)) = x * (lg : EReal) := by
  unfold shift
  rw [sub_eq_add_neg, add_assoc, ← sub_eq_add_neg, ← EReal.coe_sub, sub_self, EReal.coe_zero, add_zero]

/-- The kernel's scores are the shifted scores. -/
theorem u_eq (k q : ℕ) (h : k < 128 * (q / 128 + 1)) : C.U k q = shift f (C.RX b q k) := by
  unfold Ctx.U Ctx.RX
  by_cases hn : q / 128 ≤ k / 128 + 1
  · rw [if_pos hn, H.sc_eq, H.hT _ (by omega) _ (by omega)]
    by_cases hq : k ≤ q
    · rw [if_pos (by omega), if_pos hq, show 128 * (q / 128 - k / 128) + q % 128 - k % 128 = q - k by omega]
      unfold shift
      rw [← add_mul_real _ _ lg_pos.le, sub_eq_add_neg, sub_eq_add_neg, add_assoc]
    · rw [if_neg (by omega), if_neg hq, shift_bot, EReal.add_bot]
  · rw [if_neg hn, if_pos (by omega), bkt_far (by omega), H.hf, H.shift_real, H.sc_eq]

/-- A later key block has no score. -/
theorem rx_far (k q : ℕ) (h : 128 * (q / 128 + 1) ≤ k) : C.RX b q k = ⊥ := if_neg (by omega)

/-- The kernel's greatest score is the shifted one. -/
theorem m_eq (q : ℕ) (hq : q < 896) : C.M q = shift f (C.RM b q) := by
  unfold Ctx.M CMax Ctx.RM
  rw [Finset.comp_sup_eq_sup_comp_of_is_total (shift f) (shift_mono f) (shift_bot f)]
  refine le_antisymm (Finset.sup_le fun k hk => ?_) (Finset.sup_le fun k hk => ?_)
  · have hk := Finset.mem_range.1 hk
    rw [H.u_eq k q hk]
    exact Finset.le_sup (f := shift f ∘ fun k => C.RX b q k) (Finset.mem_range.2 (by omega))
  · by_cases h : k < 128 * (q / 128 + 1)
    · show shift f (C.RX b q k) ≤ _
      rw [← H.u_eq k q h]
      exact Finset.le_sup (f := fun k => C.U k q) (Finset.mem_range.2 h)
    · show shift f (C.RX b q k) ≤ _
      rw [H.rx_far k q (by omega), shift_bot]; exact bot_le

theorem e_eq (k q : ℕ) (hq : q < 896) (h : k < 128 * (q / 128 + 1)) : C.RE b q k = C.E k q := by
  unfold Ctx.E Ctx.RE
  rw [H.m_eq q hq, H.u_eq k q h, exp2_shift]

theorem e_far (k q : ℕ) (h : 128 * (q / 128 + 1) ≤ k) : C.RE b q k = 0 := by
  unfold Ctx.RE
  rw [H.rx_far k q h, EReal.bot_sub]; rfl

/-- A sum over all keys of what vanishes at later blocks. -/
theorem sum_eq (q : ℕ) (hq : q < 896) (F G : ℕ → EReal) (h1 : ∀ k < 128 * (q / 128 + 1), F k = G k)
    (h2 : ∀ k, 128 * (q / 128 + 1) ≤ k → F k = 0) : ∑ k ∈ Finset.range 896, F k = ∑ k ∈ Finset.range (128 * (q / 128 + 1)), G k := by
  rw [← Finset.sum_subset (Finset.range_mono (show 128 * (q / 128 + 1) ≤ 896 by omega))
    (fun k _ hk => h2 k (by simpa using hk))]
  exact Finset.sum_congr rfl fun k hk => h1 k (Finset.mem_range.1 hk)

theorem l_eq (q : ℕ) (hq : q < 896) : C.RL' b q = Ctx.LSum C.E q :=
  H.sum_eq q hq _ _ (fun k hk => H.e_eq k q hq hk) (fun k hk => H.e_far k q hk)

theorem rl_eq (q : ℕ) (hq : q < 896) : Ideal.div 1 (C.RL' b q) = C.RL q := by
  unfold Ctx.RL
  rw [H.l_eq q hq, show Ideal.ofBits .f32 1065353216#32 = 1 from Ideal.ofBits_one_f32]

theorem p_eq (k q : ℕ) (hq : q < 896) : C.RP b q k = C.PT k q := by
  unfold Ctx.RP Ctx.PT Ctx.P
  rw [H.rl_eq q hq]
  by_cases h : k / 128 ≤ q / 128
  · rw [if_pos h, H.e_eq k q hq (by omega)]
  · rw [if_neg h, H.e_far k q (by omega), zero_mul]

theorem dp_eq (k q : ℕ) : C.RDP q k = C.D k q * ((o * v : ℝ) : EReal) := by
  unfold Ctx.RDP Ctx.D
  rw [H.ho, H.hv, ← EReal.coe_mul]
  simp only [Nat.zero_add, mul_comm (C.DO _ _)]

theorem e_nonneg (k q : ℕ) : 0 ≤ C.E k q := by
  unfold Ctx.E
  induction C.U k q - C.M q with
  | bot => exact le_rfl
  | top => exact le_top
  | coe x => exact EReal.coe_nonneg.2 (Real.rpow_nonneg (by norm_num) x)

/-- The reciprocal of the total weight distributes over the products with the weights. -/
theorem td_eq (q : ℕ) : ∑ k ∈ Finset.range (128 * (q / 128 + 1)), C.P k q * C.D k q = C.TD q := by
  unfold Ctx.TD Ctx.P Ctx.LSum CSum Ctx.ED
  have hl : 0 ≤ Ctx.LSum C.E q := show 0 ≤ ∑ k ∈ Finset.range (128 * (q / 128 + 1)), C.E k q from Finset.sum_nonneg fun k _ => H.e_nonneg k q
  by_cases h0 : Ctx.LSum C.E q = 0
  · have he : ∀ k ∈ Finset.range (128 * (q / 128 + 1)), C.E k q = 0 :=
      (Finset.sum_eq_zero_iff_of_nonneg fun k _ => H.e_nonneg k q).1 h0
    rw [Finset.sum_eq_zero fun k hk => by rw [he k hk, zero_mul, zero_mul],
      Finset.sum_eq_zero fun k hk => by rw [he k hk, zero_mul], zero_mul]
  · obtain ⟨r, hr, hr0⟩ : ∃ r : ℝ, C.RL q = r ∧ 0 ≤ r := by
      unfold Ctx.RL
      rw [show Ideal.ofBits .f32 1065353216#32 = 1 from Ideal.ofBits_one_f32]
      induction h : Ctx.LSum C.E q with
      | bot => rw [h] at hl; exact absurd hl (by simp)
      | top => exact ⟨0, by unfold Ideal.div; simp, le_rfl⟩
      | coe x =>
        rw [h] at hl h0
        have hx : 0 ≤ x := EReal.coe_nonneg.1 hl
        have hx0 : x ≠ 0 := fun e => h0 (by rw [e]; rfl)
        refine ⟨x⁻¹, ?_, inv_nonneg.2 hx⟩
        unfold Ideal.div
        rw [if_neg h0, one_mul]
        rfl
    rw [hr, sum_mul_real _ _ hr0]
    exact Finset.sum_congr rfl fun k _ => by rw [mul_right_comm]

theorem dr_eq (q : ℕ) (hq : q < 896) : C.RDR b q = C.TD q * ((o * v : ℝ) : EReal) := by
  unfold Ctx.RDR
  rw [← H.td_eq q, sum_mul_real _ _ (mul_nonneg H.o0 H.v0)]
  refine H.sum_eq q hq _ _ (fun k hk => ?_) (fun k hk => ?_)
  · rw [H.p_eq k q hq, H.dp_eq, ← mul_assoc]
    unfold Ctx.PT
    rw [if_pos (by omega)]
  · rw [H.p_eq k q hq]
    unfold Ctx.PT
    rw [if_neg (by omega), zero_mul]

/-- The scores' gradients carry the two scales as a factor. -/
theorem ds_eq (k q : ℕ) (hq : q < 896) : C.RDS b q k = C.DST k q * ((o * v : ℝ) : EReal) := by
  unfold Ctx.RDS Ctx.DST Ctx.DS
  rw [H.p_eq k q hq, H.dr_eq q hq, H.dp_eq, ← sub_mul_real _ _ (mul_nonneg H.o0 H.v0), ← mul_assoc]
  unfold Ctx.PT
  by_cases h : k / 128 ≤ q / 128
  · rw [if_pos h, if_pos h]
  · rw [if_neg h, if_neg h, zero_mul]

theorem dps_eq : C.dps = ((o * v : ℝ) : EReal) := by
  show C.os * C.vs = _
  rw [H.ho, H.hv, ← EReal.coe_mul]

/-- The queries' gradient. -/
theorem dq_eq (q d : ℕ) (hq : q < 896) : C.DQ q d = C.RDQ b q d := by
  unfold Ctx.DQ Ctx.RDQ Ctx.gq
  rw [H.dps_eq]
  show _ * (ss * C.ks * _) = _
  rw [mul_comm (ss * C.ks), ← mul_assoc, sum_mul_real _ _ (mul_nonneg H.o0 H.v0)]
  refine congrArg (· * _) (Finset.sum_congr rfl fun k _ => ?_)
  rw [H.ds_eq k q hq, mul_comm (C.K k d), mul_right_comm]

/-- The keys' gradient. -/
theorem dk_eq (k d : ℕ) : C.DK k d = C.RDK b k d := by
  unfold Ctx.DK Ctx.RDK Ctx.gk
  rw [H.dps_eq]
  show _ * (ss * C.qs * _) = _
  rw [mul_comm (ss * C.qs), ← mul_assoc, sum_mul_real _ _ (mul_nonneg H.o0 H.v0)]
  refine congrArg (· * _) (Finset.sum_congr rfl fun q hq => ?_)
  rw [H.ds_eq k q (Finset.mem_range.1 hq), mul_right_comm]

/-- The values' gradient. -/
theorem dv_eq (k d : ℕ) : C.DV k d = C.RDV b k d := by
  unfold Ctx.DV Ctx.RDV
  refine congrArg (· * _) (Finset.sum_congr rfl fun q hq => ?_)
  rw [H.p_eq k q (Finset.mem_range.1 hq), mul_comm]

end Ctx.Ok

end Cert.KernelIdeal.Tiles
-- ==== Proof.Args.lean ====
/-
  The nine arguments as the data of one head and batch.
-/
module

public import proofs.«01_k».proof.Proof.Equation

@[expose] public section

noncomputable section

namespace Cert.KernelIdeal.Gen
open Idealize.ShloMosaic Idealize.ShloMosaic.ValueIdx Idealize.SL.Sem Cert.KernelIdeal Cert.KernelIdeal.Tiles

/-- One head's bias at a bucket. -/
def biasAt (x8 : S20x32.Idx → EReal) (h : Fin 20) (n : ℕ) : EReal := x8 (ix2 h (Fin.ofNat 32 n))

/-- The data of batch `b`, head `h`, read off the nine arguments. -/
def ctx (x0 x1 x2 : S2x896x20x128.Idx → EReal) (x3 x4 x5 : S2x20.Idx → EReal) (x6 : S2x896x20x128.Idx → EReal)
    (x7 : S2x20.Idx → EReal) (x8 : S20x32.Idx → EReal) (b : Fin 2) (h : Fin 20) : Ctx where
  Q q d := x0 (ix4 b (Fin.ofNat 896 q) h (Fin.ofNat 128 d))
  K k d := x1 (ix4 b (Fin.ofNat 896 k) h (Fin.ofNat 128 d))
  V k d := x2 (ix4 b (Fin.ofNat 896 k) h (Fin.ofNat 128 d))
  DO q d := x6 (ix4 b (Fin.ofNat 896 q) h (Fin.ofNat 128 d))
  T a l := if a ≤ l then (biasAt x8 h (bkt (l - a)) - biasAt x8 h 31) * (lg : EReal) else ⊥
  qs := x3 (ix2 b h)
  ks := x4 (ix2 b h)
  vs := x5 (ix2 b h)
  os := x7 (ix2 b h)

end Cert.KernelIdeal.Gen
-- ==== Proof.CaseA0.lean ====
/-
  The kernel's values at a grid point of even batch, operation by operation, as tiles of the matrices of `Model`.
-/
module

public import proofs.«01_k».proof.Proof.Model

@[expose] public section

set_option maxRecDepth 16384

noncomputable section

namespace Cert.KernelIdeal.Gen.CaseA

open Idealize.ShloMosaic Idealize.ShloMosaic.ValueIdx Idealize.SL.Sem Cert.KernelIdeal.Tiles
open Cert.KernelIdeal.Gen.kernelRun0_A

/-- What the point is given: its blocks, scales and bias table are those of `C`. -/
structure Ins (c : Dev nD) (i : grid0.Coords) (a2 : Memref sig .tc .smem S2x20 .f32) (h2 : a2.IsWhole)
  (a3 : Memref sig .tc .smem S2x20 .f32) (h3 : a3.IsWhole) (a4 : Memref sig .tc .smem S2x20 .f32) (h4 : a4.IsWhole)
  (a5 : Memref sig .tc .smem S2x20 .f32) (h5 : a5.IsWhole) (a6 : Memref sig .tc .smem S20x32 .f32) (h6 : a6.IsWhole)
  (a7 : Memref sig .tc .vmem S1x1x896x128 .fp8e4m3) (h7 : a7.IsWhole) (a8 : Memref sig .tc .vmem S1x1x896x128 .fp8e4m3) (h8 : a8.IsWhole)
  (a9 : Memref sig .tc .vmem S1x1x896x128 .fp8e4m3) (h9 : a9.IsWhole) (a10 : Memref sig .tc .vmem S1x1x896x128 .fp8e5m2) (h10 : a10.IsWhole)
  (a15 : Memref sig .tc .vmem S128x256 .f32) (hc0 : cond0_0 i) (x0 : Vec Ideal S2x20 .f32) (x1 : Vec Ideal S2x20 .f32)
  (x2 : Vec Ideal S2x20 .f32) (x3 : Vec Ideal S2x20 .f32) (x4 : Vec Ideal S20x32 .f32) (x5 : Vec Ideal S1x1x896x128 .fp8e4m3)
  (x6 : Vec Ideal S1x1x896x128 .fp8e4m3) (x7 : Vec Ideal S1x1x896x128 .fp8e4m3) (x8 : Vec Ideal S1x1x896x128 .fp8e5m2) (C : Ctx) : Prop where
  bQ : Sub (sl.r_44 (F := Ideal) c a7 h7 x5) C.Q 0 0
  bK : Sub (sl.r_45 (F := Ideal) c a8 h8 x6) C.K 0 0
  bV : Sub (sl.r_46 (F := Ideal) c a9 h9 x7) C.V 0 0
  bDO : Sub (sl.r_47 (F := Ideal) c a10 h10 x8) C.DO 0 0
  sq : sl.r_40 (F := Ideal) c i a2 h2 x0 = C.qs
  sk : sl.r_41 (F := Ideal) c i a3 h3 x1 = C.ks
  sv : sl.r_43 (F := Ideal) c i a4 h4 x2 = C.vs
  so : sl.r_42 (F := Ideal) c i a5 h5 x3 = C.os
  hT : Sub (k0_pay28 (F := Ideal) (sl.r_39 (F := Ideal) c i a6 h6 hc0 x4) k0_pay17 sl.cst_452) C.T 0 0

variable {c : Dev nD} {i : grid0.Coords} {a2 : Memref sig .tc .smem S2x20 .f32} {h2 : a2.IsWhole}
  {a3 : Memref sig .tc .smem S2x20 .f32} {h3 : a3.IsWhole} {a4 : Memref sig .tc .smem S2x20 .f32} {h4 : a4.IsWhole}
  {a5 : Memref sig .tc .smem S2x20 .f32} {h5 : a5.IsWhole} {a6 : Memref sig .tc .smem S20x32 .f32} {h6 : a6.IsWhole}
  {a7 : Memref sig .tc .vmem S1x1x896x128 .fp8e4m3} {h7 : a7.IsWhole} {a8 : Memref sig .tc .vmem S1x1x896x128 .fp8e4m3} {h8 : a8.IsWhole}
  {a9 : Memref sig .tc .vmem S1x1x896x128 .fp8e4m3} {h9 : a9.IsWhole} {a10 : Memref sig .tc .vmem S1x1x896x128 .fp8e5m2} {h10 : a10.IsWhole}
  {a15 : Memref sig .tc .vmem S128x256 .f32} {hc0 : cond0_0 i} {x0 : Vec Ideal S2x20 .f32} {x1 : Vec Ideal S2x20 .f32}
  {x2 : Vec Ideal S2x20 .f32} {x3 : Vec Ideal S2x20 .f32} {x4 : Vec Ideal S20x32 .f32} {x5 : Vec Ideal S1x1x896x128 .fp8e4m3}
  {x6 : Vec Ideal S1x1x896x128 .fp8e4m3} {x7 : Vec Ideal S1x1x896x128 .fp8e4m3} {x8 : Vec Ideal S1x1x896x128 .fp8e5m2} {C : Ctx}
  {a16 a17 : Memref sig .tc .vmem S896x896 .bf16}

variable (H : Ins c i a2 h2 a3 h3 a4 h4 a5 h5 a6 h6 a7 h7 a8 h8 a9 h9 a10 h10 a15 hc0 x0 x1 x2 x3 x4 x5 x6 x7 x8 C)
include H

/-- The transposed keys. -/
theorem Ins.bKT : Sub (sl.r_50 (F := Ideal) c a8 h8 x6) (fun d k => C.K k d) 0 0 := trunc (tr (ext H.bK _) _) _
/-- The first key block. -/
theorem Ins.bK0 : Sub (sl.r_51 (F := Ideal) c a8 h8 x6) C.K 0 0 :=
  slice (m' := 128) (n' := 128) H.bK 0 0 slices_S896x128_o0_0_S128x128
/-- The first query block. -/
theorem Ins.bQ0 : Sub (sl.r_52 (F := Ideal) c a7 h7 x5) C.Q 0 0 :=
  slice (m' := 128) (n' := 128) H.bQ 0 0 slices_S896x128_o0_0_S128x128
/-- The scores' factor. -/
theorem Ins.hc : sl.r_48 (F := Ideal) c i a2 h2 a3 h3 x0 x1 = C.c := congrArg₂ (fun a b => k0_pay33 (F := Ideal) a b) H.sq H.sk
/-- The weights' gradients' factor. -/
theorem Ins.hdps : sl.r_49 (F := Ideal) c i a4 h4 a5 h5 x2 x3 = C.dps := congrArg₂ (fun a b => k0_pay34 (F := Ideal) a b) H.so H.sv
/-- The queries' gradient's factor. -/
theorem Ins.hgq : sl.v83 (F := Ideal) c i a3 h3 a4 h4 a5 h5 x1 x2 x3 = C.gq := congrArg₂ (fun a b => Ideal.ofBits .f32 0x3DB504F3#32 * a * b) H.sk H.hdps
/-- The keys' gradient's factor. -/
theorem Ins.hgk : sl.v1066 (F := Ideal) c i a2 h2 a4 h4 a5 h5 x0 x2 x3 = C.gk := congrArg₂ (fun a b => Ideal.ofBits .f32 0x3DB504F3#32 * a * b) H.sq H.hdps
/-- The values' gradient's factor. -/
theorem Ins.hos : sl.r_55 (F := Ideal) c i a5 h5 x3 = C.os := H.so
/-- A load of the bias table at column 0. -/
theorem toep0 {inb : ∀ a, (![0, 0] : Fin 2 → ℕ) a + S128x128.size a ≤ S128x256.size a} : Sub (m := 128) (n := 128) (View.readCov a15.view (sl.HS0_1 (F := Ideal) c i a6 h6 hc0 x4) (Rect.unit (s := S128x256) ![0, 0] S128x128.size inb).toLoadRect) C.T 0 0 :=
  loadOne a15.view H.hT 0 0 inb
/-- A load of the bias table at column 128. -/
theorem toep128 {inb : ∀ a, (![0, 128] : Fin 2 → ℕ) a + S128x128.size a ≤ S128x256.size a} : Sub (m := 128) (n := 128) (View.readCov a15.view (sl.HS0_1 (F := Ideal) c i a6 h6 hc0 x4) (Rect.unit (s := S128x256) ![0, 128] S128x128.size inb).toLoadRect) C.T 0 128 :=
  loadOne a15.view H.hT 0 128 inb

/-- Keys by queries of the tile at 0, 640. -/
theorem t617 : Sub (sl.v617 (F := Ideal) c a7 h7 a8 h8 x5 x6) C.S 0 640 :=
  mmT rfl (H.bK) (slice (H.bQ) 640 0 _)

/-- Scores of the tile at 768, 768. -/
theorem t867 : Sub (sl.v867 (F := Ideal) c i a2 h2 a3 h3 a6 h6 a7 h7 a8 h8 a15 hc0 x0 x1 x4 x5 x6) C.U 768 768 :=
  uNear (C := C) 6 6 0 rfl (by omega) (mul (slice (t617 H) 768 128 _) (splatV H.hc _ _)) (toep0 H)

/-- Scores of the tile at 0, 768. -/
theorem t822 : Sub (sl.v822 (F := Ideal) c i a2 h2 a3 h3 a7 h7 a8 h8 x0 x1 x5 x6) C.U 0 768 :=
  uFar (C := C) 0 6 (by decide) (mul (slice (t617 H) 0 128 _) (splatV H.hc _ _))

/-- Scores of the tile at 128, 768. -/
theorem t828 : Sub (sl.v828 (F := Ideal) c i a2 h2 a3 h3 a7 h7 a8 h8 x0 x1 x5 x6) C.U 128 768 :=
  uFar (C := C) 1 6 (by decide) (mul (slice (t617 H) 128 128 _) (splatV H.hc _ _))

/-- Scores of the tile at 256, 768. -/
theorem t835 : Sub (sl.v835 (F := Ideal) c i a2 h2 a3 h3 a7 h7 a8 h8 x0 x1 x5 x6) C.U 256 768 :=
  uFar (C := C) 2 6 (by decide) (mul (slice (t617 H) 256 128 _) (splatV H.hc _ _))

/-- Scores of the tile at 384, 768. -/
theorem t842 : Sub (sl.v842 (F := Ideal) c i a2 h2 a3 h3 a7 h7 a8 h8 x0 x1 x5 x6) C.U 384 768 :=
  uFar (C := C) 3 6 (by decide) (mul (slice (t617 H) 384 128 _) (splatV H.hc _ _))

/-- Scores of the tile at 512, 768. -/
theorem t849 : Sub (sl.v849 (F := Ideal) c i a2 h2 a3 h3 a7 h7 a8 h8 x0 x1 x5 x6) C.U 512 768 :=
  uFar (C := C) 4 6 (by decide) (mul (slice (t617 H) 512 128 _) (splatV H.hc _ _))

/-- Scores of the tile at 640, 768. -/
theorem t858 : Sub (sl.v858 (F := Ideal) c i a2 h2 a3 h3 a6 h6 a7 h7 a8 h8 a15 hc0 x0 x1 x4 x5 x6) C.U 640 768 :=
  uNear (C := C) 5 6 1 rfl (by omega) (mul (slice (t617 H) 640 128 _) (splatV H.hc _ _)) (toep128 H)

/-- The queries' greatest scores from 768. -/
theorem t873 : Sub (sl.v873 (F := Ideal) c i a2 h2 a3 h3 a6 h6 a7 h7 a8 h8 a15 hc0 x0 x1 x4 x5 x6) (fun _ q => C.M q) 0 768 :=
  row1 (rowM (C := C) 6 (colMax (pmaxS 6 768 rfl (pmaxS 5 640 rfl (pmaxS 4 512 rfl (pmaxS 3 384 rfl (pmaxS 2 256 rfl (pmaxS 1 128 rfl (pmax0 (groupMax (split3 (t822 H) rfl _) _ _ _)) (groupMax (split3 (t828 H) rfl _) _ _ _)) (groupMax (split3 (t835 H) rfl _) _ _ _)) (groupMax (split3 (t842 H) rfl _) _ _ _)) (groupMax (split3 (t849 H) rfl _) _ _ _)) (groupMax (split3 (t858 H) rfl _) _ _ _)) (groupMax (split3 (t867 H) rfl _) _ _ _)) _ _ _)) _

/-- Weights before normalizing of the tile at 768, 768. -/
theorem t934 : Sub (sl.v934 (F := Ideal) c i a2 h2 a3 h3 a6 h6 a7 h7 a8 h8 a15 hc0 x0 x1 x4 x5 x6) C.E 768 768 :=
  exp2' (sub (t867 H) (spread (t873 H) (by decide) _ _))

/-- Weights before normalizing of the tile at 0, 768. -/
theorem t876 : Sub (sl.v876 (F := Ideal) c i a2 h2 a3 h3 a6 h6 a7 h7 a8 h8 a15 hc0 x0 x1 x4 x5 x6) C.E 0 768 :=
  exp2' (sub (t822 H) (spread (t873 H) (by decide) _ _))

/-- Weights before normalizing of the tile at 128, 768. -/
theorem t884 : Sub (sl.v884 (F := Ideal) c i a2 h2 a3 h3 a6 h6 a7 h7 a8 h8 a15 hc0 x0 x1 x4 x5 x6) C.E 128 768 :=
  exp2' (sub (t828 H) (spread (t873 H) (by decide) _ _))

/-- Weights before normalizing of the tile at 256, 768. -/
theorem t894 : Sub (sl.v894 (F := Ideal) c i a2 h2 a3 h3 a6 h6 a7 h7 a8 h8 a15 hc0 x0 x1 x4 x5 x6) C.E 256 768 :=
  exp2' (sub (t835 H) (spread (t873 H) (by decide) _ _))

/-- Weights before normalizing of the tile at 384, 768. -/
theorem t904 : Sub (sl.v904 (F := Ideal) c i a2 h2 a3 h3 a6 h6 a7 h7 a8 h8 a15 hc0 x0 x1 x4 x5 x6) C.E 384 768 :=
  exp2' (sub (t842 H) (spread (t873 H) (by decide) _ _))

/-- Weights before normalizing of the tile at 512, 768. -/
theorem t914 : Sub (sl.v914 (F := Ideal) c i a2 h2 a3 h3 a6 h6 a7 h7 a8 h8 a15 hc0 x0 x1 x4 x5 x6) C.E 512 768 :=
  exp2' (sub (t849 H) (spread (t873 H) (by decide) _ _))

/-- Weights before normalizing of the tile at 640, 768. -/
theorem t924 : Sub (sl.v924 (F := Ideal) c i a2 h2 a3 h3 a6 h6 a7 h7 a8 h8 a15 hc0 x0 x1 x4 x5 x6) C.E 640 768 :=
  exp2' (sub (t858 H) (spread (t873 H) (by decide) _ _))

/-- The reciprocals of the queries' total weights from 768. -/
theorem t945 : Sub (sl.v945 (F := Ideal) c i a2 h2 a3 h3 a6 h6 a7 h7 a8 h8 a15 hc0 x0 x1 x4 x5 x6) (fun _ q => C.RL q) 0 768 :=
  div (splatV rfl _ _) (row1 (rowL (G := C.E) 6 (colSum (psumS 6 768 rfl (psumS 5 640 rfl (psumS 4 512 rfl (psumS 3 384 rfl (psumS 2 256 rfl (psumS 1 128 rfl (psum0 (groupSum (split3 (t876 H) rfl _) _ _ _)) (groupSum (split3 (t884 H) rfl _) _ _ _)) (groupSum (split3 (t894 H) rfl _) _ _ _)) (groupSum (split3 (t904 H) rfl _) _ _ _)) (groupSum (split3 (t914 H) rfl _) _ _ _)) (groupSum (split3 (t924 H) rfl _) _ _ _)) (groupSum (split3 (t934 H) rfl _) _ _ _)) _ _ _)) _)

/-- Softmax weights of the tile at 768, 768. -/
theorem t1029 : Sub (sl.v1029 (F := Ideal) c i a2 h2 a3 h3 a6 h6 a7 h7 a8 h8 a15 hc0 x0 x1 x4 x5 x6) C.P 768 768 :=
  mul (t934 H) (spread (t945 H) (by decide) _ _)

/-- Values by output gradients of the tile at 0, 640. -/
theorem t619 : Sub (sl.v619 (F := Ideal) c a9 h9 a10 h10 x7 x8) C.D 0 640 :=
  mmT rfl (H.bV) (slice (H.bDO) 640 0 _)

/-- The queries' mean products from 768. -/
theorem t948 : Sub (sl.v948 (F := Ideal) c i a2 h2 a3 h3 a6 h6 a7 h7 a8 h8 a9 h9 a10 h10 a15 hc0 x0 x1 x4 x5 x6 x7 x8) (fun _ q => C.TD q) 0 768 :=
  mul (row1 (rowL (G := C.ED) 6 (colSum (psumS 6 768 rfl (psumS 5 640 rfl (psumS 4 512 rfl (psumS 3 384 rfl (psumS 2 256 rfl (psumS 1 128 rfl (psum0 (groupSum (split3 (mul (t876 H) (slice (t619 H) 0 128 _)) rfl _) _ _ _)) (groupSum (split3 (mul (t884 H) (slice (t619 H) 128 128 _)) rfl _) _ _ _)) (groupSum (split3 (mul (t894 H) (slice (t619 H) 256 128 _)) rfl _) _ _ _)) (groupSum (split3 (mul (t904 H) (slice (t619 H) 384 128 _)) rfl _) _ _ _)) (groupSum (split3 (mul (t914 H) (slice (t619 H) 512 128 _)) rfl _) _ _ _)) (groupSum (split3 (mul (t924 H) (slice (t619 H) 640 128 _)) rfl _) _ _ _)) (groupSum (split3 (mul (t934 H) (slice (t619 H) 768 128 _)) rfl _) _ _ _)) _ _ _)) _) (t945 H)

/-- The scores' gradient of the tile at 768, 768. -/
theorem t1032 : Sub (sl.v1032 (F := Ideal) c i a2 h2 a3 h3 a6 h6 a7 h7 a8 h8 a9 h9 a10 h10 a15 hc0 x0 x1 x4 x5 x6 x7 x8) C.DS 768 768 :=
  mul (t1029 H) (sub (slice (t619 H) 768 128 _) (spread (t948 H) (by decide) _ _))

/-- Softmax weights of the tile at 640, 768. -/
theorem t1015 : Sub (sl.v1015 (F := Ideal) c i a2 h2 a3 h3 a6 h6 a7 h7 a8 h8 a15 hc0 x0 x1 x4 x5 x6) C.P 640 768 :=
  mul (t924 H) (spread (t945 H) (by decide) _ _)

/-- The scores' gradient of the tile at 640, 768. -/
theorem t1018 : Sub (sl.v1018 (F := Ideal) c i a2 h2 a3 h3 a6 h6 a7 h7 a8 h8 a9 h9 a10 h10 a15 hc0 x0 x1 x4 x5 x6 x7 x8) C.DS 640 768 :=
  mul (t1015 H) (sub (slice (t619 H) 640 128 _) (spread (t948 H) (by decide) _ _))

/-- Softmax weights of the tile at 512, 768. -/
theorem t1002 : Sub (sl.v1002 (F := Ideal) c i a2 h2 a3 h3 a6 h6 a7 h7 a8 h8 a15 hc0 x0 x1 x4 x5 x6) C.P 512 768 :=
  mul (t914 H) (spread (t945 H) (by decide) _ _)

/-- The scores' gradient of the tile at 512, 768. -/
theorem t1005 : Sub (sl.v1005 (F := Ideal) c i a2 h2 a3 h3 a6 h6 a7 h7 a8 h8 a9 h9 a10 h10 a15 hc0 x0 x1 x4 x5 x6 x7 x8) C.DS 512 768 :=
  mul (t1002 H) (sub (slice (t619 H) 512 128 _) (spread (t948 H) (by decide) _ _))

/-- Softmax weights of the tile at 384, 768. -/
theorem t989 : Sub (sl.v989 (F := Ideal) c i a2 h2 a3 h3 a6 h6 a7 h7 a8 h8 a15 hc0 x0 x1 x4 x5 x6) C.P 384 768 :=
  mul (t904 H) (spread (t945 H) (by decide) _ _)

/-- The scores' gradient of the tile at 384, 768. -/
theorem t992 : Sub (sl.v992 (F := Ideal) c i a2 h2 a3 h3 a6 h6 a7 h7 a8 h8 a9 h9 a10 h10 a15 hc0 x0 x1 x4 x5 x6 x7 x8) C.DS 384 768 :=
  mul (t989 H) (sub (slice (t619 H) 384 128 _) (spread (t948 H) (by decide) _ _))

/-- Softmax weights of the tile at 256, 768. -/
theorem t976 : Sub (sl.v976 (F := Ideal) c i a2 h2 a3 h3 a6 h6 a7 h7 a8 h8 a15 hc0 x0 x1 x4 x5 x6) C.P 256 768 :=
  mul (t894 H) (spread (t945 H) (by decide) _ _)

/-- The scores' gradient of the tile at 256, 768. -/
theorem t979 : Sub (sl.v979 (F := Ideal) c i a2 h2 a3 h3 a6 h6 a7 h7 a8 h8 a9 h9 a10 h10 a15 hc0 x0 x1 x4 x5 x6 x7 x8) C.DS 256 768 :=
  mul (t976 H) (sub (slice (t619 H) 256 128 _) (spread (t948 H) (by decide) _ _))

/-- Softmax weights of the tile at 128, 768. -/
theorem t963 : Sub (sl.v963 (F := Ideal) c i a2 h2 a3 h3 a6 h6 a7 h7 a8 h8 a15 hc0 x0 x1 x4 x5 x6) C.P 128 768 :=
  mul (t884 H) (spread (t945 H) (by decide) _ _)

/-- The scores' gradient of the tile at 128, 768. -/
theorem t966 : Sub (sl.v966 (F := Ideal) c i a2 h2 a3 h3 a6 h6 a7 h7 a8 h8 a9 h9 a10 h10 a15 hc0 x0 x1 x4 x5 x6 x7 x8) C.DS 128 768 :=
  mul (t963 H) (sub (slice (t619 H) 128 128 _) (spread (t948 H) (by decide) _ _))

/-- Softmax weights of the tile at 0, 768. -/
theorem t950 : Sub (sl.v950 (F := Ideal) c i a2 h2 a3 h3 a6 h6 a7 h7 a8 h8 a15 hc0 x0 x1 x4 x5 x6) C.P 0 768 :=
  mul (t876 H) (spread (t945 H) (by decide) _ _)

/-- The scores' gradient of the tile at 0, 768. -/
theorem t953 : Sub (sl.v953 (F := Ideal) c i a2 h2 a3 h3 a6 h6 a7 h7 a8 h8 a9 h9 a10 h10 a15 hc0 x0 x1 x4 x5 x6 x7 x8) C.DS 0 768 :=
  mul (t950 H) (sub (slice (t619 H) 0 128 _) (spread (t948 H) (by decide) _ _))

/-- Scores of the tile at 640, 640. -/
theorem t660 : Sub (sl.v660 (F := Ideal) c i a2 h2 a3 h3 a6 h6 a7 h7 a8 h8 a15 hc0 x0 x1 x4 x5 x6) C.U 640 640 :=
  uNear (C := C) 5 5 0 rfl (by omega) (mul (slice (t617 H) 640 0 _) (splatV H.hc _ _)) (toep0 H)

/-- Scores of the tile at 0, 640. -/
theorem t622 : Sub (sl.v622 (F := Ideal) c i a2 h2 a3 h3 a7 h7 a8 h8 x0 x1 x5 x6) C.U 0 640 :=
  uFar (C := C) 0 5 (by decide) (mul (slice (t617 H) 0 0 _) (splatV H.hc _ _))

/-- Scores of the tile at 128, 640. -/
theorem t628 : Sub (sl.v628 (F := Ideal) c i a2 h2 a3 h3 a7 h7 a8 h8 x0 x1 x5 x6) C.U 128 640 :=
  uFar (C := C) 1 5 (by decide) (mul (slice (t617 H) 128 0 _) (splatV H.hc _ _))

/-- Scores of the tile at 256, 640. -/
theorem t635 : Sub (sl.v635 (F := Ideal) c i a2 h2 a3 h3 a7 h7 a8 h8 x0 x1 x5 x6) C.U 256 640 :=
  uFar (C := C) 2 5 (by decide) (mul (slice (t617 H) 256 0 _) (splatV H.hc _ _))

/-- Scores of the tile at 384, 640. -/
theorem t642 : Sub (sl.v642 (F := Ideal) c i a2 h2 a3 h3 a7 h7 a8 h8 x0 x1 x5 x6) C.U 384 640 :=
  uFar (C := C) 3 5 (by decide) (mul (slice (t617 H) 384 0 _) (splatV H.hc _ _))

/-- Scores of the tile at 512, 640. -/
theorem t651 : Sub (sl.v651 (F := Ideal) c i a2 h2 a3 h3 a6 h6 a7 h7 a8 h8 a15 hc0 x0 x1 x4 x5 x6) C.U 512 640 :=
  uNear (C := C) 4 5 1 rfl (by omega) (mul (slice (t617 H) 512 0 _) (splatV H.hc _ _)) (toep128 H)

/-- The queries' greatest scores from 640. -/
theorem t666 : Sub (sl.v666 (F := Ideal) c i a2 h2 a3 h3 a6 h6 a7 h7 a8 h8 a15 hc0 x0 x1 x4 x5 x6) (fun _ q => C.M q) 0 640 :=
  row1 (rowM (C := C) 5 (colMax (pmaxS 5 640 rfl (pmaxS 4 512 rfl (pmaxS 3 384 rfl (pmaxS 2 256 rfl (pmaxS 1 128 rfl (pmax0 (groupMax (split3 (t622 H) rfl _) _ _ _)) (groupMax (split3 (t628 H) rfl _) _ _ _)) (groupMax (split3 (t635 H) rfl _) _ _ _)) (groupMax (split3 (t642 H) rfl _) _ _ _)) (groupMax (split3 (t651 H) rfl _) _ _ _)) (groupMax (split3 (t660 H) rfl _) _ _ _)) _ _ _)) _

/-- Weights before normalizing of the tile at 640, 640. -/
theorem t717 : Sub (sl.v717 (F := Ideal) c i a2 h2 a3 h3 a6 h6 a7 h7 a8 h8 a15 hc0 x0 x1 x4 x5 x6) C.E 640 640 :=
  exp2' (sub (t660 H) (spread (t666 H) (by decide) _ _))

/-- Weights before normalizing of the tile at 0, 640. -/
theorem t669 : Sub (sl.v669 (F := Ideal) c i a2 h2 a3 h3 a6 h6 a7 h7 a8 h8 a15 hc0 x0 x1 x4 x5 x6) C.E 0 640 :=
  exp2' (sub (t622 H) (spread (t666 H) (by decide) _ _))

/-- Weights before normalizing of the tile at 128, 640. -/
theorem t677 : Sub (sl.v677 (F := Ideal) c i a2 h2 a3 h3 a6 h6 a7 h7 a8 h8 a15 hc0 x0 x1 x4 x5 x6) C.E 128 640 :=
  exp2' (sub (t628 H) (spread (t666 H) (by decide) _ _))

/-- Weights before normalizing of the tile at 256, 640. -/
theorem t687 : Sub (sl.v687 (F := Ideal) c i a2 h2 a3 h3 a6 h6 a7 h7 a8 h8 a15 hc0 x0 x1 x4 x5 x6) C.E 256 640 :=
  exp2' (sub (t635 H) (spread (t666 H) (by decide) _ _))

/-- Weights before normalizing of the tile at 384, 640. -/
theorem t697 : Sub (sl.v697 (F := Ideal) c i a2 h2 a3 h3 a6 h6 a7 h7 a8 h8 a15 hc0 x0 x1 x4 x5 x6) C.E 384 640 :=
  exp2' (sub (t642 H) (spread (t666 H) (by decide) _ _))

/-- Weights before normalizing of the tile at 512, 640. -/
theorem t707 : Sub (sl.v707 (F := Ideal) c i a2 h2 a3 h3 a6 h6 a7 h7 a8 h8 a15 hc0 x0 x1 x4 x5 x6) C.E 512 640 :=
  exp2' (sub (t651 H) (spread (t666 H) (by decide) _ _))

/-- The reciprocals of the queries' total weights from 640. -/
theorem t728 : Sub (sl.v728 (F := Ideal) c i a2 h2 a3 h3 a6 h6 a7 h7 a8 h8 a15 hc0 x0 x1 x4 x5 x6) (fun _ q => C.RL q) 0 640 :=
  div (splatV rfl _ _) (row1 (rowL (G := C.E) 5 (colSum (psumS 5 640 rfl (psumS 4 512 rfl (psumS 3 384 rfl (psumS 2 256 rfl (psumS 1 128 rfl (psum0 (groupSum (split3 (t669 H) rfl _) _ _ _)) (groupSum (split3 (t677 H) rfl _) _ _ _)) (groupSum (split3 (t687 H) rfl _) _ _ _)) (groupSum (split3 (t697 H) rfl _) _ _ _)) (groupSum (split3 (t707 H) rfl _) _ _ _)) (groupSum (split3 (t717 H) rfl _) _ _ _)) _ _ _)) _)

/-- Softmax weights of the tile at 640, 640. -/
theorem t799 : Sub (sl.v799 (F := Ideal) c i a2 h2 a3 h3 a6 h6 a7 h7 a8 h8 a15 hc0 x0 x1 x4 x5 x6) C.P 640 640 :=
  mul (t717 H) (spread (t728 H) (by decide) _ _)

/-- The queries' mean products from 640. -/
theorem t731 : Sub (sl.v731 (F := Ideal) c i a2 h2 a3 h3 a6 h6 a7 h7 a8 h8 a9 h9 a10 h10 a15 hc0 x0 x1 x4 x5 x6 x7 x8) (fun _ q => C.TD q) 0 640 :=
  mul (row1 (rowL (G := C.ED) 5 (colSum (psumS 5 640 rfl (psumS 4 512 rfl (psumS 3 384 rfl (psumS 2 256 rfl (psumS 1 128 rfl (psum0 (groupSum (split3 (mul (t669 H) (slice (t619 H) 0 0 _)) rfl _) _ _ _)) (groupSum (split3 (mul (t677 H) (slice (t619 H) 128 0 _)) rfl _) _ _ _)) (groupSum (split3 (mul (t687 H) (slice (t619 H) 256 0 _)) rfl _) _ _ _)) (groupSum (split3 (mul (t697 H) (slice (t619 H) 384 0 _)) rfl _) _ _ _)) (groupSum (split3 (mul (t707 H) (slice (t619 H) 512 0 _)) rfl _) _ _ _)) (groupSum (split3 (mul (t717 H) (slice (t619 H) 640 0 _)) rfl _) _ _ _)) _ _ _)) _) (t728 H)

/-- The scores' gradient of the tile at 640, 640. -/
theorem t802 : Sub (sl.v802 (F := Ideal) c i a2 h2 a3 h3 a6 h6 a7 h7 a8 h8 a9 h9 a10 h10 a15 hc0 x0 x1 x4 x5 x6 x7 x8) C.DS 640 640 :=
  mul (t799 H) (sub (slice (t619 H) 640 0 _) (spread (t731 H) (by decide) _ _))

/-- Softmax weights of the tile at 512, 640. -/
theorem t785 : Sub (sl.v785 (F := Ideal) c i a2 h2 a3 h3 a6 h6 a7 h7 a8 h8 a15 hc0 x0 x1 x4 x5 x6) C.P 512 640 :=
  mul (t707 H) (spread (t728 H) (by decide) _ _)

/-- The scores' gradient of the tile at 512, 640. -/
theorem t788 : Sub (sl.v788 (F := Ideal) c i a2 h2 a3 h3 a6 h6 a7 h7 a8 h8 a9 h9 a10 h10 a15 hc0 x0 x1 x4 x5 x6 x7 x8) C.DS 512 640 :=
  mul (t785 H) (sub (slice (t619 H) 512 0 _) (spread (t731 H) (by decide) _ _))

/-- Softmax weights of the tile at 384, 640. -/
theorem t772 : Sub (sl.v772 (F := Ideal) c i a2 h2 a3 h3 a6 h6 a7 h7 a8 h8 a15 hc0 x0 x1 x4 x5 x6) C.P 384 640 :=
  mul (t697 H) (spread (t728 H) (by decide) _ _)

/-- The scores' gradient of the tile at 384, 640. -/
theorem t775 : Sub (sl.v775 (F := Ideal) c i a2 h2 a3 h3 a6 h6 a7 h7 a8 h8 a9 h9 a10 h10 a15 hc0 x0 x1 x4 x5 x6 x7 x8) C.DS 384 640 :=
  mul (t772 H) (sub (slice (t619 H) 384 0 _) (spread (t731 H) (by decide) _ _))

/-- Softmax weights of the tile at 256, 640. -/
theorem t759 : Sub (sl.v759 (F := Ideal) c i a2 h2 a3 h3 a6 h6 a7 h7 a8 h8 a15 hc0 x0 x1 x4 x5 x6) C.P 256 640 :=
  mul (t687 H) (spread (t728 H) (by decide) _ _)

/-- The scores' gradient of the tile at 256, 640. -/
theorem t762 : Sub (sl.v762 (F := Ideal) c i a2 h2 a3 h3 a6 h6 a7 h7 a8 h8 a9 h9 a10 h10 a15 hc0 x0 x1 x4 x5 x6 x7 x8) C.DS 256 640 :=
  mul (t759 H) (sub (slice (t619 H) 256 0 _) (spread (t731 H) (by decide) _ _))

/-- Softmax weights of the tile at 128, 640. -/
theorem t746 : Sub (sl.v746 (F := Ideal) c i a2 h2 a3 h3 a6 h6 a7 h7 a8 h8 a15 hc0 x0 x1 x4 x5 x6) C.P 128 640 :=
  mul (t677 H) (spread (t728 H) (by decide) _ _)

/-- The scores' gradient of the tile at 128, 640. -/
theorem t749 : Sub (sl.v749 (F := Ideal) c i a2 h2 a3 h3 a6 h6 a7 h7 a8 h8 a9 h9 a10 h10 a15 hc0 x0 x1 x4 x5 x6 x7 x8) C.DS 128 640 :=
  mul (t746 H) (sub (slice (t619 H) 128 0 _) (spread (t731 H) (by decide) _ _))

/-- Softmax weights of the tile at 0, 640. -/
theorem t733 : Sub (sl.v733 (F := Ideal) c i a2 h2 a3 h3 a6 h6 a7 h7 a8 h8 a15 hc0 x0 x1 x4 x5 x6) C.P 0 640 :=
  mul (t669 H) (spread (t728 H) (by decide) _ _)

/-- The scores' gradient of the tile at 0, 640. -/
theorem t736 : Sub (sl.v736 (F := Ideal) c i a2 h2 a3 h3 a6 h6 a7 h7 a8 h8 a9 h9 a10 h10 a15 hc0 x0 x1 x4 x5 x6 x7 x8) C.DS 0 640 :=
  mul (t733 H) (sub (slice (t619 H) 0 0 _) (spread (t731 H) (by decide) _ _))

/-- Keys by queries of the tile at 0, 384. -/
theorem t295 : Sub (sl.v295 (F := Ideal) c a7 h7 a8 h8 x5 x6) C.S 0 384 :=
  mmT rfl (slice (H.bK) 0 0 _) (slice (H.bQ) 384 0 _)

/-- Scores of the tile at 512, 512. -/
theorem t472 : Sub (sl.v472 (F := Ideal) c i a2 h2 a3 h3 a6 h6 a7 h7 a8 h8 a15 hc0 x0 x1 x4 x5 x6) C.U 512 512 :=
  uNear (C := C) 4 4 0 rfl (by omega) (mul (slice (t295 H) 512 128 _) (splatV H.hc _ _)) (toep0 H)

/-- Scores of the tile at 0, 512. -/
theorem t441 : Sub (sl.v441 (F := Ideal) c i a2 h2 a3 h3 a7 h7 a8 h8 x0 x1 x5 x6) C.U 0 512 :=
  uFar (C := C) 0 4 (by decide) (mul (slice (t295 H) 0 128 _) (splatV H.hc _ _))

/-- Scores of the tile at 128, 512. -/
theorem t447 : Sub (sl.v447 (F := Ideal) c i a2 h2 a3 h3 a7 h7 a8 h8 x0 x1 x5 x6) C.U 128 512 :=
  uFar (C := C) 1 4 (by decide) (mul (slice (t295 H) 128 128 _) (splatV H.hc _ _))

/-- Scores of the tile at 256, 512. -/
theorem t454 : Sub (sl.v454 (F := Ideal) c i a2 h2 a3 h3 a7 h7 a8 h8 x0 x1 x5 x6) C.U 256 512 :=
  uFar (C := C) 2 4 (by decide) (mul (slice (t295 H) 256 128 _) (splatV H.hc _ _))

/-- Scores of the tile at 384, 512. -/
theorem t463 : Sub (sl.v463 (F := Ideal) c i a2 h2 a3 h3 a6 h6 a7 h7 a8 h8 a15 hc0 x0 x1 x4 x5 x6) C.U 384 512 :=
  uNear (C := C) 3 4 1 rfl (by omega) (mul (slice (t295 H) 384 128 _) (splatV H.hc _ _)) (toep128 H)

/-- The queries' greatest scores from 512. -/
theorem t478 : Sub (sl.v478 (F := Ideal) c i a2 h2 a3 h3 a6 h6 a7 h7 a8 h8 a15 hc0 x0 x1 x4 x5 x6) (fun _ q => C.M q) 0 512 :=
  row1 (rowM (C := C) 4 (colMax (pmaxS 4 512 rfl (pmaxS 3 384 rfl (pmaxS 2 256 rfl (pmaxS 1 128 rfl (pmax0 (groupMax (split3 (t441 H) rfl _) _ _ _)) (groupMax (split3 (t447 H) rfl _) _ _ _)) (groupMax (split3 (t454 H) rfl _) _ _ _)) (groupMax (split3 (t463 H) rfl _) _ _ _)) (groupMax (split3 (t472 H) rfl _) _ _ _)) _ _ _)) _

/-- Weights before normalizing of the tile at 512, 512. -/
theorem t519 : Sub (sl.v519 (F := Ideal) c i a2 h2 a3 h3 a6 h6 a7 h7 a8 h8 a15 hc0 x0 x1 x4 x5 x6) C.E 512 512 :=
  exp2' (sub (t472 H) (spread (t478 H) (by decide) _ _))

/-- Weights before normalizing of the tile at 0, 512. -/
theorem t481 : Sub (sl.v481 (F := Ideal) c i a2 h2 a3 h3 a6 h6 a7 h7 a8 h8 a15 hc0 x0 x1 x4 x5 x6) C.E 0 512 :=
  exp2' (sub (t441 H) (spread (t478 H) (by decide) _ _))

/-- Weights before normalizing of the tile at 128, 512. -/
theorem t489 : Sub (sl.v489 (F := Ideal) c i a2 h2 a3 h3 a6 h6 a7 h7 a8 h8 a15 hc0 x0 x1 x4 x5 x6) C.E 128 512 :=
  exp2' (sub (t447 H) (spread (t478 H) (by decide) _ _))

/-- Weights before normalizing of the tile at 256, 512. -/
theorem t499 : Sub (sl.v499 (F := Ideal) c i a2 h2 a3 h3 a6 h6 a7 h7 a8 h8 a15 hc0 x0 x1 x4 x5 x6) C.E 256 512 :=
  exp2' (sub (t454 H) (spread (t478 H) (by decide) _ _))

/-- Weights before normalizing of the tile at 384, 512. -/
theorem t509 : Sub (sl.v509 (F := Ideal) c i a2 h2 a3 h3 a6 h6 a7 h7 a8 h8 a15 hc0 x0 x1 x4 x5 x6) C.E 384 512 :=
  exp2' (sub (t463 H) (spread (t478 H) (by decide) _ _))

/-- The reciprocals of the queries' total weights from 512. -/
theorem t530 : Sub (sl.v530 (F := Ideal) c i a2 h2 a3 h3 a6 h6 a7 h7 a8 h8 a15 hc0 x0 x1 x4 x5 x6) (fun _ q => C.RL q) 0 512 :=
  div (splatV rfl _ _) (row1 (rowL (G := C.E) 4 (colSum (psumS 4 512 rfl (psumS 3 384 rfl (psumS 2 256 rfl (psumS 1 128 rfl (psum0 (groupSum (split3 (t481 H) rfl _) _ _ _)) (groupSum (split3 (t489 H) rfl _) _ _ _)) (groupSum (split3 (t499 H) rfl _) _ _ _)) (groupSum (split3 (t509 H) rfl _) _ _ _)) (groupSum (split3 (t519 H) rfl _) _ _ _)) _ _ _)) _)

/-- Softmax weights of the tile at 512, 512. -/
theorem t588 : Sub (sl.v588 (F := Ideal) c i a2 h2 a3 h3 a6 h6 a7 h7 a8 h8 a15 hc0 x0 x1 x4 x5 x6) C.P 512 512 :=
  mul (t519 H) (spread (t530 H) (by decide) _ _)

/-- Values by output gradients of the tile at 0, 384. -/
theorem t298 : Sub (sl.v298 (F := Ideal) c a9 h9 a10 h10 x7 x8) C.D 0 384 :=
  mmT rfl (slice (H.bV) 0 0 _) (slice (H.bDO) 384 0 _)

/-- The queries' mean products from 512. -/
theorem t533 : Sub (sl.v533 (F := Ideal) c i a2 h2 a3 h3 a6 h6 a7 h7 a8 h8 a9 h9 a10 h10 a15 hc0 x0 x1 x4 x5 x6 x7 x8) (fun _ q => C.TD q) 0 512 :=
  mul (row1 (rowL (G := C.ED) 4 (colSum (psumS 4 512 rfl (psumS 3 384 rfl (psumS 2 256 rfl (psumS 1 128 rfl (psum0 (groupSum (split3 (mul (t481 H) (slice (t298 H) 0 128 _)) rfl _) _ _ _)) (groupSum (split3 (mul (t489 H) (slice (t298 H) 128 128 _)) rfl _) _ _ _)) (groupSum (split3 (mul (t499 H) (slice (t298 H) 256 128 _)) rfl _) _ _ _)) (groupSum (split3 (mul (t509 H) (slice (t298 H) 384 128 _)) rfl _) _ _ _)) (groupSum (split3 (mul (t519 H) (slice (t298 H) 512 128 _)) rfl _) _ _ _)) _ _ _)) _) (t530 H)

/-- The scores' gradient of the tile at 512, 512. -/
theorem t591 : Sub (sl.v591 (F := Ideal) c i a2 h2 a3 h3 a6 h6 a7 h7 a8 h8 a9 h9 a10 h10 a15 hc0 x0 x1 x4 x5 x6 x7 x8) C.DS 512 512 :=
  mul (t588 H) (sub (slice (t298 H) 512 128 _) (spread (t533 H) (by decide) _ _))

/-- Softmax weights of the tile at 384, 512. -/
theorem t574 : Sub (sl.v574 (F := Ideal) c i a2 h2 a3 h3 a6 h6 a7 h7 a8 h8 a15 hc0 x0 x1 x4 x5 x6) C.P 384 512 :=
  mul (t509 H) (spread (t530 H) (by decide) _ _)

/-- The scores' gradient of the tile at 384, 512. -/
theorem t577 : Sub (sl.v577 (F := Ideal) c i a2 h2 a3 h3 a6 h6 a7 h7 a8 h8 a9 h9 a10 h10 a15 hc0 x0 x1 x4 x5 x6 x7 x8) C.DS 384 512 :=
  mul (t574 H) (sub (slice (t298 H) 384 128 _) (spread (t533 H) (by decide) _ _))

/-- Softmax weights of the tile at 256, 512. -/
theorem t561 : Sub (sl.v561 (F := Ideal) c i a2 h2 a3 h3 a6 h6 a7 h7 a8 h8 a15 hc0 x0 x1 x4 x5 x6) C.P 256 512 :=
  mul (t499 H) (spread (t530 H) (by decide) _ _)

/-- The scores' gradient of the tile at 256, 512. -/
theorem t564 : Sub (sl.v564 (F := Ideal) c i a2 h2 a3 h3 a6 h6 a7 h7 a8 h8 a9 h9 a10 h10 a15 hc0 x0 x1 x4 x5 x6 x7 x8) C.DS 256 512 :=
  mul (t561 H) (sub (slice (t298 H) 256 128 _) (spread (t533 H) (by decide) _ _))

/-- Softmax weights of the tile at 128, 512. -/
theorem t548 : Sub (sl.v548 (F := Ideal) c i a2 h2 a3 h3 a6 h6 a7 h7 a8 h8 a15 hc0 x0 x1 x4 x5 x6) C.P 128 512 :=
  mul (t489 H) (spread (t530 H) (by decide) _ _)

/-- The scores' gradient of the tile at 128, 512. -/
theorem t551 : Sub (sl.v551 (F := Ideal) c i a2 h2 a3 h3 a6 h6 a7 h7 a8 h8 a9 h9 a10 h10 a15 hc0 x0 x1 x4 x5 x6 x7 x8) C.DS 128 512 :=
  mul (t548 H) (sub (slice (t298 H) 128 128 _) (spread (t533 H) (by decide) _ _))

/-- Softmax weights of the tile at 0, 512. -/
theorem t535 : Sub (sl.v535 (F := Ideal) c i a2 h2 a3 h3 a6 h6 a7 h7 a8 h8 a15 hc0 x0 x1 x4 x5 x6) C.P 0 512 :=
  mul (t481 H) (spread (t530 H) (by decide) _ _)

/-- The scores' gradient of the tile at 0, 512. -/
theorem t538 : Sub (sl.v538 (F := Ideal) c i a2 h2 a3 h3 a6 h6 a7 h7 a8 h8 a9 h9 a10 h10 a15 hc0 x0 x1 x4 x5 x6 x7 x8) C.DS 0 512 :=
  mul (t535 H) (sub (slice (t298 H) 0 128 _) (spread (t533 H) (by decide) _ _))

/-- Scores of the tile at 384, 384. -/
theorem t325 : Sub (sl.v325 (F := Ideal) c i a2 h2 a3 h3 a6 h6 a7 h7 a8 h8 a15 hc0 x0 x1 x4 x5 x6) C.U 384 384 :=
  uNear (C := C) 3 3 0 rfl (by omega) (mul (slice (t295 H) 384 0 _) (splatV H.hc _ _)) (toep0 H)

/-- Scores of the tile at 0, 384. -/
theorem t301 : Sub (sl.v301 (F := Ideal) c i a2 h2 a3 h3 a7 h7 a8 h8 x0 x1 x5 x6) C.U 0 384 :=
  uFar (C := C) 0 3 (by decide) (mul (slice (t295 H) 0 0 _) (splatV H.hc _ _))

end Cert.KernelIdeal.Gen.CaseA
-- ==== Proof.CaseA1.lean ====
/-
  The kernel's values at a grid point of even batch, operation by operation, as tiles of the matrices of `Model`.
-/
module

public import proofs.«01_k».proof.Proof.CaseA0

@[expose] public section

set_option maxRecDepth 16384

noncomputable section

namespace Cert.KernelIdeal.Gen.CaseA

open Idealize.ShloMosaic Idealize.ShloMosaic.ValueIdx Idealize.SL.Sem Cert.KernelIdeal.Tiles
open Cert.KernelIdeal.Gen.kernelRun0_A

variable {c : Dev nD} {i : grid0.Coords} {a2 : Memref sig .tc .smem S2x20 .f32} {h2 : a2.IsWhole}
  {a3 : Memref sig .tc .smem S2x20 .f32} {h3 : a3.IsWhole} {a4 : Memref sig .tc .smem S2x20 .f32} {h4 : a4.IsWhole}
  {a5 : Memref sig .tc .smem S2x20 .f32} {h5 : a5.IsWhole} {a6 : Memref sig .tc .smem S20x32 .f32} {h6 : a6.IsWhole}
  {a7 : Memref sig .tc .vmem S1x1x896x128 .fp8e4m3} {h7 : a7.IsWhole} {a8 : Memref sig .tc .vmem S1x1x896x128 .fp8e4m3} {h8 : a8.IsWhole}
  {a9 : Memref sig .tc .vmem S1x1x896x128 .fp8e4m3} {h9 : a9.IsWhole} {a10 : Memref sig .tc .vmem S1x1x896x128 .fp8e5m2} {h10 : a10.IsWhole}
  {a15 : Memref sig .tc .vmem S128x256 .f32} {hc0 : cond0_0 i} {x0 : Vec Ideal S2x20 .f32} {x1 : Vec Ideal S2x20 .f32}
  {x2 : Vec Ideal S2x20 .f32} {x3 : Vec Ideal S2x20 .f32} {x4 : Vec Ideal S20x32 .f32} {x5 : Vec Ideal S1x1x896x128 .fp8e4m3}
  {x6 : Vec Ideal S1x1x896x128 .fp8e4m3} {x7 : Vec Ideal S1x1x896x128 .fp8e4m3} {x8 : Vec Ideal S1x1x896x128 .fp8e5m2} {C : Ctx}
  {a16 a17 : Memref sig .tc .vmem S896x896 .bf16}

variable (H : Ins c i a2 h2 a3 h3 a4 h4 a5 h5 a6 h6 a7 h7 a8 h8 a9 h9 a10 h10 a15 hc0 x0 x1 x2 x3 x4 x5 x6 x7 x8 C)
include H

/-- Scores of the tile at 128, 384. -/
theorem t307 : Sub (sl.v307 (F := Ideal) c i a2 h2 a3 h3 a7 h7 a8 h8 x0 x1 x5 x6) C.U 128 384 :=
  uFar (C := C) 1 3 (by decide) (mul (slice (t295 H) 128 0 _) (splatV H.hc _ _))

/-- Scores of the tile at 256, 384. -/
theorem t316 : Sub (sl.v316 (F := Ideal) c i a2 h2 a3 h3 a6 h6 a7 h7 a8 h8 a15 hc0 x0 x1 x4 x5 x6) C.U 256 384 :=
  uNear (C := C) 2 3 1 rfl (by omega) (mul (slice (t295 H) 256 0 _) (splatV H.hc _ _)) (toep128 H)

/-- The queries' greatest scores from 384. -/
theorem t331 : Sub (sl.v331 (F := Ideal) c i a2 h2 a3 h3 a6 h6 a7 h7 a8 h8 a15 hc0 x0 x1 x4 x5 x6) (fun _ q => C.M q) 0 384 :=
  row1 (rowM (C := C) 3 (colMax (pmaxS 3 384 rfl (pmaxS 2 256 rfl (pmaxS 1 128 rfl (pmax0 (groupMax (split3 (t301 H) rfl _) _ _ _)) (groupMax (split3 (t307 H) rfl _) _ _ _)) (groupMax (split3 (t316 H) rfl _) _ _ _)) (groupMax (split3 (t325 H) rfl _) _ _ _)) _ _ _)) _

/-- Weights before normalizing of the tile at 384, 384. -/
theorem t362 : Sub (sl.v362 (F := Ideal) c i a2 h2 a3 h3 a6 h6 a7 h7 a8 h8 a15 hc0 x0 x1 x4 x5 x6) C.E 384 384 :=
  exp2' (sub (t325 H) (spread (t331 H) (by decide) _ _))

/-- Weights before normalizing of the tile at 0, 384. -/
theorem t334 : Sub (sl.v334 (F := Ideal) c i a2 h2 a3 h3 a6 h6 a7 h7 a8 h8 a15 hc0 x0 x1 x4 x5 x6) C.E 0 384 :=
  exp2' (sub (t301 H) (spread (t331 H) (by decide) _ _))

/-- Weights before normalizing of the tile at 128, 384. -/
theorem t342 : Sub (sl.v342 (F := Ideal) c i a2 h2 a3 h3 a6 h6 a7 h7 a8 h8 a15 hc0 x0 x1 x4 x5 x6) C.E 128 384 :=
  exp2' (sub (t307 H) (spread (t331 H) (by decide) _ _))

/-- Weights before normalizing of the tile at 256, 384. -/
theorem t352 : Sub (sl.v352 (F := Ideal) c i a2 h2 a3 h3 a6 h6 a7 h7 a8 h8 a15 hc0 x0 x1 x4 x5 x6) C.E 256 384 :=
  exp2' (sub (t316 H) (spread (t331 H) (by decide) _ _))

/-- The reciprocals of the queries' total weights from 384. -/
theorem t373 : Sub (sl.v373 (F := Ideal) c i a2 h2 a3 h3 a6 h6 a7 h7 a8 h8 a15 hc0 x0 x1 x4 x5 x6) (fun _ q => C.RL q) 0 384 :=
  div (splatV rfl _ _) (row1 (rowL (G := C.E) 3 (colSum (psumS 3 384 rfl (psumS 2 256 rfl (psumS 1 128 rfl (psum0 (groupSum (split3 (t334 H) rfl _) _ _ _)) (groupSum (split3 (t342 H) rfl _) _ _ _)) (groupSum (split3 (t352 H) rfl _) _ _ _)) (groupSum (split3 (t362 H) rfl _) _ _ _)) _ _ _)) _)

/-- Softmax weights of the tile at 384, 384. -/
theorem t418 : Sub (sl.v418 (F := Ideal) c i a2 h2 a3 h3 a6 h6 a7 h7 a8 h8 a15 hc0 x0 x1 x4 x5 x6) C.P 384 384 :=
  mul (t362 H) (spread (t373 H) (by decide) _ _)

/-- The queries' mean products from 384. -/
theorem t376 : Sub (sl.v376 (F := Ideal) c i a2 h2 a3 h3 a6 h6 a7 h7 a8 h8 a9 h9 a10 h10 a15 hc0 x0 x1 x4 x5 x6 x7 x8) (fun _ q => C.TD q) 0 384 :=
  mul (row1 (rowL (G := C.ED) 3 (colSum (psumS 3 384 rfl (psumS 2 256 rfl (psumS 1 128 rfl (psum0 (groupSum (split3 (mul (t334 H) (slice (t298 H) 0 0 _)) rfl _) _ _ _)) (groupSum (split3 (mul (t342 H) (slice (t298 H) 128 0 _)) rfl _) _ _ _)) (groupSum (split3 (mul (t352 H) (slice (t298 H) 256 0 _)) rfl _) _ _ _)) (groupSum (split3 (mul (t362 H) (slice (t298 H) 384 0 _)) rfl _) _ _ _)) _ _ _)) _) (t373 H)

/-- The scores' gradient of the tile at 384, 384. -/
theorem t421 : Sub (sl.v421 (F := Ideal) c i a2 h2 a3 h3 a6 h6 a7 h7 a8 h8 a9 h9 a10 h10 a15 hc0 x0 x1 x4 x5 x6 x7 x8) C.DS 384 384 :=
  mul (t418 H) (sub (slice (t298 H) 384 0 _) (spread (t376 H) (by decide) _ _))

/-- Softmax weights of the tile at 256, 384. -/
theorem t404 : Sub (sl.v404 (F := Ideal) c i a2 h2 a3 h3 a6 h6 a7 h7 a8 h8 a15 hc0 x0 x1 x4 x5 x6) C.P 256 384 :=
  mul (t352 H) (spread (t373 H) (by decide) _ _)

/-- The scores' gradient of the tile at 256, 384. -/
theorem t407 : Sub (sl.v407 (F := Ideal) c i a2 h2 a3 h3 a6 h6 a7 h7 a8 h8 a9 h9 a10 h10 a15 hc0 x0 x1 x4 x5 x6 x7 x8) C.DS 256 384 :=
  mul (t404 H) (sub (slice (t298 H) 256 0 _) (spread (t376 H) (by decide) _ _))

/-- Softmax weights of the tile at 128, 384. -/
theorem t391 : Sub (sl.v391 (F := Ideal) c i a2 h2 a3 h3 a6 h6 a7 h7 a8 h8 a15 hc0 x0 x1 x4 x5 x6) C.P 128 384 :=
  mul (t342 H) (spread (t373 H) (by decide) _ _)

/-- The scores' gradient of the tile at 128, 384. -/
theorem t394 : Sub (sl.v394 (F := Ideal) c i a2 h2 a3 h3 a6 h6 a7 h7 a8 h8 a9 h9 a10 h10 a15 hc0 x0 x1 x4 x5 x6 x7 x8) C.DS 128 384 :=
  mul (t391 H) (sub (slice (t298 H) 128 0 _) (spread (t376 H) (by decide) _ _))

/-- Softmax weights of the tile at 0, 384. -/
theorem t378 : Sub (sl.v378 (F := Ideal) c i a2 h2 a3 h3 a6 h6 a7 h7 a8 h8 a15 hc0 x0 x1 x4 x5 x6) C.P 0 384 :=
  mul (t334 H) (spread (t373 H) (by decide) _ _)

/-- The scores' gradient of the tile at 0, 384. -/
theorem t381 : Sub (sl.v381 (F := Ideal) c i a2 h2 a3 h3 a6 h6 a7 h7 a8 h8 a9 h9 a10 h10 a15 hc0 x0 x1 x4 x5 x6 x7 x8) C.DS 0 384 :=
  mul (t378 H) (sub (slice (t298 H) 0 0 _) (spread (t376 H) (by decide) _ _))

/-- Keys by queries of the tile at 0, 128. -/
theorem t92 : Sub (sl.v92 (F := Ideal) c a7 h7 a8 h8 x5 x6) C.S 0 128 :=
  mmT rfl (slice (H.bK) 0 0 _) (slice (H.bQ) 128 0 _)

/-- Scores of the tile at 256, 256. -/
theorem t195 : Sub (sl.v195 (F := Ideal) c i a2 h2 a3 h3 a6 h6 a7 h7 a8 h8 a15 hc0 x0 x1 x4 x5 x6) C.U 256 256 :=
  uNear (C := C) 2 2 0 rfl (by omega) (mul (slice (t92 H) 256 128 _) (splatV H.hc _ _)) (toep0 H)

/-- Scores of the tile at 0, 256. -/
theorem t178 : Sub (sl.v178 (F := Ideal) c i a2 h2 a3 h3 a7 h7 a8 h8 x0 x1 x5 x6) C.U 0 256 :=
  uFar (C := C) 0 2 (by decide) (mul (slice (t92 H) 0 128 _) (splatV H.hc _ _))

/-- Scores of the tile at 128, 256. -/
theorem t186 : Sub (sl.v186 (F := Ideal) c i a2 h2 a3 h3 a6 h6 a7 h7 a8 h8 a15 hc0 x0 x1 x4 x5 x6) C.U 128 256 :=
  uNear (C := C) 1 2 1 rfl (by omega) (mul (slice (t92 H) 128 128 _) (splatV H.hc _ _)) (toep128 H)

/-- The queries' greatest scores from 256. -/
theorem t201 : Sub (sl.v201 (F := Ideal) c i a2 h2 a3 h3 a6 h6 a7 h7 a8 h8 a15 hc0 x0 x1 x4 x5 x6) (fun _ q => C.M q) 0 256 :=
  row1 (rowM (C := C) 2 (colMax (pmaxS 2 256 rfl (pmaxS 1 128 rfl (pmax0 (groupMax (split3 (t178 H) rfl _) _ _ _)) (groupMax (split3 (t186 H) rfl _) _ _ _)) (groupMax (split3 (t195 H) rfl _) _ _ _)) _ _ _)) _

/-- Weights before normalizing of the tile at 256, 256. -/
theorem t222 : Sub (sl.v222 (F := Ideal) c i a2 h2 a3 h3 a6 h6 a7 h7 a8 h8 a15 hc0 x0 x1 x4 x5 x6) C.E 256 256 :=
  exp2' (sub (t195 H) (spread (t201 H) (by decide) _ _))

/-- Weights before normalizing of the tile at 0, 256. -/
theorem t204 : Sub (sl.v204 (F := Ideal) c i a2 h2 a3 h3 a6 h6 a7 h7 a8 h8 a15 hc0 x0 x1 x4 x5 x6) C.E 0 256 :=
  exp2' (sub (t178 H) (spread (t201 H) (by decide) _ _))

/-- Weights before normalizing of the tile at 128, 256. -/
theorem t212 : Sub (sl.v212 (F := Ideal) c i a2 h2 a3 h3 a6 h6 a7 h7 a8 h8 a15 hc0 x0 x1 x4 x5 x6) C.E 128 256 :=
  exp2' (sub (t186 H) (spread (t201 H) (by decide) _ _))

/-- The reciprocals of the queries' total weights from 256. -/
theorem t233 : Sub (sl.v233 (F := Ideal) c i a2 h2 a3 h3 a6 h6 a7 h7 a8 h8 a15 hc0 x0 x1 x4 x5 x6) (fun _ q => C.RL q) 0 256 :=
  div (splatV rfl _ _) (row1 (rowL (G := C.E) 2 (colSum (psumS 2 256 rfl (psumS 1 128 rfl (psum0 (groupSum (split3 (t204 H) rfl _) _ _ _)) (groupSum (split3 (t212 H) rfl _) _ _ _)) (groupSum (split3 (t222 H) rfl _) _ _ _)) _ _ _)) _)

/-- Softmax weights of the tile at 256, 256. -/
theorem t265 : Sub (sl.v265 (F := Ideal) c i a2 h2 a3 h3 a6 h6 a7 h7 a8 h8 a15 hc0 x0 x1 x4 x5 x6) C.P 256 256 :=
  mul (t222 H) (spread (t233 H) (by decide) _ _)

/-- Values by output gradients of the tile at 0, 128. -/
theorem t95 : Sub (sl.v95 (F := Ideal) c a9 h9 a10 h10 x7 x8) C.D 0 128 :=
  mmT rfl (slice (H.bV) 0 0 _) (slice (H.bDO) 128 0 _)

/-- The queries' mean products from 256. -/
theorem t236 : Sub (sl.v236 (F := Ideal) c i a2 h2 a3 h3 a6 h6 a7 h7 a8 h8 a9 h9 a10 h10 a15 hc0 x0 x1 x4 x5 x6 x7 x8) (fun _ q => C.TD q) 0 256 :=
  mul (row1 (rowL (G := C.ED) 2 (colSum (psumS 2 256 rfl (psumS 1 128 rfl (psum0 (groupSum (split3 (mul (t204 H) (slice (t95 H) 0 128 _)) rfl _) _ _ _)) (groupSum (split3 (mul (t212 H) (slice (t95 H) 128 128 _)) rfl _) _ _ _)) (groupSum (split3 (mul (t222 H) (slice (t95 H) 256 128 _)) rfl _) _ _ _)) _ _ _)) _) (t233 H)

/-- The scores' gradient of the tile at 256, 256. -/
theorem t268 : Sub (sl.v268 (F := Ideal) c i a2 h2 a3 h3 a6 h6 a7 h7 a8 h8 a9 h9 a10 h10 a15 hc0 x0 x1 x4 x5 x6 x7 x8) C.DS 256 256 :=
  mul (t265 H) (sub (slice (t95 H) 256 128 _) (spread (t236 H) (by decide) _ _))

/-- Softmax weights of the tile at 128, 256. -/
theorem t251 : Sub (sl.v251 (F := Ideal) c i a2 h2 a3 h3 a6 h6 a7 h7 a8 h8 a15 hc0 x0 x1 x4 x5 x6) C.P 128 256 :=
  mul (t212 H) (spread (t233 H) (by decide) _ _)

/-- The scores' gradient of the tile at 128, 256. -/
theorem t254 : Sub (sl.v254 (F := Ideal) c i a2 h2 a3 h3 a6 h6 a7 h7 a8 h8 a9 h9 a10 h10 a15 hc0 x0 x1 x4 x5 x6 x7 x8) C.DS 128 256 :=
  mul (t251 H) (sub (slice (t95 H) 128 128 _) (spread (t236 H) (by decide) _ _))

/-- Softmax weights of the tile at 0, 256. -/
theorem t238 : Sub (sl.v238 (F := Ideal) c i a2 h2 a3 h3 a6 h6 a7 h7 a8 h8 a15 hc0 x0 x1 x4 x5 x6) C.P 0 256 :=
  mul (t204 H) (spread (t233 H) (by decide) _ _)

/-- The scores' gradient of the tile at 0, 256. -/
theorem t241 : Sub (sl.v241 (F := Ideal) c i a2 h2 a3 h3 a6 h6 a7 h7 a8 h8 a9 h9 a10 h10 a15 hc0 x0 x1 x4 x5 x6 x7 x8) C.DS 0 256 :=
  mul (t238 H) (sub (slice (t95 H) 0 128 _) (spread (t236 H) (by decide) _ _))

/-- Scores of the tile at 128, 128. -/
theorem t108 : Sub (sl.v108 (F := Ideal) c i a2 h2 a3 h3 a6 h6 a7 h7 a8 h8 a15 hc0 x0 x1 x4 x5 x6) C.U 128 128 :=
  uNear (C := C) 1 1 0 rfl (by omega) (mul (slice (t92 H) 128 0 _) (splatV H.hc _ _)) (toep0 H)

/-- Scores of the tile at 0, 128. -/
theorem t100 : Sub (sl.v100 (F := Ideal) c i a2 h2 a3 h3 a6 h6 a7 h7 a8 h8 a15 hc0 x0 x1 x4 x5 x6) C.U 0 128 :=
  uNear (C := C) 0 1 1 rfl (by omega) (mul (slice (t92 H) 0 0 _) (splatV H.hc _ _)) (toep128 H)

/-- The queries' greatest scores from 128. -/
theorem t114 : Sub (sl.v114 (F := Ideal) c i a2 h2 a3 h3 a6 h6 a7 h7 a8 h8 a15 hc0 x0 x1 x4 x5 x6) (fun _ q => C.M q) 0 128 :=
  row1 (rowM (C := C) 1 (colMax (pmaxS 1 128 rfl (pmax0 (groupMax (split3 (t100 H) rfl _) _ _ _)) (groupMax (split3 (t108 H) rfl _) _ _ _)) _ _ _)) _

/-- Weights before normalizing of the tile at 128, 128. -/
theorem t125 : Sub (sl.v125 (F := Ideal) c i a2 h2 a3 h3 a6 h6 a7 h7 a8 h8 a15 hc0 x0 x1 x4 x5 x6) C.E 128 128 :=
  exp2' (sub (t108 H) (spread (t114 H) (by decide) _ _))

/-- Weights before normalizing of the tile at 0, 128. -/
theorem t117 : Sub (sl.v117 (F := Ideal) c i a2 h2 a3 h3 a6 h6 a7 h7 a8 h8 a15 hc0 x0 x1 x4 x5 x6) C.E 0 128 :=
  exp2' (sub (t100 H) (spread (t114 H) (by decide) _ _))

/-- The reciprocals of the queries' total weights from 128. -/
theorem t136 : Sub (sl.v136 (F := Ideal) c i a2 h2 a3 h3 a6 h6 a7 h7 a8 h8 a15 hc0 x0 x1 x4 x5 x6) (fun _ q => C.RL q) 0 128 :=
  div (splatV rfl _ _) (row1 (rowL (G := C.E) 1 (colSum (psumS 1 128 rfl (psum0 (groupSum (split3 (t117 H) rfl _) _ _ _)) (groupSum (split3 (t125 H) rfl _) _ _ _)) _ _ _)) _)

/-- Softmax weights of the tile at 128, 128. -/
theorem t155 : Sub (sl.v155 (F := Ideal) c i a2 h2 a3 h3 a6 h6 a7 h7 a8 h8 a15 hc0 x0 x1 x4 x5 x6) C.P 128 128 :=
  mul (t125 H) (spread (t136 H) (by decide) _ _)

/-- The queries' mean products from 128. -/
theorem t139 : Sub (sl.v139 (F := Ideal) c i a2 h2 a3 h3 a6 h6 a7 h7 a8 h8 a9 h9 a10 h10 a15 hc0 x0 x1 x4 x5 x6 x7 x8) (fun _ q => C.TD q) 0 128 :=
  mul (row1 (rowL (G := C.ED) 1 (colSum (psumS 1 128 rfl (psum0 (groupSum (split3 (mul (t117 H) (slice (t95 H) 0 0 _)) rfl _) _ _ _)) (groupSum (split3 (mul (t125 H) (slice (t95 H) 128 0 _)) rfl _) _ _ _)) _ _ _)) _) (t136 H)

/-- The scores' gradient of the tile at 128, 128. -/
theorem t158 : Sub (sl.v158 (F := Ideal) c i a2 h2 a3 h3 a6 h6 a7 h7 a8 h8 a9 h9 a10 h10 a15 hc0 x0 x1 x4 x5 x6 x7 x8) C.DS 128 128 :=
  mul (t155 H) (sub (slice (t95 H) 128 0 _) (spread (t139 H) (by decide) _ _))

/-- Softmax weights of the tile at 0, 128. -/
theorem t141 : Sub (sl.v141 (F := Ideal) c i a2 h2 a3 h3 a6 h6 a7 h7 a8 h8 a15 hc0 x0 x1 x4 x5 x6) C.P 0 128 :=
  mul (t117 H) (spread (t136 H) (by decide) _ _)

/-- The scores' gradient of the tile at 0, 128. -/
theorem t144 : Sub (sl.v144 (F := Ideal) c i a2 h2 a3 h3 a6 h6 a7 h7 a8 h8 a9 h9 a10 h10 a15 hc0 x0 x1 x4 x5 x6 x7 x8) C.DS 0 128 :=
  mul (t141 H) (sub (slice (t95 H) 0 0 _) (spread (t139 H) (by decide) _ _))

/-- Keys by queries of the tile at 0, 0. -/
theorem t34 : Sub (sl.v34 (F := Ideal) c a7 h7 a8 h8 x5 x6) C.S 0 0 :=
  mmT rfl (H.bK0) (H.bQ0)

/-- Scores of the tile at 0, 0. -/
theorem t41 : Sub (sl.v41 (F := Ideal) c i a2 h2 a3 h3 a6 h6 a7 h7 a8 h8 a15 hc0 x0 x1 x4 x5 x6) C.U 0 0 :=
  uNear (C := C) 0 0 0 rfl (by omega) (mul (t34 H) (splatV H.hc _ _)) (toep0 H)

/-- The queries' greatest scores from 0. -/
theorem t45 : Sub (sl.v45 (F := Ideal) c i a2 h2 a3 h3 a6 h6 a7 h7 a8 h8 a15 hc0 x0 x1 x4 x5 x6) (fun _ q => C.M q) 0 0 :=
  row1 (rowM (C := C) 0 (colMax (pmax0 (groupMax (split3 (t41 H) rfl _) _ _ _)) _ _ _)) _

/-- Weights before normalizing of the tile at 0, 0. -/
theorem t48 : Sub (sl.v48 (F := Ideal) c i a2 h2 a3 h3 a6 h6 a7 h7 a8 h8 a15 hc0 x0 x1 x4 x5 x6) C.E 0 0 :=
  exp2' (sub (t41 H) (spread (t45 H) (by decide) _ _))

/-- The reciprocals of the queries' total weights from 0. -/
theorem t57 : Sub (sl.v57 (F := Ideal) c i a2 h2 a3 h3 a6 h6 a7 h7 a8 h8 a15 hc0 x0 x1 x4 x5 x6) (fun _ q => C.RL q) 0 0 :=
  div (splatV rfl _ _) (row1 (rowL (G := C.E) 0 (colSum (psum0 (groupSum (split3 (t48 H) rfl _) _ _ _)) _ _ _)) _)

/-- Softmax weights of the tile at 0, 0. -/
theorem t62 : Sub (sl.v62 (F := Ideal) c i a2 h2 a3 h3 a6 h6 a7 h7 a8 h8 a15 hc0 x0 x1 x4 x5 x6) C.P 0 0 :=
  mul (t48 H) (spread (t57 H) (by decide) _ _)

/-- Values by output gradients of the tile at 0, 0. -/
theorem t37 : Sub (sl.v37 (F := Ideal) c a9 h9 a10 h10 x7 x8) C.D 0 0 :=
  mmT rfl (slice (H.bV) 0 0 _) (slice (H.bDO) 0 0 _)

/-- The queries' mean products from 0. -/
theorem t60 : Sub (sl.v60 (F := Ideal) c i a2 h2 a3 h3 a6 h6 a7 h7 a8 h8 a9 h9 a10 h10 a15 hc0 x0 x1 x4 x5 x6 x7 x8) (fun _ q => C.TD q) 0 0 :=
  mul (row1 (rowL (G := C.ED) 0 (colSum (psum0 (groupSum (split3 (mul (t48 H) (t37 H)) rfl _) _ _ _)) _ _ _)) _) (t57 H)

/-- The scores' gradient of the tile at 0, 0. -/
theorem t65 : Sub (sl.v65 (F := Ideal) c i a2 h2 a3 h3 a6 h6 a7 h7 a8 h8 a9 h9 a10 h10 a15 hc0 x0 x1 x4 x5 x6 x7 x8) C.DS 0 0 :=
  mul (t62 H) (sub (t37 H) (spread (t60 H) (by decide) _ _))

/-- The stored tiles of the scores' gradient. -/
theorem HS2_1 : AllOk C.DST (sl.HS2_1 (F := Ideal) c i a2 h2 a3 h3 a6 h6 a7 h7 a8 h8 a9 h9 a10 h10 a15 hc0 x0 x1 x4 x5 x6 x7 x8) :=
  AllOk.cons (i := 0) (j := 0) (toDST (C := C) 0 0 (by decide) (same (trunc (t65 H) _) _))
    (AllOk.nil)

/-- The stored tiles of the scores' gradient. -/
theorem HS2_7 : AllOk C.DST (sl.HS2_7 (F := Ideal) c i a2 h2 a3 h3 a6 h6 a7 h7 a8 h8 a9 h9 a10 h10 a15 hc0 x0 x1 x4 x5 x6 x7 x8) :=
  AllOk.cons (i := 256) (j := 256) (toDST (C := C) 2 2 (by decide) (same (trunc (t268 H) _) _))
    (AllOk.cons (i := 128) (j := 256) (toDST (C := C) 1 2 (by decide) (same (trunc (t254 H) _) _))
    (AllOk.cons (i := 0) (j := 256) (toDST (C := C) 0 2 (by decide) (same (trunc (t241 H) _) _))
    (AllOk.cons (i := 256) (j := 128) (zeroDST (C := C) 2 1 (by decide) (same (splatV ofBits_zero_bf16 _ _) _))
    (AllOk.cons (i := 128) (j := 128) (toDST (C := C) 1 1 (by decide) (same (trunc (t158 H) _) _))
    (AllOk.cons (i := 0) (j := 128) (toDST (C := C) 0 1 (by decide) (same (trunc (t144 H) _) _))
    (HS2_1 H))))))

/-- The stored tiles of the scores' gradient. -/
theorem HS2_17 : AllOk C.DST (sl.HS2_17 (F := Ideal) c i a2 h2 a3 h3 a6 h6 a7 h7 a8 h8 a9 h9 a10 h10 a15 hc0 x0 x1 x4 x5 x6 x7 x8) :=
  AllOk.cons (i := 512) (j := 512) (toDST (C := C) 4 4 (by decide) (same (trunc (t591 H) _) _))
    (AllOk.cons (i := 384) (j := 512) (toDST (C := C) 3 4 (by decide) (same (trunc (t577 H) _) _))
    (AllOk.cons (i := 256) (j := 512) (toDST (C := C) 2 4 (by decide) (same (trunc (t564 H) _) _))
    (AllOk.cons (i := 128) (j := 512) (toDST (C := C) 1 4 (by decide) (same (trunc (t551 H) _) _))
    (AllOk.cons (i := 0) (j := 512) (toDST (C := C) 0 4 (by decide) (same (trunc (t538 H) _) _))
    (AllOk.cons (i := 512) (j := 384) (zeroDST (C := C) 4 3 (by decide) (same (splatV ofBits_zero_bf16 _ _) _))
    (AllOk.cons (i := 384) (j := 384) (toDST (C := C) 3 3 (by decide) (same (trunc (t421 H) _) _))
    (AllOk.cons (i := 256) (j := 384) (toDST (C := C) 2 3 (by decide) (same (trunc (t407 H) _) _))
    (AllOk.cons (i := 128) (j := 384) (toDST (C := C) 1 3 (by decide) (same (trunc (t394 H) _) _))
    (AllOk.cons (i := 0) (j := 384) (toDST (C := C) 0 3 (by decide) (same (trunc (t381 H) _) _))
    (HS2_7 H))))))))))

/-- The stored tiles of the scores' gradient. -/
theorem HS2_31 : AllOk C.DST (sl.HS2_31 (F := Ideal) c i a2 h2 a3 h3 a6 h6 a7 h7 a8 h8 a9 h9 a10 h10 a15 hc0 x0 x1 x4 x5 x6 x7 x8) :=
  AllOk.cons (i := 768) (j := 768) (toDST (C := C) 6 6 (by decide) (same (trunc (t1032 H) _) _))
    (AllOk.cons (i := 640) (j := 768) (toDST (C := C) 5 6 (by decide) (same (trunc (t1018 H) _) _))
    (AllOk.cons (i := 512) (j := 768) (toDST (C := C) 4 6 (by decide) (same (trunc (t1005 H) _) _))
    (AllOk.cons (i := 384) (j := 768) (toDST (C := C) 3 6 (by decide) (same (trunc (t992 H) _) _))
    (AllOk.cons (i := 256) (j := 768) (toDST (C := C) 2 6 (by decide) (same (trunc (t979 H) _) _))
    (AllOk.cons (i := 128) (j := 768) (toDST (C := C) 1 6 (by decide) (same (trunc (t966 H) _) _))
    (AllOk.cons (i := 0) (j := 768) (toDST (C := C) 0 6 (by decide) (same (trunc (t953 H) _) _))
    (AllOk.cons (i := 768) (j := 640) (zeroDST (C := C) 6 5 (by decide) (same (splatV ofBits_zero_bf16 _ _) _))
    (AllOk.cons (i := 640) (j := 640) (toDST (C := C) 5 5 (by decide) (same (trunc (t802 H) _) _))
    (AllOk.cons (i := 512) (j := 640) (toDST (C := C) 4 5 (by decide) (same (trunc (t788 H) _) _))
    (AllOk.cons (i := 384) (j := 640) (toDST (C := C) 3 5 (by decide) (same (trunc (t775 H) _) _))
    (AllOk.cons (i := 256) (j := 640) (toDST (C := C) 2 5 (by decide) (same (trunc (t762 H) _) _))
    (AllOk.cons (i := 128) (j := 640) (toDST (C := C) 1 5 (by decide) (same (trunc (t749 H) _) _))
    (AllOk.cons (i := 0) (j := 640) (toDST (C := C) 0 5 (by decide) (same (trunc (t736 H) _) _))
    (HS2_17 H))))))))))))))

/-- A load of the gradients at 0, 640. -/
theorem t1042 : Sub (m := 896) (n := 256) (sl.v1042 (F := Ideal) c i a2 h2 a3 h3 a6 h6 a7 h7 a8 h8 a9 h9 a10 h10 a15 a17 hc0 x0 x1 x4 x5 x6 x7 x8) C.DST 0 640 :=
  loadCov a17.view (HS2_31 H) 0 640 7 2 (by sl_kernel_rfl) rfl rfl _

/-- A strip of the result from row 640. -/
theorem t1055 : Sub4 (sl.v1055 (F := Ideal) c i a2 h2 a3 h3 a4 h4 a5 h5 a6 h6 a7 h7 a8 h8 a9 h9 a10 h10 a15 a17 hc0 x0 x1 x2 x3 x4 x5 x6 x7 x8) C.DQ 640 0 :=
  toBlock (trunc (toDQ 896 640 (by omega) (by omega) rfl (mul (tr (mmN rfl (H.bKT) (t1042 H)) _) (splatV H.hgq _ _))) _) _

/-- A load of the gradients at 0, 384. -/
theorem t602 : Sub (m := 640) (n := 256) (sl.v602 (F := Ideal) c i a2 h2 a3 h3 a6 h6 a7 h7 a8 h8 a9 h9 a10 h10 a15 a17 hc0 x0 x1 x4 x5 x6 x7 x8) C.DST 0 384 :=
  loadCov a17.view (HS2_17 H) 0 384 5 2 (by sl_kernel_rfl) rfl rfl _

/-- A strip of the result from row 384. -/
theorem t615 : Sub4 (sl.v615 (F := Ideal) c i a2 h2 a3 h3 a4 h4 a5 h5 a6 h6 a7 h7 a8 h8 a9 h9 a10 h10 a15 a17 hc0 x0 x1 x2 x3 x4 x5 x6 x7 x8) C.DQ 384 0 :=
  toBlock (trunc (toDQ 640 384 (by omega) (by omega) rfl (mul (tr (mmN rfl (slice (H.bKT) 0 0 _) (t602 H)) _) (splatV H.hgq _ _))) _) _

/-- A load of the gradients at 0, 128. -/
theorem t279 : Sub (m := 384) (n := 256) (sl.v279 (F := Ideal) c i a2 h2 a3 h3 a6 h6 a7 h7 a8 h8 a9 h9 a10 h10 a15 a17 hc0 x0 x1 x4 x5 x6 x7 x8) C.DST 0 128 :=
  loadCov a17.view (HS2_7 H) 0 128 3 2 (by sl_kernel_rfl) rfl rfl _

/-- A strip of the result from row 128. -/
theorem t292 : Sub4 (sl.v292 (F := Ideal) c i a2 h2 a3 h3 a4 h4 a5 h5 a6 h6 a7 h7 a8 h8 a9 h9 a10 h10 a15 a17 hc0 x0 x1 x2 x3 x4 x5 x6 x7 x8) C.DQ 128 0 :=
  toBlock (trunc (toDQ 384 128 (by omega) (by omega) rfl (mul (tr (mmN rfl (slice (H.bKT) 0 0 _) (t279 H)) _) (splatV H.hgq _ _))) _) _

/-- A load of the gradients at 0, 0. -/
theorem t76 : Sub (m := 128) (n := 128) (sl.v76 (F := Ideal) c i a2 h2 a3 h3 a6 h6 a7 h7 a8 h8 a9 h9 a10 h10 a15 a17 hc0 x0 x1 x4 x5 x6 x7 x8) C.DST 0 0 :=
  loadCov a17.view (HS2_1 H) 0 0 1 1 (by sl_kernel_rfl) rfl rfl _

/-- A strip of the result from row 0. -/
theorem t89 : Sub4 (sl.v89 (F := Ideal) c i a2 h2 a3 h3 a4 h4 a5 h5 a6 h6 a7 h7 a8 h8 a9 h9 a10 h10 a15 a17 hc0 x0 x1 x2 x3 x4 x5 x6 x7 x8) C.DQ 0 0 :=
  toBlock (trunc (toDQ 128 0 (by omega) (by omega) rfl (mul (tr (mmN rfl (slice (H.bKT) 0 0 _) (t76 H)) _) (splatV H.hgq _ _))) _) _

/-- A load of the gradients at 640, 640. -/
theorem t1139 : Sub (m := 256) (n := 256) (sl.v1139 (F := Ideal) c i a2 h2 a3 h3 a6 h6 a7 h7 a8 h8 a9 h9 a10 h10 a15 a17 hc0 x0 x1 x4 x5 x6 x7 x8) C.DST 640 640 :=
  loadCov a17.view (HS2_31 H) 640 640 2 2 (by sl_kernel_rfl) rfl rfl _

/-- A strip of the result from row 640. -/
theorem t1152 : Sub4 (sl.v1152 (F := Ideal) c i a2 h2 a3 h3 a4 h4 a5 h5 a6 h6 a7 h7 a8 h8 a9 h9 a10 h10 a15 a17 hc0 x0 x1 x2 x3 x4 x5 x6 x7 x8) C.DK 640 0 :=
  toBlock (trunc (toDK 640 256 rfl rfl (mul (mmN rfl (t1139 H) (slice (ext (H.bQ) _) 640 0 _)) (splatV H.hgk _ _))) _) _

/-- A load of the gradients at 384, 384. -/
theorem t1112 : Sub (m := 256) (n := 512) (sl.v1112 (F := Ideal) c i a2 h2 a3 h3 a6 h6 a7 h7 a8 h8 a9 h9 a10 h10 a15 a17 hc0 x0 x1 x4 x5 x6 x7 x8) C.DST 384 384 :=
  loadCov a17.view (HS2_31 H) 384 384 2 4 (by sl_kernel_rfl) rfl rfl _

/-- A strip of the result from row 384. -/
theorem t1125 : Sub4 (sl.v1125 (F := Ideal) c i a2 h2 a3 h3 a4 h4 a5 h5 a6 h6 a7 h7 a8 h8 a9 h9 a10 h10 a15 a17 hc0 x0 x1 x2 x3 x4 x5 x6 x7 x8) C.DK 384 0 :=
  toBlock (trunc (toDK 384 512 rfl rfl (mul (mmN rfl (t1112 H) (slice (ext (H.bQ) _) 384 0 _)) (splatV H.hgk _ _))) _) _

/-- A load of the gradients at 128, 128. -/
theorem t1085 : Sub (m := 256) (n := 768) (sl.v1085 (F := Ideal) c i a2 h2 a3 h3 a6 h6 a7 h7 a8 h8 a9 h9 a10 h10 a15 a17 hc0 x0 x1 x4 x5 x6 x7 x8) C.DST 128 128 :=
  loadCov a17.view (HS2_31 H) 128 128 2 6 (by sl_kernel_rfl) rfl rfl _

/-- A strip of the result from row 128. -/
theorem t1098 : Sub4 (sl.v1098 (F := Ideal) c i a2 h2 a3 h3 a4 h4 a5 h5 a6 h6 a7 h7 a8 h8 a9 h9 a10 h10 a15 a17 hc0 x0 x1 x2 x3 x4 x5 x6 x7 x8) C.DK 128 0 :=
  toBlock (trunc (toDK 128 768 rfl rfl (mul (mmN rfl (t1085 H) (slice (ext (H.bQ) _) 128 0 _)) (splatV H.hgk _ _))) _) _

/-- A load of the gradients at 0, 0. -/
theorem t1060 : Sub (m := 128) (n := 896) (sl.v1060 (F := Ideal) c i a2 h2 a3 h3 a6 h6 a7 h7 a8 h8 a9 h9 a10 h10 a15 a17 hc0 x0 x1 x4 x5 x6 x7 x8) C.DST 0 0 :=
  loadCov a17.view (HS2_31 H) 0 0 1 7 (by sl_kernel_rfl) rfl rfl _

/-- A strip of the result from row 0. -/
theorem t1072 : Sub4 (sl.v1072 (F := Ideal) c i a2 h2 a3 h3 a4 h4 a5 h5 a6 h6 a7 h7 a8 h8 a9 h9 a10 h10 a15 a17 hc0 x0 x1 x2 x3 x4 x5 x6 x7 x8) C.DK 0 0 :=
  toBlock (trunc (toDK 0 896 rfl rfl (mul (mmN rfl (t1060 H) (ext (H.bQ) _)) (splatV H.hgk _ _))) _) _

end Cert.KernelIdeal.Gen.CaseA
-- ==== Proof.CaseA2.lean ====
/-
  The kernel's values at a grid point of even batch, operation by operation, as tiles of the matrices of `Model`.
-/
module

public import proofs.«01_k».proof.Proof.CaseA1

@[expose] public section

set_option maxRecDepth 16384

noncomputable section

namespace Cert.KernelIdeal.Gen.CaseA

open Idealize.ShloMosaic Idealize.ShloMosaic.ValueIdx Idealize.SL.Sem Cert.KernelIdeal.Tiles
open Cert.KernelIdeal.Gen.kernelRun0_A

variable {c : Dev nD} {i : grid0.Coords} {a2 : Memref sig .tc .smem S2x20 .f32} {h2 : a2.IsWhole}
  {a3 : Memref sig .tc .smem S2x20 .f32} {h3 : a3.IsWhole} {a4 : Memref sig .tc .smem S2x20 .f32} {h4 : a4.IsWhole}
  {a5 : Memref sig .tc .smem S2x20 .f32} {h5 : a5.IsWhole} {a6 : Memref sig .tc .smem S20x32 .f32} {h6 : a6.IsWhole}
  {a7 : Memref sig .tc .vmem S1x1x896x128 .fp8e4m3} {h7 : a7.IsWhole} {a8 : Memref sig .tc .vmem S1x1x896x128 .fp8e4m3} {h8 : a8.IsWhole}
  {a9 : Memref sig .tc .vmem S1x1x896x128 .fp8e4m3} {h9 : a9.IsWhole} {a10 : Memref sig .tc .vmem S1x1x896x128 .fp8e5m2} {h10 : a10.IsWhole}
  {a15 : Memref sig .tc .vmem S128x256 .f32} {hc0 : cond0_0 i} {x0 : Vec Ideal S2x20 .f32} {x1 : Vec Ideal S2x20 .f32}
  {x2 : Vec Ideal S2x20 .f32} {x3 : Vec Ideal S2x20 .f32} {x4 : Vec Ideal S20x32 .f32} {x5 : Vec Ideal S1x1x896x128 .fp8e4m3}
  {x6 : Vec Ideal S1x1x896x128 .fp8e4m3} {x7 : Vec Ideal S1x1x896x128 .fp8e4m3} {x8 : Vec Ideal S1x1x896x128 .fp8e5m2} {C : Ctx}
  {a16 a17 : Memref sig .tc .vmem S896x896 .bf16}

variable (H : Ins c i a2 h2 a3 h3 a4 h4 a5 h5 a6 h6 a7 h7 a8 h8 a9 h9 a10 h10 a15 hc0 x0 x1 x2 x3 x4 x5 x6 x7 x8 C)
include H

/-- The stored tiles of the weights. -/
theorem HS1_31 : AllOk C.PT (sl.HS1_31 (F := Ideal) c i a2 h2 a3 h3 a6 h6 a7 h7 a8 h8 a15 hc0 x0 x1 x4 x5 x6) :=
  AllOk.cons (i := 768) (j := 768) (toPT (C := C) 6 6 (by decide) (same (trunc (t1029 H) _) _))
    (AllOk.cons (i := 640) (j := 768) (toPT (C := C) 5 6 (by decide) (same (trunc (t1015 H) _) _))
    (AllOk.cons (i := 512) (j := 768) (toPT (C := C) 4 6 (by decide) (same (trunc (t1002 H) _) _))
    (AllOk.cons (i := 384) (j := 768) (toPT (C := C) 3 6 (by decide) (same (trunc (t989 H) _) _))
    (AllOk.cons (i := 256) (j := 768) (toPT (C := C) 2 6 (by decide) (same (trunc (t976 H) _) _))
    (AllOk.cons (i := 128) (j := 768) (toPT (C := C) 1 6 (by decide) (same (trunc (t963 H) _) _))
    (AllOk.cons (i := 0) (j := 768) (toPT (C := C) 0 6 (by decide) (same (trunc (t950 H) _) _))
    (AllOk.cons (i := 768) (j := 640) (zeroPT (C := C) 6 5 (by decide) (same (splatV ofBits_zero_bf16 _ _) _))
    (AllOk.cons (i := 640) (j := 640) (toPT (C := C) 5 5 (by decide) (same (trunc (t799 H) _) _))
    (AllOk.cons (i := 512) (j := 640) (toPT (C := C) 4 5 (by decide) (same (trunc (t785 H) _) _))
    (AllOk.cons (i := 384) (j := 640) (toPT (C := C) 3 5 (by decide) (same (trunc (t772 H) _) _))
    (AllOk.cons (i := 256) (j := 640) (toPT (C := C) 2 5 (by decide) (same (trunc (t759 H) _) _))
    (AllOk.cons (i := 128) (j := 640) (toPT (C := C) 1 5 (by decide) (same (trunc (t746 H) _) _))
    (AllOk.cons (i := 0) (j := 640) (toPT (C := C) 0 5 (by decide) (same (trunc (t733 H) _) _))
    (AllOk.cons (i := 512) (j := 512) (toPT (C := C) 4 4 (by decide) (same (trunc (t588 H) _) _))
    (AllOk.cons (i := 384) (j := 512) (toPT (C := C) 3 4 (by decide) (same (trunc (t574 H) _) _))
    (AllOk.cons (i := 256) (j := 512) (toPT (C := C) 2 4 (by decide) (same (trunc (t561 H) _) _))
    (AllOk.cons (i := 128) (j := 512) (toPT (C := C) 1 4 (by decide) (same (trunc (t548 H) _) _))
    (AllOk.cons (i := 0) (j := 512) (toPT (C := C) 0 4 (by decide) (same (trunc (t535 H) _) _))
    (AllOk.cons (i := 512) (j := 384) (zeroPT (C := C) 4 3 (by decide) (same (splatV ofBits_zero_bf16 _ _) _))
    (AllOk.cons (i := 384) (j := 384) (toPT (C := C) 3 3 (by decide) (same (trunc (t418 H) _) _))
    (AllOk.cons (i := 256) (j := 384) (toPT (C := C) 2 3 (by decide) (same (trunc (t404 H) _) _))
    (AllOk.cons (i := 128) (j := 384) (toPT (C := C) 1 3 (by decide) (same (trunc (t391 H) _) _))
    (AllOk.cons (i := 0) (j := 384) (toPT (C := C) 0 3 (by decide) (same (trunc (t378 H) _) _))
    (AllOk.cons (i := 256) (j := 256) (toPT (C := C) 2 2 (by decide) (same (trunc (t265 H) _) _))
    (AllOk.cons (i := 128) (j := 256) (toPT (C := C) 1 2 (by decide) (same (trunc (t251 H) _) _))
    (AllOk.cons (i := 0) (j := 256) (toPT (C := C) 0 2 (by decide) (same (trunc (t238 H) _) _))
    (AllOk.cons (i := 256) (j := 128) (zeroPT (C := C) 2 1 (by decide) (same (splatV ofBits_zero_bf16 _ _) _))
    (AllOk.cons (i := 128) (j := 128) (toPT (C := C) 1 1 (by decide) (same (trunc (t155 H) _) _))
    (AllOk.cons (i := 0) (j := 128) (toPT (C := C) 0 1 (by decide) (same (trunc (t141 H) _) _))
    (AllOk.cons (i := 0) (j := 0) (toPT (C := C) 0 0 (by decide) (same (trunc (t62 H) _) _))
    (AllOk.nil)))))))))))))))))))))))))))))))

/-- A load of the weights at 640, 640. -/
theorem t1154 : Sub (m := 256) (n := 256) (sl.v1154 (F := Ideal) c i a2 h2 a3 h3 a6 h6 a7 h7 a8 h8 a15 a16 hc0 x0 x1 x4 x5 x6) C.PT 640 640 :=
  loadCov a16.view (HS1_31 H) 640 640 2 2 (by sl_kernel_rfl) rfl rfl _

/-- A strip of the result from row 640. -/
theorem t1165 : Sub4 (sl.v1165 (F := Ideal) c i a2 h2 a3 h3 a5 h5 a6 h6 a7 h7 a8 h8 a10 h10 a15 a16 hc0 x0 x1 x3 x4 x5 x6 x8) C.DV 640 0 :=
  toBlock (trunc (toDV 640 256 rfl rfl (mul (tr (mmT rfl (slice (trunc (tr (ext (H.bDO) _) _) _) 0 640 _) (t1154 H)) _) (splatV H.hos _ _))) _) _

/-- A load of the weights at 384, 384. -/
theorem t1127 : Sub (m := 256) (n := 512) (sl.v1127 (F := Ideal) c i a2 h2 a3 h3 a6 h6 a7 h7 a8 h8 a15 a16 hc0 x0 x1 x4 x5 x6) C.PT 384 384 :=
  loadCov a16.view (HS1_31 H) 384 384 2 4 (by sl_kernel_rfl) rfl rfl _

/-- A strip of the result from row 384. -/
theorem t1138 : Sub4 (sl.v1138 (F := Ideal) c i a2 h2 a3 h3 a5 h5 a6 h6 a7 h7 a8 h8 a10 h10 a15 a16 hc0 x0 x1 x3 x4 x5 x6 x8) C.DV 384 0 :=
  toBlock (trunc (toDV 384 512 rfl rfl (mul (tr (mmT rfl (slice (trunc (tr (ext (H.bDO) _) _) _) 0 384 _) (t1127 H)) _) (splatV H.hos _ _))) _) _

/-- A load of the weights at 128, 128. -/
theorem t1100 : Sub (m := 256) (n := 768) (sl.v1100 (F := Ideal) c i a2 h2 a3 h3 a6 h6 a7 h7 a8 h8 a15 a16 hc0 x0 x1 x4 x5 x6) C.PT 128 128 :=
  loadCov a16.view (HS1_31 H) 128 128 2 6 (by sl_kernel_rfl) rfl rfl _

/-- A strip of the result from row 128. -/
theorem t1111 : Sub4 (sl.v1111 (F := Ideal) c i a2 h2 a3 h3 a5 h5 a6 h6 a7 h7 a8 h8 a10 h10 a15 a16 hc0 x0 x1 x3 x4 x5 x6 x8) C.DV 128 0 :=
  toBlock (trunc (toDV 128 768 rfl rfl (mul (tr (mmT rfl (slice (trunc (tr (ext (H.bDO) _) _) _) 0 128 _) (t1100 H)) _) (splatV H.hos _ _))) _) _

/-- A load of the weights at 0, 0. -/
theorem t1073 : Sub (m := 128) (n := 896) (sl.v1073 (F := Ideal) c i a2 h2 a3 h3 a6 h6 a7 h7 a8 h8 a15 a16 hc0 x0 x1 x4 x5 x6) C.PT 0 0 :=
  loadCov a16.view (HS1_31 H) 0 0 1 7 (by sl_kernel_rfl) rfl rfl _

/-- A strip of the result from row 0. -/
theorem t1084 : Sub4 (sl.v1084 (F := Ideal) c i a2 h2 a3 h3 a5 h5 a6 h6 a7 h7 a8 h8 a10 h10 a15 a16 hc0 x0 x1 x3 x4 x5 x6 x8) C.DV 0 0 :=
  toBlock (trunc (toDV 0 896 rfl rfl (mul (tr (mmT rfl (trunc (tr (ext (H.bDO) _) _) _) (t1073 H)) _) (splatV H.hos _ _))) _) _

end Cert.KernelIdeal.Gen.CaseA
-- ==== Proof.CaseB0.lean ====
/-
  The kernel's values at a grid point of odd batch, operation by operation, as tiles of the matrices of `Model`.
-/
module

public import proofs.«01_k».proof.Proof.Model

@[expose] public section

set_option maxRecDepth 16384

noncomputable section

namespace Cert.KernelIdeal.Gen.CaseB

open Idealize.ShloMosaic Idealize.ShloMosaic.ValueIdx Idealize.SL.Sem Cert.KernelIdeal.Tiles
open Cert.KernelIdeal.Gen.kernelRun0_B

/-- What the point is given: its blocks, scales and bias table are those of `C`. -/
structure Ins (c : Dev nD) (i : grid0.Coords) (a2 : Memref sig .tc .smem S2x20 .f32) (h2 : a2.IsWhole)
  (a3 : Memref sig .tc .smem S2x20 .f32) (h3 : a3.IsWhole) (a4 : Memref sig .tc .smem S2x20 .f32) (h4 : a4.IsWhole)
  (a5 : Memref sig .tc .smem S2x20 .f32) (h5 : a5.IsWhole) (a7 : Memref sig .tc .vmem S1x1x896x128 .fp8e4m3) (h7 : a7.IsWhole)
  (a8 : Memref sig .tc .vmem S1x1x896x128 .fp8e4m3) (h8 : a8.IsWhole) (a9 : Memref sig .tc .vmem S1x1x896x128 .fp8e4m3) (h9 : a9.IsWhole)
  (a10 : Memref sig .tc .vmem S1x1x896x128 .fp8e5m2) (h10 : a10.IsWhole) (a15 : Memref sig .tc .vmem S128x256 .f32) (h15 : a15.IsWhole)
  (x0 : Vec Ideal S2x20 .f32) (x1 : Vec Ideal S2x20 .f32) (x2 : Vec Ideal S2x20 .f32) (x3 : Vec Ideal S2x20 .f32)
  (x5 : Vec Ideal S1x1x896x128 .fp8e4m3) (x6 : Vec Ideal S1x1x896x128 .fp8e4m3) (x7 : Vec Ideal S1x1x896x128 .fp8e4m3) (x8 : Vec Ideal S1x1x896x128 .fp8e5m2)
  (s0 : Vec Ideal S128x256 .f32) (C : Ctx) : Prop where
  bQ : Sub (sl.r_4 (F := Ideal) c a7 h7 x5) C.Q 0 0
  bK : Sub (sl.r_5 (F := Ideal) c a8 h8 x6) C.K 0 0
  bV : Sub (sl.r_6 (F := Ideal) c a9 h9 x7) C.V 0 0
  bDO : Sub (sl.r_7 (F := Ideal) c a10 h10 x8) C.DO 0 0
  sq : sl.r (F := Ideal) c i a2 h2 x0 = C.qs
  sk : sl.r_1 (F := Ideal) c i a3 h3 x1 = C.ks
  sv : sl.r_3 (F := Ideal) c i a4 h4 x2 = C.vs
  so : sl.r_2 (F := Ideal) c i a5 h5 x3 = C.os
  hT : Sub s0 C.T 0 0

variable {c : Dev nD} {i : grid0.Coords} {a2 : Memref sig .tc .smem S2x20 .f32} {h2 : a2.IsWhole}
  {a3 : Memref sig .tc .smem S2x20 .f32} {h3 : a3.IsWhole} {a4 : Memref sig .tc .smem S2x20 .f32} {h4 : a4.IsWhole}
  {a5 : Memref sig .tc .smem S2x20 .f32} {h5 : a5.IsWhole} {a7 : Memref sig .tc .vmem S1x1x896x128 .fp8e4m3} {h7 : a7.IsWhole}
  {a8 : Memref sig .tc .vmem S1x1x896x128 .fp8e4m3} {h8 : a8.IsWhole} {a9 : Memref sig .tc .vmem S1x1x896x128 .fp8e4m3} {h9 : a9.IsWhole}
  {a10 : Memref sig .tc .vmem S1x1x896x128 .fp8e5m2} {h10 : a10.IsWhole} {a15 : Memref sig .tc .vmem S128x256 .f32} {h15 : a15.IsWhole}
  {x0 : Vec Ideal S2x20 .f32} {x1 : Vec Ideal S2x20 .f32} {x2 : Vec Ideal S2x20 .f32} {x3 : Vec Ideal S2x20 .f32}
  {x5 : Vec Ideal S1x1x896x128 .fp8e4m3} {x6 : Vec Ideal S1x1x896x128 .fp8e4m3} {x7 : Vec Ideal S1x1x896x128 .fp8e4m3} {x8 : Vec Ideal S1x1x896x128 .fp8e5m2}
  {s0 : Vec Ideal S128x256 .f32} {C : Ctx}
  {a16 a17 : Memref sig .tc .vmem S896x896 .bf16}

variable (H : Ins c i a2 h2 a3 h3 a4 h4 a5 h5 a7 h7 a8 h8 a9 h9 a10 h10 a15 h15 x0 x1 x2 x3 x5 x6 x7 x8 s0 C)
include H

/-- The transposed keys. -/
theorem Ins.bKT : Sub (sl.r_10 (F := Ideal) c a8 h8 x6) (fun d k => C.K k d) 0 0 := trunc (tr (ext H.bK _) _) _
/-- The first key block. -/
theorem Ins.bK0 : Sub (sl.r_11 (F := Ideal) c a8 h8 x6) C.K 0 0 :=
  slice (m' := 128) (n' := 128) H.bK 0 0 slices_S896x128_o0_0_S128x128
/-- The first query block. -/
theorem Ins.bQ0 : Sub (sl.r_12 (F := Ideal) c a7 h7 x5) C.Q 0 0 :=
  slice (m' := 128) (n' := 128) H.bQ 0 0 slices_S896x128_o0_0_S128x128
/-- The scores' factor. -/
theorem Ins.hc : sl.r_8 (F := Ideal) c i a2 h2 a3 h3 x0 x1 = C.c := congrArg₂ (fun a b => k0_pay33 (F := Ideal) a b) H.sq H.sk
/-- The weights' gradients' factor. -/
theorem Ins.hdps : sl.r_9 (F := Ideal) c i a4 h4 a5 h5 x2 x3 = C.dps := congrArg₂ (fun a b => k0_pay34 (F := Ideal) a b) H.so H.sv
/-- The queries' gradient's factor. -/
theorem Ins.hgq : sl.v83 (F := Ideal) c i a3 h3 a4 h4 a5 h5 x1 x2 x3 = C.gq := congrArg₂ (fun a b => Ideal.ofBits .f32 0x3DB504F3#32 * a * b) H.sk H.hdps
/-- The keys' gradient's factor. -/
theorem Ins.hgk : sl.v1066 (F := Ideal) c i a2 h2 a4 h4 a5 h5 x0 x2 x3 = C.gk := congrArg₂ (fun a b => Ideal.ofBits .f32 0x3DB504F3#32 * a * b) H.sq H.hdps
/-- The values' gradient's factor. -/
theorem Ins.hos : sl.r_15 (F := Ideal) c i a5 h5 x3 = C.os := H.so
/-- A load of the bias table at column 0. -/
theorem toep0 {inb : ∀ a, (![0, 0] : Fin 2 → ℕ) a + S128x128.size a ≤ S128x256.size a} : Sub (m := 128) (n := 128) (View.readAt (Elt Ideal) a15.view (Rect.unit (s := S128x256) ![0, 0] S128x128.size inb).toLoadRect (h15.unread s0)) C.T 0 0 :=
  loadBox a15 h15 H.hT 0 0 inb
/-- A load of the bias table at column 128. -/
theorem toep128 {inb : ∀ a, (![0, 128] : Fin 2 → ℕ) a + S128x128.size a ≤ S128x256.size a} : Sub (m := 128) (n := 128) (View.readAt (Elt Ideal) a15.view (Rect.unit (s := S128x256) ![0, 128] S128x128.size inb).toLoadRect (h15.unread s0)) C.T 0 128 :=
  loadBox a15 h15 H.hT 0 128 inb

/-- Keys by queries of the tile at 0, 640. -/
theorem t617 : Sub (sl.v617 (F := Ideal) c a7 h7 a8 h8 x5 x6) C.S 0 640 :=
  mmT rfl (H.bK) (slice (H.bQ) 640 0 _)

/-- Scores of the tile at 768, 768. -/
theorem t867 : Sub (sl.v867 (F := Ideal) c i a2 h2 a3 h3 a7 h7 a8 h8 a15 h15 x0 x1 x5 x6 s0) C.U 768 768 :=
  uNear (C := C) 6 6 0 rfl (by omega) (mul (slice (t617 H) 768 128 _) (splatV H.hc _ _)) (toep0 H)

/-- Scores of the tile at 0, 768. -/
theorem t822 : Sub (sl.v822 (F := Ideal) c i a2 h2 a3 h3 a7 h7 a8 h8 x0 x1 x5 x6) C.U 0 768 :=
  uFar (C := C) 0 6 (by decide) (mul (slice (t617 H) 0 128 _) (splatV H.hc _ _))

/-- Scores of the tile at 128, 768. -/
theorem t828 : Sub (sl.v828 (F := Ideal) c i a2 h2 a3 h3 a7 h7 a8 h8 x0 x1 x5 x6) C.U 128 768 :=
  uFar (C := C) 1 6 (by decide) (mul (slice (t617 H) 128 128 _) (splatV H.hc _ _))

/-- Scores of the tile at 256, 768. -/
theorem t835 : Sub (sl.v835 (F := Ideal) c i a2 h2 a3 h3 a7 h7 a8 h8 x0 x1 x5 x6) C.U 256 768 :=
  uFar (C := C) 2 6 (by decide) (mul (slice (t617 H) 256 128 _) (splatV H.hc _ _))

/-- Scores of the tile at 384, 768. -/
theorem t842 : Sub (sl.v842 (F := Ideal) c i a2 h2 a3 h3 a7 h7 a8 h8 x0 x1 x5 x6) C.U 384 768 :=
  uFar (C := C) 3 6 (by decide) (mul (slice (t617 H) 384 128 _) (splatV H.hc _ _))

/-- Scores of the tile at 512, 768. -/
theorem t849 : Sub (sl.v849 (F := Ideal) c i a2 h2 a3 h3 a7 h7 a8 h8 x0 x1 x5 x6) C.U 512 768 :=
  uFar (C := C) 4 6 (by decide) (mul (slice (t617 H) 512 128 _) (splatV H.hc _ _))

/-- Scores of the tile at 640, 768. -/
theorem t858 : Sub (sl.v858 (F := Ideal) c i a2 h2 a3 h3 a7 h7 a8 h8 a15 h15 x0 x1 x5 x6 s0) C.U 640 768 :=
  uNear (C := C) 5 6 1 rfl (by omega) (mul (slice (t617 H) 640 128 _) (splatV H.hc _ _)) (toep128 H)

/-- The queries' greatest scores from 768. -/
theorem t873 : Sub (sl.v873 (F := Ideal) c i a2 h2 a3 h3 a7 h7 a8 h8 a15 h15 x0 x1 x5 x6 s0) (fun _ q => C.M q) 0 768 :=
  row1 (rowM (C := C) 6 (colMax (pmaxS 6 768 rfl (pmaxS 5 640 rfl (pmaxS 4 512 rfl (pmaxS 3 384 rfl (pmaxS 2 256 rfl (pmaxS 1 128 rfl (pmax0 (groupMax (split3 (t822 H) rfl _) _ _ _)) (groupMax (split3 (t828 H) rfl _) _ _ _)) (groupMax (split3 (t835 H) rfl _) _ _ _)) (groupMax (split3 (t842 H) rfl _) _ _ _)) (groupMax (split3 (t849 H) rfl _) _ _ _)) (groupMax (split3 (t858 H) rfl _) _ _ _)) (groupMax (split3 (t867 H) rfl _) _ _ _)) _ _ _)) _

/-- Weights before normalizing of the tile at 768, 768. -/
theorem t934 : Sub (sl.v934 (F := Ideal) c i a2 h2 a3 h3 a7 h7 a8 h8 a15 h15 x0 x1 x5 x6 s0) C.E 768 768 :=
  exp2' (sub (t867 H) (spread (t873 H) (by decide) _ _))

/-- Weights before normalizing of the tile at 0, 768. -/
theorem t876 : Sub (sl.v876 (F := Ideal) c i a2 h2 a3 h3 a7 h7 a8 h8 a15 h15 x0 x1 x5 x6 s0) C.E 0 768 :=
  exp2' (sub (t822 H) (spread (t873 H) (by decide) _ _))

/-- Weights before normalizing of the tile at 128, 768. -/
theorem t884 : Sub (sl.v884 (F := Ideal) c i a2 h2 a3 h3 a7 h7 a8 h8 a15 h15 x0 x1 x5 x6 s0) C.E 128 768 :=
  exp2' (sub (t828 H) (spread (t873 H) (by decide) _ _))

/-- Weights before normalizing of the tile at 256, 768. -/
theorem t894 : Sub (sl.v894 (F := Ideal) c i a2 h2 a3 h3 a7 h7 a8 h8 a15 h15 x0 x1 x5 x6 s0) C.E 256 768 :=
  exp2' (sub (t835 H) (spread (t873 H) (by decide) _ _))

/-- Weights before normalizing of the tile at 384, 768. -/
theorem t904 : Sub (sl.v904 (F := Ideal) c i a2 h2 a3 h3 a7 h7 a8 h8 a15 h15 x0 x1 x5 x6 s0) C.E 384 768 :=
  exp2' (sub (t842 H) (spread (t873 H) (by decide) _ _))

/-- Weights before normalizing of the tile at 512, 768. -/
theorem t914 : Sub (sl.v914 (F := Ideal) c i a2 h2 a3 h3 a7 h7 a8 h8 a15 h15 x0 x1 x5 x6 s0) C.E 512 768 :=
  exp2' (sub (t849 H) (spread (t873 H) (by decide) _ _))

/-- Weights before normalizing of the tile at 640, 768. -/
theorem t924 : Sub (sl.v924 (F := Ideal) c i a2 h2 a3 h3 a7 h7 a8 h8 a15 h15 x0 x1 x5 x6 s0) C.E 640 768 :=
  exp2' (sub (t858 H) (spread (t873 H) (by decide) _ _))

/-- The reciprocals of the queries' total weights from 768. -/
theorem t945 : Sub (sl.v945 (F := Ideal) c i a2 h2 a3 h3 a7 h7 a8 h8 a15 h15 x0 x1 x5 x6 s0) (fun _ q => C.RL q) 0 768 :=
  div (splatV rfl _ _) (row1 (rowL (G := C.E) 6 (colSum (psumS 6 768 rfl (psumS 5 640 rfl (psumS 4 512 rfl (psumS 3 384 rfl (psumS 2 256 rfl (psumS 1 128 rfl (psum0 (groupSum (split3 (t876 H) rfl _) _ _ _)) (groupSum (split3 (t884 H) rfl _) _ _ _)) (groupSum (split3 (t894 H) rfl _) _ _ _)) (groupSum (split3 (t904 H) rfl _) _ _ _)) (groupSum (split3 (t914 H) rfl _) _ _ _)) (groupSum (split3 (t924 H) rfl _) _ _ _)) (groupSum (split3 (t934 H) rfl _) _ _ _)) _ _ _)) _)

/-- Softmax weights of the tile at 768, 768. -/
theorem t1029 : Sub (sl.v1029 (F := Ideal) c i a2 h2 a3 h3 a7 h7 a8 h8 a15 h15 x0 x1 x5 x6 s0) C.P 768 768 :=
  mul (t934 H) (spread (t945 H) (by decide) _ _)

/-- Values by output gradients of the tile at 0, 640. -/
theorem t619 : Sub (sl.v619 (F := Ideal) c a9 h9 a10 h10 x7 x8) C.D 0 640 :=
  mmT rfl (H.bV) (slice (H.bDO) 640 0 _)

/-- The queries' mean products from 768. -/
theorem t948 : Sub (sl.v948 (F := Ideal) c i a2 h2 a3 h3 a7 h7 a8 h8 a9 h9 a10 h10 a15 h15 x0 x1 x5 x6 x7 x8 s0) (fun _ q => C.TD q) 0 768 :=
  mul (row1 (rowL (G := C.ED) 6 (colSum (psumS 6 768 rfl (psumS 5 640 rfl (psumS 4 512 rfl (psumS 3 384 rfl (psumS 2 256 rfl (psumS 1 128 rfl (psum0 (groupSum (split3 (mul (t876 H) (slice (t619 H) 0 128 _)) rfl _) _ _ _)) (groupSum (split3 (mul (t884 H) (slice (t619 H) 128 128 _)) rfl _) _ _ _)) (groupSum (split3 (mul (t894 H) (slice (t619 H) 256 128 _)) rfl _) _ _ _)) (groupSum (split3 (mul (t904 H) (slice (t619 H) 384 128 _)) rfl _) _ _ _)) (groupSum (split3 (mul (t914 H) (slice (t619 H) 512 128 _)) rfl _) _ _ _)) (groupSum (split3 (mul (t924 H) (slice (t619 H) 640 128 _)) rfl _) _ _ _)) (groupSum (split3 (mul (t934 H) (slice (t619 H) 768 128 _)) rfl _) _ _ _)) _ _ _)) _) (t945 H)

/-- The scores' gradient of the tile at 768, 768. -/
theorem t1032 : Sub (sl.v1032 (F := Ideal) c i a2 h2 a3 h3 a7 h7 a8 h8 a9 h9 a10 h10 a15 h15 x0 x1 x5 x6 x7 x8 s0) C.DS 768 768 :=
  mul (t1029 H) (sub (slice (t619 H) 768 128 _) (spread (t948 H) (by decide) _ _))

/-- Softmax weights of the tile at 640, 768. -/
theorem t1015 : Sub (sl.v1015 (F := Ideal) c i a2 h2 a3 h3 a7 h7 a8 h8 a15 h15 x0 x1 x5 x6 s0) C.P 640 768 :=
  mul (t924 H) (spread (t945 H) (by decide) _ _)

/-- The scores' gradient of the tile at 640, 768. -/
theorem t1018 : Sub (sl.v1018 (F := Ideal) c i a2 h2 a3 h3 a7 h7 a8 h8 a9 h9 a10 h10 a15 h15 x0 x1 x5 x6 x7 x8 s0) C.DS 640 768 :=
  mul (t1015 H) (sub (slice (t619 H) 640 128 _) (spread (t948 H) (by decide) _ _))

/-- Softmax weights of the tile at 512, 768. -/
theorem t1002 : Sub (sl.v1002 (F := Ideal) c i a2 h2 a3 h3 a7 h7 a8 h8 a15 h15 x0 x1 x5 x6 s0) C.P 512 768 :=
  mul (t914 H) (spread (t945 H) (by decide) _ _)

/-- The scores' gradient of the tile at 512, 768. -/
theorem t1005 : Sub (sl.v1005 (F := Ideal) c i a2 h2 a3 h3 a7 h7 a8 h8 a9 h9 a10 h10 a15 h15 x0 x1 x5 x6 x7 x8 s0) C.DS 512 768 :=
  mul (t1002 H) (sub (slice (t619 H) 512 128 _) (spread (t948 H) (by decide) _ _))

/-- Softmax weights of the tile at 384, 768. -/
theorem t989 : Sub (sl.v989 (F := Ideal) c i a2 h2 a3 h3 a7 h7 a8 h8 a15 h15 x0 x1 x5 x6 s0) C.P 384 768 :=
  mul (t904 H) (spread (t945 H) (by decide) _ _)

/-- The scores' gradient of the tile at 384, 768. -/
theorem t992 : Sub (sl.v992 (F := Ideal) c i a2 h2 a3 h3 a7 h7 a8 h8 a9 h9 a10 h10 a15 h15 x0 x1 x5 x6 x7 x8 s0) C.DS 384 768 :=
  mul (t989 H) (sub (slice (t619 H) 384 128 _) (spread (t948 H) (by decide) _ _))

/-- Softmax weights of the tile at 256, 768. -/
theorem t976 : Sub (sl.v976 (F := Ideal) c i a2 h2 a3 h3 a7 h7 a8 h8 a15 h15 x0 x1 x5 x6 s0) C.P 256 768 :=
  mul (t894 H) (spread (t945 H) (by decide) _ _)

/-- The scores' gradient of the tile at 256, 768. -/
theorem t979 : Sub (sl.v979 (F := Ideal) c i a2 h2 a3 h3 a7 h7 a8 h8 a9 h9 a10 h10 a15 h15 x0 x1 x5 x6 x7 x8 s0) C.DS 256 768 :=
  mul (t976 H) (sub (slice (t619 H) 256 128 _) (spread (t948 H) (by decide) _ _))

/-- Softmax weights of the tile at 128, 768. -/
theorem t963 : Sub (sl.v963 (F := Ideal) c i a2 h2 a3 h3 a7 h7 a8 h8 a15 h15 x0 x1 x5 x6 s0) C.P 128 768 :=
  mul (t884 H) (spread (t945 H) (by decide) _ _)

/-- The scores' gradient of the tile at 128, 768. -/
theorem t966 : Sub (sl.v966 (F := Ideal) c i a2 h2 a3 h3 a7 h7 a8 h8 a9 h9 a10 h10 a15 h15 x0 x1 x5 x6 x7 x8 s0) C.DS 128 768 :=
  mul (t963 H) (sub (slice (t619 H) 128 128 _) (spread (t948 H) (by decide) _ _))

/-- Softmax weights of the tile at 0, 768. -/
theorem t950 : Sub (sl.v950 (F := Ideal) c i a2 h2 a3 h3 a7 h7 a8 h8 a15 h15 x0 x1 x5 x6 s0) C.P 0 768 :=
  mul (t876 H) (spread (t945 H) (by decide) _ _)

/-- The scores' gradient of the tile at 0, 768. -/
theorem t953 : Sub (sl.v953 (F := Ideal) c i a2 h2 a3 h3 a7 h7 a8 h8 a9 h9 a10 h10 a15 h15 x0 x1 x5 x6 x7 x8 s0) C.DS 0 768 :=
  mul (t950 H) (sub (slice (t619 H) 0 128 _) (spread (t948 H) (by decide) _ _))

/-- Scores of the tile at 640, 640. -/
theorem t660 : Sub (sl.v660 (F := Ideal) c i a2 h2 a3 h3 a7 h7 a8 h8 a15 h15 x0 x1 x5 x6 s0) C.U 640 640 :=
  uNear (C := C) 5 5 0 rfl (by omega) (mul (slice (t617 H) 640 0 _) (splatV H.hc _ _)) (toep0 H)

/-- Scores of the tile at 0, 640. -/
theorem t622 : Sub (sl.v622 (F := Ideal) c i a2 h2 a3 h3 a7 h7 a8 h8 x0 x1 x5 x6) C.U 0 640 :=
  uFar (C := C) 0 5 (by decide) (mul (slice (t617 H) 0 0 _) (splatV H.hc _ _))

/-- Scores of the tile at 128, 640. -/
theorem t628 : Sub (sl.v628 (F := Ideal) c i a2 h2 a3 h3 a7 h7 a8 h8 x0 x1 x5 x6) C.U 128 640 :=
  uFar (C := C) 1 5 (by decide) (mul (slice (t617 H) 128 0 _) (splatV H.hc _ _))

/-- Scores of the tile at 256, 640. -/
theorem t635 : Sub (sl.v635 (F := Ideal) c i a2 h2 a3 h3 a7 h7 a8 h8 x0 x1 x5 x6) C.U 256 640 :=
  uFar (C := C) 2 5 (by decide) (mul (slice (t617 H) 256 0 _) (splatV H.hc _ _))

/-- Scores of the tile at 384, 640. -/
theorem t642 : Sub (sl.v642 (F := Ideal) c i a2 h2 a3 h3 a7 h7 a8 h8 x0 x1 x5 x6) C.U 384 640 :=
  uFar (C := C) 3 5 (by decide) (mul (slice (t617 H) 384 0 _) (splatV H.hc _ _))

/-- Scores of the tile at 512, 640. -/
theorem t651 : Sub (sl.v651 (F := Ideal) c i a2 h2 a3 h3 a7 h7 a8 h8 a15 h15 x0 x1 x5 x6 s0) C.U 512 640 :=
  uNear (C := C) 4 5 1 rfl (by omega) (mul (slice (t617 H) 512 0 _) (splatV H.hc _ _)) (toep128 H)

/-- The queries' greatest scores from 640. -/
theorem t666 : Sub (sl.v666 (F := Ideal) c i a2 h2 a3 h3 a7 h7 a8 h8 a15 h15 x0 x1 x5 x6 s0) (fun _ q => C.M q) 0 640 :=
  row1 (rowM (C := C) 5 (colMax (pmaxS 5 640 rfl (pmaxS 4 512 rfl (pmaxS 3 384 rfl (pmaxS 2 256 rfl (pmaxS 1 128 rfl (pmax0 (groupMax (split3 (t622 H) rfl _) _ _ _)) (groupMax (split3 (t628 H) rfl _) _ _ _)) (groupMax (split3 (t635 H) rfl _) _ _ _)) (groupMax (split3 (t642 H) rfl _) _ _ _)) (groupMax (split3 (t651 H) rfl _) _ _ _)) (groupMax (split3 (t660 H) rfl _) _ _ _)) _ _ _)) _

/-- Weights before normalizing of the tile at 640, 640. -/
theorem t717 : Sub (sl.v717 (F := Ideal) c i a2 h2 a3 h3 a7 h7 a8 h8 a15 h15 x0 x1 x5 x6 s0) C.E 640 640 :=
  exp2' (sub (t660 H) (spread (t666 H) (by decide) _ _))

/-- Weights before normalizing of the tile at 0, 640. -/
theorem t669 : Sub (sl.v669 (F := Ideal) c i a2 h2 a3 h3 a7 h7 a8 h8 a15 h15 x0 x1 x5 x6 s0) C.E 0 640 :=
  exp2' (sub (t622 H) (spread (t666 H) (by decide) _ _))

/-- Weights before normalizing of the tile at 128, 640. -/
theorem t677 : Sub (sl.v677 (F := Ideal) c i a2 h2 a3 h3 a7 h7 a8 h8 a15 h15 x0 x1 x5 x6 s0) C.E 128 640 :=
  exp2' (sub (t628 H) (spread (t666 H) (by decide) _ _))

/-- Weights before normalizing of the tile at 256, 640. -/
theorem t687 : Sub (sl.v687 (F := Ideal) c i a2 h2 a3 h3 a7 h7 a8 h8 a15 h15 x0 x1 x5 x6 s0) C.E 256 640 :=
  exp2' (sub (t635 H) (spread (t666 H) (by decide) _ _))

/-- Weights before normalizing of the tile at 384, 640. -/
theorem t697 : Sub (sl.v697 (F := Ideal) c i a2 h2 a3 h3 a7 h7 a8 h8 a15 h15 x0 x1 x5 x6 s0) C.E 384 640 :=
  exp2' (sub (t642 H) (spread (t666 H) (by decide) _ _))

/-- Weights before normalizing of the tile at 512, 640. -/
theorem t707 : Sub (sl.v707 (F := Ideal) c i a2 h2 a3 h3 a7 h7 a8 h8 a15 h15 x0 x1 x5 x6 s0) C.E 512 640 :=
  exp2' (sub (t651 H) (spread (t666 H) (by decide) _ _))

/-- The reciprocals of the queries' total weights from 640. -/
theorem t728 : Sub (sl.v728 (F := Ideal) c i a2 h2 a3 h3 a7 h7 a8 h8 a15 h15 x0 x1 x5 x6 s0) (fun _ q => C.RL q) 0 640 :=
  div (splatV rfl _ _) (row1 (rowL (G := C.E) 5 (colSum (psumS 5 640 rfl (psumS 4 512 rfl (psumS 3 384 rfl (psumS 2 256 rfl (psumS 1 128 rfl (psum0 (groupSum (split3 (t669 H) rfl _) _ _ _)) (groupSum (split3 (t677 H) rfl _) _ _ _)) (groupSum (split3 (t687 H) rfl _) _ _ _)) (groupSum (split3 (t697 H) rfl _) _ _ _)) (groupSum (split3 (t707 H) rfl _) _ _ _)) (groupSum (split3 (t717 H) rfl _) _ _ _)) _ _ _)) _)

/-- Softmax weights of the tile at 640, 640. -/
theorem t799 : Sub (sl.v799 (F := Ideal) c i a2 h2 a3 h3 a7 h7 a8 h8 a15 h15 x0 x1 x5 x6 s0) C.P 640 640 :=
  mul (t717 H) (spread (t728 H) (by decide) _ _)

/-- The queries' mean products from 640. -/
theorem t731 : Sub (sl.v731 (F := Ideal) c i a2 h2 a3 h3 a7 h7 a8 h8 a9 h9 a10 h10 a15 h15 x0 x1 x5 x6 x7 x8 s0) (fun _ q => C.TD q) 0 640 :=
  mul (row1 (rowL (G := C.ED) 5 (colSum (psumS 5 640 rfl (psumS 4 512 rfl (psumS 3 384 rfl (psumS 2 256 rfl (psumS 1 128 rfl (psum0 (groupSum (split3 (mul (t669 H) (slice (t619 H) 0 0 _)) rfl _) _ _ _)) (groupSum (split3 (mul (t677 H) (slice (t619 H) 128 0 _)) rfl _) _ _ _)) (groupSum (split3 (mul (t687 H) (slice (t619 H) 256 0 _)) rfl _) _ _ _)) (groupSum (split3 (mul (t697 H) (slice (t619 H) 384 0 _)) rfl _) _ _ _)) (groupSum (split3 (mul (t707 H) (slice (t619 H) 512 0 _)) rfl _) _ _ _)) (groupSum (split3 (mul (t717 H) (slice (t619 H) 640 0 _)) rfl _) _ _ _)) _ _ _)) _) (t728 H)

/-- The scores' gradient of the tile at 640, 640. -/
theorem t802 : Sub (sl.v802 (F := Ideal) c i a2 h2 a3 h3 a7 h7 a8 h8 a9 h9 a10 h10 a15 h15 x0 x1 x5 x6 x7 x8 s0) C.DS 640 640 :=
  mul (t799 H) (sub (slice (t619 H) 640 0 _) (spread (t731 H) (by decide) _ _))

/-- Softmax weights of the tile at 512, 640. -/
theorem t785 : Sub (sl.v785 (F := Ideal) c i a2 h2 a3 h3 a7 h7 a8 h8 a15 h15 x0 x1 x5 x6 s0) C.P 512 640 :=
  mul (t707 H) (spread (t728 H) (by decide) _ _)

/-- The scores' gradient of the tile at 512, 640. -/
theorem t788 : Sub (sl.v788 (F := Ideal) c i a2 h2 a3 h3 a7 h7 a8 h8 a9 h9 a10 h10 a15 h15 x0 x1 x5 x6 x7 x8 s0) C.DS 512 640 :=
  mul (t785 H) (sub (slice (t619 H) 512 0 _) (spread (t731 H) (by decide) _ _))

/-- Softmax weights of the tile at 384, 640. -/
theorem t772 : Sub (sl.v772 (F := Ideal) c i a2 h2 a3 h3 a7 h7 a8 h8 a15 h15 x0 x1 x5 x6 s0) C.P 384 640 :=
  mul (t697 H) (spread (t728 H) (by decide) _ _)

/-- The scores' gradient of the tile at 384, 640. -/
theorem t775 : Sub (sl.v775 (F := Ideal) c i a2 h2 a3 h3 a7 h7 a8 h8 a9 h9 a10 h10 a15 h15 x0 x1 x5 x6 x7 x8 s0) C.DS 384 640 :=
  mul (t772 H) (sub (slice (t619 H) 384 0 _) (spread (t731 H) (by decide) _ _))

/-- Softmax weights of the tile at 256, 640. -/
theorem t759 : Sub (sl.v759 (F := Ideal) c i a2 h2 a3 h3 a7 h7 a8 h8 a15 h15 x0 x1 x5 x6 s0) C.P 256 640 :=
  mul (t687 H) (spread (t728 H) (by decide) _ _)

/-- The scores' gradient of the tile at 256, 640. -/
theorem t762 : Sub (sl.v762 (F := Ideal) c i a2 h2 a3 h3 a7 h7 a8 h8 a9 h9 a10 h10 a15 h15 x0 x1 x5 x6 x7 x8 s0) C.DS 256 640 :=
  mul (t759 H) (sub (slice (t619 H) 256 0 _) (spread (t731 H) (by decide) _ _))

/-- Softmax weights of the tile at 128, 640. -/
theorem t746 : Sub (sl.v746 (F := Ideal) c i a2 h2 a3 h3 a7 h7 a8 h8 a15 h15 x0 x1 x5 x6 s0) C.P 128 640 :=
  mul (t677 H) (spread (t728 H) (by decide) _ _)

/-- The scores' gradient of the tile at 128, 640. -/
theorem t749 : Sub (sl.v749 (F := Ideal) c i a2 h2 a3 h3 a7 h7 a8 h8 a9 h9 a10 h10 a15 h15 x0 x1 x5 x6 x7 x8 s0) C.DS 128 640 :=
  mul (t746 H) (sub (slice (t619 H) 128 0 _) (spread (t731 H) (by decide) _ _))

/-- Softmax weights of the tile at 0, 640. -/
theorem t733 : Sub (sl.v733 (F := Ideal) c i a2 h2 a3 h3 a7 h7 a8 h8 a15 h15 x0 x1 x5 x6 s0) C.P 0 640 :=
  mul (t669 H) (spread (t728 H) (by decide) _ _)

/-- The scores' gradient of the tile at 0, 640. -/
theorem t736 : Sub (sl.v736 (F := Ideal) c i a2 h2 a3 h3 a7 h7 a8 h8 a9 h9 a10 h10 a15 h15 x0 x1 x5 x6 x7 x8 s0) C.DS 0 640 :=
  mul (t733 H) (sub (slice (t619 H) 0 0 _) (spread (t731 H) (by decide) _ _))

/-- Keys by queries of the tile at 0, 384. -/
theorem t295 : Sub (sl.v295 (F := Ideal) c a7 h7 a8 h8 x5 x6) C.S 0 384 :=
  mmT rfl (slice (H.bK) 0 0 _) (slice (H.bQ) 384 0 _)

/-- Scores of the tile at 512, 512. -/
theorem t472 : Sub (sl.v472 (F := Ideal) c i a2 h2 a3 h3 a7 h7 a8 h8 a15 h15 x0 x1 x5 x6 s0) C.U 512 512 :=
  uNear (C := C) 4 4 0 rfl (by omega) (mul (slice (t295 H) 512 128 _) (splatV H.hc _ _)) (toep0 H)

/-- Scores of the tile at 0, 512. -/
theorem t441 : Sub (sl.v441 (F := Ideal) c i a2 h2 a3 h3 a7 h7 a8 h8 x0 x1 x5 x6) C.U 0 512 :=
  uFar (C := C) 0 4 (by decide) (mul (slice (t295 H) 0 128 _) (splatV H.hc _ _))

/-- Scores of the tile at 128, 512. -/
theorem t447 : Sub (sl.v447 (F := Ideal) c i a2 h2 a3 h3 a7 h7 a8 h8 x0 x1 x5 x6) C.U 128 512 :=
  uFar (C := C) 1 4 (by decide) (mul (slice (t295 H) 128 128 _) (splatV H.hc _ _))

/-- Scores of the tile at 256, 512. -/
theorem t454 : Sub (sl.v454 (F := Ideal) c i a2 h2 a3 h3 a7 h7 a8 h8 x0 x1 x5 x6) C.U 256 512 :=
  uFar (C := C) 2 4 (by decide) (mul (slice (t295 H) 256 128 _) (splatV H.hc _ _))

/-- Scores of the tile at 384, 512. -/
theorem t463 : Sub (sl.v463 (F := Ideal) c i a2 h2 a3 h3 a7 h7 a8 h8 a15 h15 x0 x1 x5 x6 s0) C.U 384 512 :=
  uNear (C := C) 3 4 1 rfl (by omega) (mul (slice (t295 H) 384 128 _) (splatV H.hc _ _)) (toep128 H)

/-- The queries' greatest scores from 512. -/
theorem t478 : Sub (sl.v478 (F := Ideal) c i a2 h2 a3 h3 a7 h7 a8 h8 a15 h15 x0 x1 x5 x6 s0) (fun _ q => C.M q) 0 512 :=
  row1 (rowM (C := C) 4 (colMax (pmaxS 4 512 rfl (pmaxS 3 384 rfl (pmaxS 2 256 rfl (pmaxS 1 128 rfl (pmax0 (groupMax (split3 (t441 H) rfl _) _ _ _)) (groupMax (split3 (t447 H) rfl _) _ _ _)) (groupMax (split3 (t454 H) rfl _) _ _ _)) (groupMax (split3 (t463 H) rfl _) _ _ _)) (groupMax (split3 (t472 H) rfl _) _ _ _)) _ _ _)) _

/-- Weights before normalizing of the tile at 512, 512. -/
theorem t519 : Sub (sl.v519 (F := Ideal) c i a2 h2 a3 h3 a7 h7 a8 h8 a15 h15 x0 x1 x5 x6 s0) C.E 512 512 :=
  exp2' (sub (t472 H) (spread (t478 H) (by decide) _ _))

/-- Weights before normalizing of the tile at 0, 512. -/
theorem t481 : Sub (sl.v481 (F := Ideal) c i a2 h2 a3 h3 a7 h7 a8 h8 a15 h15 x0 x1 x5 x6 s0) C.E 0 512 :=
  exp2' (sub (t441 H) (spread (t478 H) (by decide) _ _))

/-- Weights before normalizing of the tile at 128, 512. -/
theorem t489 : Sub (sl.v489 (F := Ideal) c i a2 h2 a3 h3 a7 h7 a8 h8 a15 h15 x0 x1 x5 x6 s0) C.E 128 512 :=
  exp2' (sub (t447 H) (spread (t478 H) (by decide) _ _))

/-- Weights before normalizing of the tile at 256, 512. -/
theorem t499 : Sub (sl.v499 (F := Ideal) c i a2 h2 a3 h3 a7 h7 a8 h8 a15 h15 x0 x1 x5 x6 s0) C.E 256 512 :=
  exp2' (sub (t454 H) (spread (t478 H) (by decide) _ _))

/-- Weights before normalizing of the tile at 384, 512. -/
theorem t509 : Sub (sl.v509 (F := Ideal) c i a2 h2 a3 h3 a7 h7 a8 h8 a15 h15 x0 x1 x5 x6 s0) C.E 384 512 :=
  exp2' (sub (t463 H) (spread (t478 H) (by decide) _ _))

/-- The reciprocals of the queries' total weights from 512. -/
theorem t530 : Sub (sl.v530 (F := Ideal) c i a2 h2 a3 h3 a7 h7 a8 h8 a15 h15 x0 x1 x5 x6 s0) (fun _ q => C.RL q) 0 512 :=
  div (splatV rfl _ _) (row1 (rowL (G := C.E) 4 (colSum (psumS 4 512 rfl (psumS 3 384 rfl (psumS 2 256 rfl (psumS 1 128 rfl (psum0 (groupSum (split3 (t481 H) rfl _) _ _ _)) (groupSum (split3 (t489 H) rfl _) _ _ _)) (groupSum (split3 (t499 H) rfl _) _ _ _)) (groupSum (split3 (t509 H) rfl _) _ _ _)) (groupSum (split3 (t519 H) rfl _) _ _ _)) _ _ _)) _)

/-- Softmax weights of the tile at 512, 512. -/
theorem t588 : Sub (sl.v588 (F := Ideal) c i a2 h2 a3 h3 a7 h7 a8 h8 a15 h15 x0 x1 x5 x6 s0) C.P 512 512 :=
  mul (t519 H) (spread (t530 H) (by decide) _ _)

/-- Values by output gradients of the tile at 0, 384. -/
theorem t298 : Sub (sl.v298 (F := Ideal) c a9 h9 a10 h10 x7 x8) C.D 0 384 :=
  mmT rfl (slice (H.bV) 0 0 _) (slice (H.bDO) 384 0 _)

/-- The queries' mean products from 512. -/
theorem t533 : Sub (sl.v533 (F := Ideal) c i a2 h2 a3 h3 a7 h7 a8 h8 a9 h9 a10 h10 a15 h15 x0 x1 x5 x6 x7 x8 s0) (fun _ q => C.TD q) 0 512 :=
  mul (row1 (rowL (G := C.ED) 4 (colSum (psumS 4 512 rfl (psumS 3 384 rfl (psumS 2 256 rfl (psumS 1 128 rfl (psum0 (groupSum (split3 (mul (t481 H) (slice (t298 H) 0 128 _)) rfl _) _ _ _)) (groupSum (split3 (mul (t489 H) (slice (t298 H) 128 128 _)) rfl _) _ _ _)) (groupSum (split3 (mul (t499 H) (slice (t298 H) 256 128 _)) rfl _) _ _ _)) (groupSum (split3 (mul (t509 H) (slice (t298 H) 384 128 _)) rfl _) _ _ _)) (groupSum (split3 (mul (t519 H) (slice (t298 H) 512 128 _)) rfl _) _ _ _)) _ _ _)) _) (t530 H)

/-- The scores' gradient of the tile at 512, 512. -/
theorem t591 : Sub (sl.v591 (F := Ideal) c i a2 h2 a3 h3 a7 h7 a8 h8 a9 h9 a10 h10 a15 h15 x0 x1 x5 x6 x7 x8 s0) C.DS 512 512 :=
  mul (t588 H) (sub (slice (t298 H) 512 128 _) (spread (t533 H) (by decide) _ _))

/-- Softmax weights of the tile at 384, 512. -/
theorem t574 : Sub (sl.v574 (F := Ideal) c i a2 h2 a3 h3 a7 h7 a8 h8 a15 h15 x0 x1 x5 x6 s0) C.P 384 512 :=
  mul (t509 H) (spread (t530 H) (by decide) _ _)

/-- The scores' gradient of the tile at 384, 512. -/
theorem t577 : Sub (sl.v577 (F := Ideal) c i a2 h2 a3 h3 a7 h7 a8 h8 a9 h9 a10 h10 a15 h15 x0 x1 x5 x6 x7 x8 s0) C.DS 384 512 :=
  mul (t574 H) (sub (slice (t298 H) 384 128 _) (spread (t533 H) (by decide) _ _))

/-- Softmax weights of the tile at 256, 512. -/
theorem t561 : Sub (sl.v561 (F := Ideal) c i a2 h2 a3 h3 a7 h7 a8 h8 a15 h15 x0 x1 x5 x6 s0) C.P 256 512 :=
  mul (t499 H) (spread (t530 H) (by decide) _ _)

/-- The scores' gradient of the tile at 256, 512. -/
theorem t564 : Sub (sl.v564 (F := Ideal) c i a2 h2 a3 h3 a7 h7 a8 h8 a9 h9 a10 h10 a15 h15 x0 x1 x5 x6 x7 x8 s0) C.DS 256 512 :=
  mul (t561 H) (sub (slice (t298 H) 256 128 _) (spread (t533 H) (by decide) _ _))

/-- Softmax weights of the tile at 128, 512. -/
theorem t548 : Sub (sl.v548 (F := Ideal) c i a2 h2 a3 h3 a7 h7 a8 h8 a15 h15 x0 x1 x5 x6 s0) C.P 128 512 :=
  mul (t489 H) (spread (t530 H) (by decide) _ _)

/-- The scores' gradient of the tile at 128, 512. -/
theorem t551 : Sub (sl.v551 (F := Ideal) c i a2 h2 a3 h3 a7 h7 a8 h8 a9 h9 a10 h10 a15 h15 x0 x1 x5 x6 x7 x8 s0) C.DS 128 512 :=
  mul (t548 H) (sub (slice (t298 H) 128 128 _) (spread (t533 H) (by decide) _ _))

/-- Softmax weights of the tile at 0, 512. -/
theorem t535 : Sub (sl.v535 (F := Ideal) c i a2 h2 a3 h3 a7 h7 a8 h8 a15 h15 x0 x1 x5 x6 s0) C.P 0 512 :=
  mul (t481 H) (spread (t530 H) (by decide) _ _)

/-- The scores' gradient of the tile at 0, 512. -/
theorem t538 : Sub (sl.v538 (F := Ideal) c i a2 h2 a3 h3 a7 h7 a8 h8 a9 h9 a10 h10 a15 h15 x0 x1 x5 x6 x7 x8 s0) C.DS 0 512 :=
  mul (t535 H) (sub (slice (t298 H) 0 128 _) (spread (t533 H) (by decide) _ _))

/-- Scores of the tile at 384, 384. -/
theorem t325 : Sub (sl.v325 (F := Ideal) c i a2 h2 a3 h3 a7 h7 a8 h8 a15 h15 x0 x1 x5 x6 s0) C.U 384 384 :=
  uNear (C := C) 3 3 0 rfl (by omega) (mul (slice (t295 H) 384 0 _) (splatV H.hc _ _)) (toep0 H)

/-- Scores of the tile at 0, 384. -/
theorem t301 : Sub (sl.v301 (F := Ideal) c i a2 h2 a3 h3 a7 h7 a8 h8 x0 x1 x5 x6) C.U 0 384 :=
  uFar (C := C) 0 3 (by decide) (mul (slice (t295 H) 0 0 _) (splatV H.hc _ _))

/-- Scores of the tile at 128, 384. -/
theorem t307 : Sub (sl.v307 (F := Ideal) c i a2 h2 a3 h3 a7 h7 a8 h8 x0 x1 x5 x6) C.U 128 384 :=
  uFar (C := C) 1 3 (by decide) (mul (slice (t295 H) 128 0 _) (splatV H.hc _ _))

/-- Scores of the tile at 256, 384. -/
theorem t316 : Sub (sl.v316 (F := Ideal) c i a2 h2 a3 h3 a7 h7 a8 h8 a15 h15 x0 x1 x5 x6 s0) C.U 256 384 :=
  uNear (C := C) 2 3 1 rfl (by omega) (mul (slice (t295 H) 256 0 _) (splatV H.hc _ _)) (toep128 H)

end Cert.KernelIdeal.Gen.CaseB
-- ==== Proof.CaseB1.lean ====
/-
  The kernel's values at a grid point of odd batch, operation by operation, as tiles of the matrices of `Model`.
-/
module

public import proofs.«01_k».proof.Proof.CaseB0

@[expose] public section

set_option maxRecDepth 16384

noncomputable section

namespace Cert.KernelIdeal.Gen.CaseB

open Idealize.ShloMosaic Idealize.ShloMosaic.ValueIdx Idealize.SL.Sem Cert.KernelIdeal.Tiles
open Cert.KernelIdeal.Gen.kernelRun0_B

variable {c : Dev nD} {i : grid0.Coords} {a2 : Memref sig .tc .smem S2x20 .f32} {h2 : a2.IsWhole}
  {a3 : Memref sig .tc .smem S2x20 .f32} {h3 : a3.IsWhole} {a4 : Memref sig .tc .smem S2x20 .f32} {h4 : a4.IsWhole}
  {a5 : Memref sig .tc .smem S2x20 .f32} {h5 : a5.IsWhole} {a7 : Memref sig .tc .vmem S1x1x896x128 .fp8e4m3} {h7 : a7.IsWhole}
  {a8 : Memref sig .tc .vmem S1x1x896x128 .fp8e4m3} {h8 : a8.IsWhole} {a9 : Memref sig .tc .vmem S1x1x896x128 .fp8e4m3} {h9 : a9.IsWhole}
  {a10 : Memref sig .tc .vmem S1x1x896x128 .fp8e5m2} {h10 : a10.IsWhole} {a15 : Memref sig .tc .vmem S128x256 .f32} {h15 : a15.IsWhole}
  {x0 : Vec Ideal S2x20 .f32} {x1 : Vec Ideal S2x20 .f32} {x2 : Vec Ideal S2x20 .f32} {x3 : Vec Ideal S2x20 .f32}
  {x5 : Vec Ideal S1x1x896x128 .fp8e4m3} {x6 : Vec Ideal S1x1x896x128 .fp8e4m3} {x7 : Vec Ideal S1x1x896x128 .fp8e4m3} {x8 : Vec Ideal S1x1x896x128 .fp8e5m2}
  {s0 : Vec Ideal S128x256 .f32} {C : Ctx}
  {a16 a17 : Memref sig .tc .vmem S896x896 .bf16}

variable (H : Ins c i a2 h2 a3 h3 a4 h4 a5 h5 a7 h7 a8 h8 a9 h9 a10 h10 a15 h15 x0 x1 x2 x3 x5 x6 x7 x8 s0 C)
include H

/-- The queries' greatest scores from 384. -/
theorem t331 : Sub (sl.v331 (F := Ideal) c i a2 h2 a3 h3 a7 h7 a8 h8 a15 h15 x0 x1 x5 x6 s0) (fun _ q => C.M q) 0 384 :=
  row1 (rowM (C := C) 3 (colMax (pmaxS 3 384 rfl (pmaxS 2 256 rfl (pmaxS 1 128 rfl (pmax0 (groupMax (split3 (t301 H) rfl _) _ _ _)) (groupMax (split3 (t307 H) rfl _) _ _ _)) (groupMax (split3 (t316 H) rfl _) _ _ _)) (groupMax (split3 (t325 H) rfl _) _ _ _)) _ _ _)) _

/-- Weights before normalizing of the tile at 384, 384. -/
theorem t362 : Sub (sl.v362 (F := Ideal) c i a2 h2 a3 h3 a7 h7 a8 h8 a15 h15 x0 x1 x5 x6 s0) C.E 384 384 :=
  exp2' (sub (t325 H) (spread (t331 H) (by decide) _ _))

/-- Weights before normalizing of the tile at 0, 384. -/
theorem t334 : Sub (sl.v334 (F := Ideal) c i a2 h2 a3 h3 a7 h7 a8 h8 a15 h15 x0 x1 x5 x6 s0) C.E 0 384 :=
  exp2' (sub (t301 H) (spread (t331 H) (by decide) _ _))

/-- Weights before normalizing of the tile at 128, 384. -/
theorem t342 : Sub (sl.v342 (F := Ideal) c i a2 h2 a3 h3 a7 h7 a8 h8 a15 h15 x0 x1 x5 x6 s0) C.E 128 384 :=
  exp2' (sub (t307 H) (spread (t331 H) (by decide) _ _))

/-- Weights before normalizing of the tile at 256, 384. -/
theorem t352 : Sub (sl.v352 (F := Ideal) c i a2 h2 a3 h3 a7 h7 a8 h8 a15 h15 x0 x1 x5 x6 s0) C.E 256 384 :=
  exp2' (sub (t316 H) (spread (t331 H) (by decide) _ _))

/-- The reciprocals of the queries' total weights from 384. -/
theorem t373 : Sub (sl.v373 (F := Ideal) c i a2 h2 a3 h3 a7 h7 a8 h8 a15 h15 x0 x1 x5 x6 s0) (fun _ q => C.RL q) 0 384 :=
  div (splatV rfl _ _) (row1 (rowL (G := C.E) 3 (colSum (psumS 3 384 rfl (psumS 2 256 rfl (psumS 1 128 rfl (psum0 (groupSum (split3 (t334 H) rfl _) _ _ _)) (groupSum (split3 (t342 H) rfl _) _ _ _)) (groupSum (split3 (t352 H) rfl _) _ _ _)) (groupSum (split3 (t362 H) rfl _) _ _ _)) _ _ _)) _)

/-- Softmax weights of the tile at 384, 384. -/
theorem t418 : Sub (sl.v418 (F := Ideal) c i a2 h2 a3 h3 a7 h7 a8 h8 a15 h15 x0 x1 x5 x6 s0) C.P 384 384 :=
  mul (t362 H) (spread (t373 H) (by decide) _ _)

/-- The queries' mean products from 384. -/
theorem t376 : Sub (sl.v376 (F := Ideal) c i a2 h2 a3 h3 a7 h7 a8 h8 a9 h9 a10 h10 a15 h15 x0 x1 x5 x6 x7 x8 s0) (fun _ q => C.TD q) 0 384 :=
  mul (row1 (rowL (G := C.ED) 3 (colSum (psumS 3 384 rfl (psumS 2 256 rfl (psumS 1 128 rfl (psum0 (groupSum (split3 (mul (t334 H) (slice (t298 H) 0 0 _)) rfl _) _ _ _)) (groupSum (split3 (mul (t342 H) (slice (t298 H) 128 0 _)) rfl _) _ _ _)) (groupSum (split3 (mul (t352 H) (slice (t298 H) 256 0 _)) rfl _) _ _ _)) (groupSum (split3 (mul (t362 H) (slice (t298 H) 384 0 _)) rfl _) _ _ _)) _ _ _)) _) (t373 H)

/-- The scores' gradient of the tile at 384, 384. -/
theorem t421 : Sub (sl.v421 (F := Ideal) c i a2 h2 a3 h3 a7 h7 a8 h8 a9 h9 a10 h10 a15 h15 x0 x1 x5 x6 x7 x8 s0) C.DS 384 384 :=
  mul (t418 H) (sub (slice (t298 H) 384 0 _) (spread (t376 H) (by decide) _ _))

/-- Softmax weights of the tile at 256, 384. -/
theorem t404 : Sub (sl.v404 (F := Ideal) c i a2 h2 a3 h3 a7 h7 a8 h8 a15 h15 x0 x1 x5 x6 s0) C.P 256 384 :=
  mul (t352 H) (spread (t373 H) (by decide) _ _)

/-- The scores' gradient of the tile at 256, 384. -/
theorem t407 : Sub (sl.v407 (F := Ideal) c i a2 h2 a3 h3 a7 h7 a8 h8 a9 h9 a10 h10 a15 h15 x0 x1 x5 x6 x7 x8 s0) C.DS 256 384 :=
  mul (t404 H) (sub (slice (t298 H) 256 0 _) (spread (t376 H) (by decide) _ _))

/-- Softmax weights of the tile at 128, 384. -/
theorem t391 : Sub (sl.v391 (F := Ideal) c i a2 h2 a3 h3 a7 h7 a8 h8 a15 h15 x0 x1 x5 x6 s0) C.P 128 384 :=
  mul (t342 H) (spread (t373 H) (by decide) _ _)

/-- The scores' gradient of the tile at 128, 384. -/
theorem t394 : Sub (sl.v394 (F := Ideal) c i a2 h2 a3 h3 a7 h7 a8 h8 a9 h9 a10 h10 a15 h15 x0 x1 x5 x6 x7 x8 s0) C.DS 128 384 :=
  mul (t391 H) (sub (slice (t298 H) 128 0 _) (spread (t376 H) (by decide) _ _))

/-- Softmax weights of the tile at 0, 384. -/
theorem t378 : Sub (sl.v378 (F := Ideal) c i a2 h2 a3 h3 a7 h7 a8 h8 a15 h15 x0 x1 x5 x6 s0) C.P 0 384 :=
  mul (t334 H) (spread (t373 H) (by decide) _ _)

/-- The scores' gradient of the tile at 0, 384. -/
theorem t381 : Sub (sl.v381 (F := Ideal) c i a2 h2 a3 h3 a7 h7 a8 h8 a9 h9 a10 h10 a15 h15 x0 x1 x5 x6 x7 x8 s0) C.DS 0 384 :=
  mul (t378 H) (sub (slice (t298 H) 0 0 _) (spread (t376 H) (by decide) _ _))

/-- Keys by queries of the tile at 0, 128. -/
theorem t92 : Sub (sl.v92 (F := Ideal) c a7 h7 a8 h8 x5 x6) C.S 0 128 :=
  mmT rfl (slice (H.bK) 0 0 _) (slice (H.bQ) 128 0 _)

/-- Scores of the tile at 256, 256. -/
theorem t195 : Sub (sl.v195 (F := Ideal) c i a2 h2 a3 h3 a7 h7 a8 h8 a15 h15 x0 x1 x5 x6 s0) C.U 256 256 :=
  uNear (C := C) 2 2 0 rfl (by omega) (mul (slice (t92 H) 256 128 _) (splatV H.hc _ _)) (toep0 H)

/-- Scores of the tile at 0, 256. -/
theorem t178 : Sub (sl.v178 (F := Ideal) c i a2 h2 a3 h3 a7 h7 a8 h8 x0 x1 x5 x6) C.U 0 256 :=
  uFar (C := C) 0 2 (by decide) (mul (slice (t92 H) 0 128 _) (splatV H.hc _ _))

/-- Scores of the tile at 128, 256. -/
theorem t186 : Sub (sl.v186 (F := Ideal) c i a2 h2 a3 h3 a7 h7 a8 h8 a15 h15 x0 x1 x5 x6 s0) C.U 128 256 :=
  uNear (C := C) 1 2 1 rfl (by omega) (mul (slice (t92 H) 128 128 _) (splatV H.hc _ _)) (toep128 H)

/-- The queries' greatest scores from 256. -/
theorem t201 : Sub (sl.v201 (F := Ideal) c i a2 h2 a3 h3 a7 h7 a8 h8 a15 h15 x0 x1 x5 x6 s0) (fun _ q => C.M q) 0 256 :=
  row1 (rowM (C := C) 2 (colMax (pmaxS 2 256 rfl (pmaxS 1 128 rfl (pmax0 (groupMax (split3 (t178 H) rfl _) _ _ _)) (groupMax (split3 (t186 H) rfl _) _ _ _)) (groupMax (split3 (t195 H) rfl _) _ _ _)) _ _ _)) _

/-- Weights before normalizing of the tile at 256, 256. -/
theorem t222 : Sub (sl.v222 (F := Ideal) c i a2 h2 a3 h3 a7 h7 a8 h8 a15 h15 x0 x1 x5 x6 s0) C.E 256 256 :=
  exp2' (sub (t195 H) (spread (t201 H) (by decide) _ _))

/-- Weights before normalizing of the tile at 0, 256. -/
theorem t204 : Sub (sl.v204 (F := Ideal) c i a2 h2 a3 h3 a7 h7 a8 h8 a15 h15 x0 x1 x5 x6 s0) C.E 0 256 :=
  exp2' (sub (t178 H) (spread (t201 H) (by decide) _ _))

/-- Weights before normalizing of the tile at 128, 256. -/
theorem t212 : Sub (sl.v212 (F := Ideal) c i a2 h2 a3 h3 a7 h7 a8 h8 a15 h15 x0 x1 x5 x6 s0) C.E 128 256 :=
  exp2' (sub (t186 H) (spread (t201 H) (by decide) _ _))

/-- The reciprocals of the queries' total weights from 256. -/
theorem t233 : Sub (sl.v233 (F := Ideal) c i a2 h2 a3 h3 a7 h7 a8 h8 a15 h15 x0 x1 x5 x6 s0) (fun _ q => C.RL q) 0 256 :=
  div (splatV rfl _ _) (row1 (rowL (G := C.E) 2 (colSum (psumS 2 256 rfl (psumS 1 128 rfl (psum0 (groupSum (split3 (t204 H) rfl _) _ _ _)) (groupSum (split3 (t212 H) rfl _) _ _ _)) (groupSum (split3 (t222 H) rfl _) _ _ _)) _ _ _)) _)

/-- Softmax weights of the tile at 256, 256. -/
theorem t265 : Sub (sl.v265 (F := Ideal) c i a2 h2 a3 h3 a7 h7 a8 h8 a15 h15 x0 x1 x5 x6 s0) C.P 256 256 :=
  mul (t222 H) (spread (t233 H) (by decide) _ _)

/-- Values by output gradients of the tile at 0, 128. -/
theorem t95 : Sub (sl.v95 (F := Ideal) c a9 h9 a10 h10 x7 x8) C.D 0 128 :=
  mmT rfl (slice (H.bV) 0 0 _) (slice (H.bDO) 128 0 _)

/-- The queries' mean products from 256. -/
theorem t236 : Sub (sl.v236 (F := Ideal) c i a2 h2 a3 h3 a7 h7 a8 h8 a9 h9 a10 h10 a15 h15 x0 x1 x5 x6 x7 x8 s0) (fun _ q => C.TD q) 0 256 :=
  mul (row1 (rowL (G := C.ED) 2 (colSum (psumS 2 256 rfl (psumS 1 128 rfl (psum0 (groupSum (split3 (mul (t204 H) (slice (t95 H) 0 128 _)) rfl _) _ _ _)) (groupSum (split3 (mul (t212 H) (slice (t95 H) 128 128 _)) rfl _) _ _ _)) (groupSum (split3 (mul (t222 H) (slice (t95 H) 256 128 _)) rfl _) _ _ _)) _ _ _)) _) (t233 H)

/-- The scores' gradient of the tile at 256, 256. -/
theorem t268 : Sub (sl.v268 (F := Ideal) c i a2 h2 a3 h3 a7 h7 a8 h8 a9 h9 a10 h10 a15 h15 x0 x1 x5 x6 x7 x8 s0) C.DS 256 256 :=
  mul (t265 H) (sub (slice (t95 H) 256 128 _) (spread (t236 H) (by decide) _ _))

/-- Softmax weights of the tile at 128, 256. -/
theorem t251 : Sub (sl.v251 (F := Ideal) c i a2 h2 a3 h3 a7 h7 a8 h8 a15 h15 x0 x1 x5 x6 s0) C.P 128 256 :=
  mul (t212 H) (spread (t233 H) (by decide) _ _)

/-- The scores' gradient of the tile at 128, 256. -/
theorem t254 : Sub (sl.v254 (F := Ideal) c i a2 h2 a3 h3 a7 h7 a8 h8 a9 h9 a10 h10 a15 h15 x0 x1 x5 x6 x7 x8 s0) C.DS 128 256 :=
  mul (t251 H) (sub (slice (t95 H) 128 128 _) (spread (t236 H) (by decide) _ _))

/-- Softmax weights of the tile at 0, 256. -/
theorem t238 : Sub (sl.v238 (F := Ideal) c i a2 h2 a3 h3 a7 h7 a8 h8 a15 h15 x0 x1 x5 x6 s0) C.P 0 256 :=
  mul (t204 H) (spread (t233 H) (by decide) _ _)

/-- The scores' gradient of the tile at 0, 256. -/
theorem t241 : Sub (sl.v241 (F := Ideal) c i a2 h2 a3 h3 a7 h7 a8 h8 a9 h9 a10 h10 a15 h15 x0 x1 x5 x6 x7 x8 s0) C.DS 0 256 :=
  mul (t238 H) (sub (slice (t95 H) 0 128 _) (spread (t236 H) (by decide) _ _))

/-- Scores of the tile at 128, 128. -/
theorem t108 : Sub (sl.v108 (F := Ideal) c i a2 h2 a3 h3 a7 h7 a8 h8 a15 h15 x0 x1 x5 x6 s0) C.U 128 128 :=
  uNear (C := C) 1 1 0 rfl (by omega) (mul (slice (t92 H) 128 0 _) (splatV H.hc _ _)) (toep0 H)

/-- Scores of the tile at 0, 128. -/
theorem t100 : Sub (sl.v100 (F := Ideal) c i a2 h2 a3 h3 a7 h7 a8 h8 a15 h15 x0 x1 x5 x6 s0) C.U 0 128 :=
  uNear (C := C) 0 1 1 rfl (by omega) (mul (slice (t92 H) 0 0 _) (splatV H.hc _ _)) (toep128 H)

/-- The queries' greatest scores from 128. -/
theorem t114 : Sub (sl.v114 (F := Ideal) c i a2 h2 a3 h3 a7 h7 a8 h8 a15 h15 x0 x1 x5 x6 s0) (fun _ q => C.M q) 0 128 :=
  row1 (rowM (C := C) 1 (colMax (pmaxS 1 128 rfl (pmax0 (groupMax (split3 (t100 H) rfl _) _ _ _)) (groupMax (split3 (t108 H) rfl _) _ _ _)) _ _ _)) _

/-- Weights before normalizing of the tile at 128, 128. -/
theorem t125 : Sub (sl.v125 (F := Ideal) c i a2 h2 a3 h3 a7 h7 a8 h8 a15 h15 x0 x1 x5 x6 s0) C.E 128 128 :=
  exp2' (sub (t108 H) (spread (t114 H) (by decide) _ _))

/-- Weights before normalizing of the tile at 0, 128. -/
theorem t117 : Sub (sl.v117 (F := Ideal) c i a2 h2 a3 h3 a7 h7 a8 h8 a15 h15 x0 x1 x5 x6 s0) C.E 0 128 :=
  exp2' (sub (t100 H) (spread (t114 H) (by decide) _ _))

/-- The reciprocals of the queries' total weights from 128. -/
theorem t136 : Sub (sl.v136 (F := Ideal) c i a2 h2 a3 h3 a7 h7 a8 h8 a15 h15 x0 x1 x5 x6 s0) (fun _ q => C.RL q) 0 128 :=
  div (splatV rfl _ _) (row1 (rowL (G := C.E) 1 (colSum (psumS 1 128 rfl (psum0 (groupSum (split3 (t117 H) rfl _) _ _ _)) (groupSum (split3 (t125 H) rfl _) _ _ _)) _ _ _)) _)

/-- Softmax weights of the tile at 128, 128. -/
theorem t155 : Sub (sl.v155 (F := Ideal) c i a2 h2 a3 h3 a7 h7 a8 h8 a15 h15 x0 x1 x5 x6 s0) C.P 128 128 :=
  mul (t125 H) (spread (t136 H) (by decide) _ _)

/-- The queries' mean products from 128. -/
theorem t139 : Sub (sl.v139 (F := Ideal) c i a2 h2 a3 h3 a7 h7 a8 h8 a9 h9 a10 h10 a15 h15 x0 x1 x5 x6 x7 x8 s0) (fun _ q => C.TD q) 0 128 :=
  mul (row1 (rowL (G := C.ED) 1 (colSum (psumS 1 128 rfl (psum0 (groupSum (split3 (mul (t117 H) (slice (t95 H) 0 0 _)) rfl _) _ _ _)) (groupSum (split3 (mul (t125 H) (slice (t95 H) 128 0 _)) rfl _) _ _ _)) _ _ _)) _) (t136 H)

/-- The scores' gradient of the tile at 128, 128. -/
theorem t158 : Sub (sl.v158 (F := Ideal) c i a2 h2 a3 h3 a7 h7 a8 h8 a9 h9 a10 h10 a15 h15 x0 x1 x5 x6 x7 x8 s0) C.DS 128 128 :=
  mul (t155 H) (sub (slice (t95 H) 128 0 _) (spread (t139 H) (by decide) _ _))

/-- Softmax weights of the tile at 0, 128. -/
theorem t141 : Sub (sl.v141 (F := Ideal) c i a2 h2 a3 h3 a7 h7 a8 h8 a15 h15 x0 x1 x5 x6 s0) C.P 0 128 :=
  mul (t117 H) (spread (t136 H) (by decide) _ _)

/-- The scores' gradient of the tile at 0, 128. -/
theorem t144 : Sub (sl.v144 (F := Ideal) c i a2 h2 a3 h3 a7 h7 a8 h8 a9 h9 a10 h10 a15 h15 x0 x1 x5 x6 x7 x8 s0) C.DS 0 128 :=
  mul (t141 H) (sub (slice (t95 H) 0 0 _) (spread (t139 H) (by decide) _ _))

/-- Keys by queries of the tile at 0, 0. -/
theorem t34 : Sub (sl.v34 (F := Ideal) c a7 h7 a8 h8 x5 x6) C.S 0 0 :=
  mmT rfl (H.bK0) (H.bQ0)

/-- Scores of the tile at 0, 0. -/
theorem t41 : Sub (sl.v41 (F := Ideal) c i a2 h2 a3 h3 a7 h7 a8 h8 a15 h15 x0 x1 x5 x6 s0) C.U 0 0 :=
  uNear (C := C) 0 0 0 rfl (by omega) (mul (t34 H) (splatV H.hc _ _)) (toep0 H)

/-- The queries' greatest scores from 0. -/
theorem t45 : Sub (sl.v45 (F := Ideal) c i a2 h2 a3 h3 a7 h7 a8 h8 a15 h15 x0 x1 x5 x6 s0) (fun _ q => C.M q) 0 0 :=
  row1 (rowM (C := C) 0 (colMax (pmax0 (groupMax (split3 (t41 H) rfl _) _ _ _)) _ _ _)) _

/-- Weights before normalizing of the tile at 0, 0. -/
theorem t48 : Sub (sl.v48 (F := Ideal) c i a2 h2 a3 h3 a7 h7 a8 h8 a15 h15 x0 x1 x5 x6 s0) C.E 0 0 :=
  exp2' (sub (t41 H) (spread (t45 H) (by decide) _ _))

/-- The reciprocals of the queries' total weights from 0. -/
theorem t57 : Sub (sl.v57 (F := Ideal) c i a2 h2 a3 h3 a7 h7 a8 h8 a15 h15 x0 x1 x5 x6 s0) (fun _ q => C.RL q) 0 0 :=
  div (splatV rfl _ _) (row1 (rowL (G := C.E) 0 (colSum (psum0 (groupSum (split3 (t48 H) rfl _) _ _ _)) _ _ _)) _)

/-- Softmax weights of the tile at 0, 0. -/
theorem t62 : Sub (sl.v62 (F := Ideal) c i a2 h2 a3 h3 a7 h7 a8 h8 a15 h15 x0 x1 x5 x6 s0) C.P 0 0 :=
  mul (t48 H) (spread (t57 H) (by decide) _ _)

/-- Values by output gradients of the tile at 0, 0. -/
theorem t37 : Sub (sl.v37 (F := Ideal) c a9 h9 a10 h10 x7 x8) C.D 0 0 :=
  mmT rfl (slice (H.bV) 0 0 _) (slice (H.bDO) 0 0 _)

/-- The queries' mean products from 0. -/
theorem t60 : Sub (sl.v60 (F := Ideal) c i a2 h2 a3 h3 a7 h7 a8 h8 a9 h9 a10 h10 a15 h15 x0 x1 x5 x6 x7 x8 s0) (fun _ q => C.TD q) 0 0 :=
  mul (row1 (rowL (G := C.ED) 0 (colSum (psum0 (groupSum (split3 (mul (t48 H) (t37 H)) rfl _) _ _ _)) _ _ _)) _) (t57 H)

/-- The scores' gradient of the tile at 0, 0. -/
theorem t65 : Sub (sl.v65 (F := Ideal) c i a2 h2 a3 h3 a7 h7 a8 h8 a9 h9 a10 h10 a15 h15 x0 x1 x5 x6 x7 x8 s0) C.DS 0 0 :=
  mul (t62 H) (sub (t37 H) (spread (t60 H) (by decide) _ _))

/-- The stored tiles of the scores' gradient. -/
theorem HS2_1 : AllOk C.DST (sl.HS2_1 (F := Ideal) c i a2 h2 a3 h3 a7 h7 a8 h8 a9 h9 a10 h10 a15 h15 x0 x1 x5 x6 x7 x8 s0) :=
  AllOk.cons (i := 0) (j := 0) (toDST (C := C) 0 0 (by decide) (same (trunc (t65 H) _) _))
    (AllOk.nil)

/-- The stored tiles of the scores' gradient. -/
theorem HS2_7 : AllOk C.DST (sl.HS2_7 (F := Ideal) c i a2 h2 a3 h3 a7 h7 a8 h8 a9 h9 a10 h10 a15 h15 x0 x1 x5 x6 x7 x8 s0) :=
  AllOk.cons (i := 256) (j := 256) (toDST (C := C) 2 2 (by decide) (same (trunc (t268 H) _) _))
    (AllOk.cons (i := 128) (j := 256) (toDST (C := C) 1 2 (by decide) (same (trunc (t254 H) _) _))
    (AllOk.cons (i := 0) (j := 256) (toDST (C := C) 0 2 (by decide) (same (trunc (t241 H) _) _))
    (AllOk.cons (i := 256) (j := 128) (zeroDST (C := C) 2 1 (by decide) (same (splatV ofBits_zero_bf16 _ _) _))
    (AllOk.cons (i := 128) (j := 128) (toDST (C := C) 1 1 (by decide) (same (trunc (t158 H) _) _))
    (AllOk.cons (i := 0) (j := 128) (toDST (C := C) 0 1 (by decide) (same (trunc (t144 H) _) _))
    (HS2_1 H))))))

/-- The stored tiles of the scores' gradient. -/
theorem HS2_17 : AllOk C.DST (sl.HS2_17 (F := Ideal) c i a2 h2 a3 h3 a7 h7 a8 h8 a9 h9 a10 h10 a15 h15 x0 x1 x5 x6 x7 x8 s0) :=
  AllOk.cons (i := 512) (j := 512) (toDST (C := C) 4 4 (by decide) (same (trunc (t591 H) _) _))
    (AllOk.cons (i := 384) (j := 512) (toDST (C := C) 3 4 (by decide) (same (trunc (t577 H) _) _))
    (AllOk.cons (i := 256) (j := 512) (toDST (C := C) 2 4 (by decide) (same (trunc (t564 H) _) _))
    (AllOk.cons (i := 128) (j := 512) (toDST (C := C) 1 4 (by decide) (same (trunc (t551 H) _) _))
    (AllOk.cons (i := 0) (j := 512) (toDST (C := C) 0 4 (by decide) (same (trunc (t538 H) _) _))
    (AllOk.cons (i := 512) (j := 384) (zeroDST (C := C) 4 3 (by decide) (same (splatV ofBits_zero_bf16 _ _) _))
    (AllOk.cons (i := 384) (j := 384) (toDST (C := C) 3 3 (by decide) (same (trunc (t421 H) _) _))
    (AllOk.cons (i := 256) (j := 384) (toDST (C := C) 2 3 (by decide) (same (trunc (t407 H) _) _))
    (AllOk.cons (i := 128) (j := 384) (toDST (C := C) 1 3 (by decide) (same (trunc (t394 H) _) _))
    (AllOk.cons (i := 0) (j := 384) (toDST (C := C) 0 3 (by decide) (same (trunc (t381 H) _) _))
    (HS2_7 H))))))))))

/-- The stored tiles of the scores' gradient. -/
theorem HS2_31 : AllOk C.DST (sl.HS2_31 (F := Ideal) c i a2 h2 a3 h3 a7 h7 a8 h8 a9 h9 a10 h10 a15 h15 x0 x1 x5 x6 x7 x8 s0) :=
  AllOk.cons (i := 768) (j := 768) (toDST (C := C) 6 6 (by decide) (same (trunc (t1032 H) _) _))
    (AllOk.cons (i := 640) (j := 768) (toDST (C := C) 5 6 (by decide) (same (trunc (t1018 H) _) _))
    (AllOk.cons (i := 512) (j := 768) (toDST (C := C) 4 6 (by decide) (same (trunc (t1005 H) _) _))
    (AllOk.cons (i := 384) (j := 768) (toDST (C := C) 3 6 (by decide) (same (trunc (t992 H) _) _))
    (AllOk.cons (i := 256) (j := 768) (toDST (C := C) 2 6 (by decide) (same (trunc (t979 H) _) _))
    (AllOk.cons (i := 128) (j := 768) (toDST (C := C) 1 6 (by decide) (same (trunc (t966 H) _) _))
    (AllOk.cons (i := 0) (j := 768) (toDST (C := C) 0 6 (by decide) (same (trunc (t953 H) _) _))
    (AllOk.cons (i := 768) (j := 640) (zeroDST (C := C) 6 5 (by decide) (same (splatV ofBits_zero_bf16 _ _) _))
    (AllOk.cons (i := 640) (j := 640) (toDST (C := C) 5 5 (by decide) (same (trunc (t802 H) _) _))
    (AllOk.cons (i := 512) (j := 640) (toDST (C := C) 4 5 (by decide) (same (trunc (t788 H) _) _))
    (AllOk.cons (i := 384) (j := 640) (toDST (C := C) 3 5 (by decide) (same (trunc (t775 H) _) _))
    (AllOk.cons (i := 256) (j := 640) (toDST (C := C) 2 5 (by decide) (same (trunc (t762 H) _) _))
    (AllOk.cons (i := 128) (j := 640) (toDST (C := C) 1 5 (by decide) (same (trunc (t749 H) _) _))
    (AllOk.cons (i := 0) (j := 640) (toDST (C := C) 0 5 (by decide) (same (trunc (t736 H) _) _))
    (HS2_17 H))))))))))))))

/-- A load of the gradients at 0, 640. -/
theorem t1042 : Sub (m := 896) (n := 256) (sl.v1042 (F := Ideal) c i a2 h2 a3 h3 a7 h7 a8 h8 a9 h9 a10 h10 a15 h15 a17 x0 x1 x5 x6 x7 x8 s0) C.DST 0 640 :=
  loadCov a17.view (HS2_31 H) 0 640 7 2 (by sl_kernel_rfl) rfl rfl _

/-- A strip of the result from row 640. -/
theorem t1055 : Sub4 (sl.v1055 (F := Ideal) c i a2 h2 a3 h3 a4 h4 a5 h5 a7 h7 a8 h8 a9 h9 a10 h10 a15 h15 a17 x0 x1 x2 x3 x5 x6 x7 x8 s0) C.DQ 640 0 :=
  toBlock (trunc (toDQ 896 640 (by omega) (by omega) rfl (mul (tr (mmN rfl (H.bKT) (t1042 H)) _) (splatV H.hgq _ _))) _) _

/-- A load of the gradients at 0, 384. -/
theorem t602 : Sub (m := 640) (n := 256) (sl.v602 (F := Ideal) c i a2 h2 a3 h3 a7 h7 a8 h8 a9 h9 a10 h10 a15 h15 a17 x0 x1 x5 x6 x7 x8 s0) C.DST 0 384 :=
  loadCov a17.view (HS2_17 H) 0 384 5 2 (by sl_kernel_rfl) rfl rfl _

/-- A strip of the result from row 384. -/
theorem t615 : Sub4 (sl.v615 (F := Ideal) c i a2 h2 a3 h3 a4 h4 a5 h5 a7 h7 a8 h8 a9 h9 a10 h10 a15 h15 a17 x0 x1 x2 x3 x5 x6 x7 x8 s0) C.DQ 384 0 :=
  toBlock (trunc (toDQ 640 384 (by omega) (by omega) rfl (mul (tr (mmN rfl (slice (H.bKT) 0 0 _) (t602 H)) _) (splatV H.hgq _ _))) _) _

/-- A load of the gradients at 0, 128. -/
theorem t279 : Sub (m := 384) (n := 256) (sl.v279 (F := Ideal) c i a2 h2 a3 h3 a7 h7 a8 h8 a9 h9 a10 h10 a15 h15 a17 x0 x1 x5 x6 x7 x8 s0) C.DST 0 128 :=
  loadCov a17.view (HS2_7 H) 0 128 3 2 (by sl_kernel_rfl) rfl rfl _

/-- A strip of the result from row 128. -/
theorem t292 : Sub4 (sl.v292 (F := Ideal) c i a2 h2 a3 h3 a4 h4 a5 h5 a7 h7 a8 h8 a9 h9 a10 h10 a15 h15 a17 x0 x1 x2 x3 x5 x6 x7 x8 s0) C.DQ 128 0 :=
  toBlock (trunc (toDQ 384 128 (by omega) (by omega) rfl (mul (tr (mmN rfl (slice (H.bKT) 0 0 _) (t279 H)) _) (splatV H.hgq _ _))) _) _

/-- A load of the gradients at 0, 0. -/
theorem t76 : Sub (m := 128) (n := 128) (sl.v76 (F := Ideal) c i a2 h2 a3 h3 a7 h7 a8 h8 a9 h9 a10 h10 a15 h15 a17 x0 x1 x5 x6 x7 x8 s0) C.DST 0 0 :=
  loadCov a17.view (HS2_1 H) 0 0 1 1 (by sl_kernel_rfl) rfl rfl _

/-- A strip of the result from row 0. -/
theorem t89 : Sub4 (sl.v89 (F := Ideal) c i a2 h2 a3 h3 a4 h4 a5 h5 a7 h7 a8 h8 a9 h9 a10 h10 a15 h15 a17 x0 x1 x2 x3 x5 x6 x7 x8 s0) C.DQ 0 0 :=
  toBlock (trunc (toDQ 128 0 (by omega) (by omega) rfl (mul (tr (mmN rfl (slice (H.bKT) 0 0 _) (t76 H)) _) (splatV H.hgq _ _))) _) _

/-- A load of the gradients at 640, 640. -/
theorem t1139 : Sub (m := 256) (n := 256) (sl.v1139 (F := Ideal) c i a2 h2 a3 h3 a7 h7 a8 h8 a9 h9 a10 h10 a15 h15 a17 x0 x1 x5 x6 x7 x8 s0) C.DST 640 640 :=
  loadCov a17.view (HS2_31 H) 640 640 2 2 (by sl_kernel_rfl) rfl rfl _

/-- A strip of the result from row 640. -/
theorem t1152 : Sub4 (sl.v1152 (F := Ideal) c i a2 h2 a3 h3 a4 h4 a5 h5 a7 h7 a8 h8 a9 h9 a10 h10 a15 h15 a17 x0 x1 x2 x3 x5 x6 x7 x8 s0) C.DK 640 0 :=
  toBlock (trunc (toDK 640 256 rfl rfl (mul (mmN rfl (t1139 H) (slice (ext (H.bQ) _) 640 0 _)) (splatV H.hgk _ _))) _) _

/-- A load of the gradients at 384, 384. -/
theorem t1112 : Sub (m := 256) (n := 512) (sl.v1112 (F := Ideal) c i a2 h2 a3 h3 a7 h7 a8 h8 a9 h9 a10 h10 a15 h15 a17 x0 x1 x5 x6 x7 x8 s0) C.DST 384 384 :=
  loadCov a17.view (HS2_31 H) 384 384 2 4 (by sl_kernel_rfl) rfl rfl _

/-- A strip of the result from row 384. -/
theorem t1125 : Sub4 (sl.v1125 (F := Ideal) c i a2 h2 a3 h3 a4 h4 a5 h5 a7 h7 a8 h8 a9 h9 a10 h10 a15 h15 a17 x0 x1 x2 x3 x5 x6 x7 x8 s0) C.DK 384 0 :=
  toBlock (trunc (toDK 384 512 rfl rfl (mul (mmN rfl (t1112 H) (slice (ext (H.bQ) _) 384 0 _)) (splatV H.hgk _ _))) _) _

/-- A load of the gradients at 128, 128. -/
theorem t1085 : Sub (m := 256) (n := 768) (sl.v1085 (F := Ideal) c i a2 h2 a3 h3 a7 h7 a8 h8 a9 h9 a10 h10 a15 h15 a17 x0 x1 x5 x6 x7 x8 s0) C.DST 128 128 :=
  loadCov a17.view (HS2_31 H) 128 128 2 6 (by sl_kernel_rfl) rfl rfl _

/-- A strip of the result from row 128. -/
theorem t1098 : Sub4 (sl.v1098 (F := Ideal) c i a2 h2 a3 h3 a4 h4 a5 h5 a7 h7 a8 h8 a9 h9 a10 h10 a15 h15 a17 x0 x1 x2 x3 x5 x6 x7 x8 s0) C.DK 128 0 :=
  toBlock (trunc (toDK 128 768 rfl rfl (mul (mmN rfl (t1085 H) (slice (ext (H.bQ) _) 128 0 _)) (splatV H.hgk _ _))) _) _

/-- A load of the gradients at 0, 0. -/
theorem t1060 : Sub (m := 128) (n := 896) (sl.v1060 (F := Ideal) c i a2 h2 a3 h3 a7 h7 a8 h8 a9 h9 a10 h10 a15 h15 a17 x0 x1 x5 x6 x7 x8 s0) C.DST 0 0 :=
  loadCov a17.view (HS2_31 H) 0 0 1 7 (by sl_kernel_rfl) rfl rfl _

/-- A strip of the result from row 0. -/
theorem t1072 : Sub4 (sl.v1072 (F := Ideal) c i a2 h2 a3 h3 a4 h4 a5 h5 a7 h7 a8 h8 a9 h9 a10 h10 a15 h15 a17 x0 x1 x2 x3 x5 x6 x7 x8 s0) C.DK 0 0 :=
  toBlock (trunc (toDK 0 896 rfl rfl (mul (mmN rfl (t1060 H) (ext (H.bQ) _)) (splatV H.hgk _ _))) _) _

/-- The stored tiles of the weights. -/
theorem HS1_31 : AllOk C.PT (sl.HS1_31 (F := Ideal) c i a2 h2 a3 h3 a7 h7 a8 h8 a15 h15 x0 x1 x5 x6 s0) :=
  AllOk.cons (i := 768) (j := 768) (toPT (C := C) 6 6 (by decide) (same (trunc (t1029 H) _) _))
    (AllOk.cons (i := 640) (j := 768) (toPT (C := C) 5 6 (by decide) (same (trunc (t1015 H) _) _))
    (AllOk.cons (i := 512) (j := 768) (toPT (C := C) 4 6 (by decide) (same (trunc (t1002 H) _) _))
    (AllOk.cons (i := 384) (j := 768) (toPT (C := C) 3 6 (by decide) (same (trunc (t989 H) _) _))
    (AllOk.cons (i := 256) (j := 768) (toPT (C := C) 2 6 (by decide) (same (trunc (t976 H) _) _))
    (AllOk.cons (i := 128) (j := 768) (toPT (C := C) 1 6 (by decide) (same (trunc (t963 H) _) _))
    (AllOk.cons (i := 0) (j := 768) (toPT (C := C) 0 6 (by decide) (same (trunc (t950 H) _) _))
    (AllOk.cons (i := 768) (j := 640) (zeroPT (C := C) 6 5 (by decide) (same (splatV ofBits_zero_bf16 _ _) _))
    (AllOk.cons (i := 640) (j := 640) (toPT (C := C) 5 5 (by decide) (same (trunc (t799 H) _) _))
    (AllOk.cons (i := 512) (j := 640) (toPT (C := C) 4 5 (by decide) (same (trunc (t785 H) _) _))
    (AllOk.cons (i := 384) (j := 640) (toPT (C := C) 3 5 (by decide) (same (trunc (t772 H) _) _))
    (AllOk.cons (i := 256) (j := 640) (toPT (C := C) 2 5 (by decide) (same (trunc (t759 H) _) _))
    (AllOk.cons (i := 128) (j := 640) (toPT (C := C) 1 5 (by decide) (same (trunc (t746 H) _) _))
    (AllOk.cons (i := 0) (j := 640) (toPT (C := C) 0 5 (by decide) (same (trunc (t733 H) _) _))
    (AllOk.cons (i := 512) (j := 512) (toPT (C := C) 4 4 (by decide) (same (trunc (t588 H) _) _))
    (AllOk.cons (i := 384) (j := 512) (toPT (C := C) 3 4 (by decide) (same (trunc (t574 H) _) _))
    (AllOk.cons (i := 256) (j := 512) (toPT (C := C) 2 4 (by decide) (same (trunc (t561 H) _) _))
    (AllOk.cons (i := 128) (j := 512) (toPT (C := C) 1 4 (by decide) (same (trunc (t548 H) _) _))
    (AllOk.cons (i := 0) (j := 512) (toPT (C := C) 0 4 (by decide) (same (trunc (t535 H) _) _))
    (AllOk.cons (i := 512) (j := 384) (zeroPT (C := C) 4 3 (by decide) (same (splatV ofBits_zero_bf16 _ _) _))
    (AllOk.cons (i := 384) (j := 384) (toPT (C := C) 3 3 (by decide) (same (trunc (t418 H) _) _))
    (AllOk.cons (i := 256) (j := 384) (toPT (C := C) 2 3 (by decide) (same (trunc (t404 H) _) _))
    (AllOk.cons (i := 128) (j := 384) (toPT (C := C) 1 3 (by decide) (same (trunc (t391 H) _) _))
    (AllOk.cons (i := 0) (j := 384) (toPT (C := C) 0 3 (by decide) (same (trunc (t378 H) _) _))
    (AllOk.cons (i := 256) (j := 256) (toPT (C := C) 2 2 (by decide) (same (trunc (t265 H) _) _))
    (AllOk.cons (i := 128) (j := 256) (toPT (C := C) 1 2 (by decide) (same (trunc (t251 H) _) _))
    (AllOk.cons (i := 0) (j := 256) (toPT (C := C) 0 2 (by decide) (same (trunc (t238 H) _) _))
    (AllOk.cons (i := 256) (j := 128) (zeroPT (C := C) 2 1 (by decide) (same (splatV ofBits_zero_bf16 _ _) _))
    (AllOk.cons (i := 128) (j := 128) (toPT (C := C) 1 1 (by decide) (same (trunc (t155 H) _) _))
    (AllOk.cons (i := 0) (j := 128) (toPT (C := C) 0 1 (by decide) (same (trunc (t141 H) _) _))
    (AllOk.cons (i := 0) (j := 0) (toPT (C := C) 0 0 (by decide) (same (trunc (t62 H) _) _))
    (AllOk.nil)))))))))))))))))))))))))))))))

/-- A load of the weights at 640, 640. -/
theorem t1154 : Sub (m := 256) (n := 256) (sl.v1154 (F := Ideal) c i a2 h2 a3 h3 a7 h7 a8 h8 a15 h15 a16 x0 x1 x5 x6 s0) C.PT 640 640 :=
  loadCov a16.view (HS1_31 H) 640 640 2 2 (by sl_kernel_rfl) rfl rfl _

end Cert.KernelIdeal.Gen.CaseB
-- ==== Proof.CaseB2.lean ====
/-
  The kernel's values at a grid point of odd batch, operation by operation, as tiles of the matrices of `Model`.
-/
module

public import proofs.«01_k».proof.Proof.CaseB1

@[expose] public section

set_option maxRecDepth 16384

noncomputable section

namespace Cert.KernelIdeal.Gen.CaseB

open Idealize.ShloMosaic Idealize.ShloMosaic.ValueIdx Idealize.SL.Sem Cert.KernelIdeal.Tiles
open Cert.KernelIdeal.Gen.kernelRun0_B

variable {c : Dev nD} {i : grid0.Coords} {a2 : Memref sig .tc .smem S2x20 .f32} {h2 : a2.IsWhole}
  {a3 : Memref sig .tc .smem S2x20 .f32} {h3 : a3.IsWhole} {a4 : Memref sig .tc .smem S2x20 .f32} {h4 : a4.IsWhole}
  {a5 : Memref sig .tc .smem S2x20 .f32} {h5 : a5.IsWhole} {a7 : Memref sig .tc .vmem S1x1x896x128 .fp8e4m3} {h7 : a7.IsWhole}
  {a8 : Memref sig .tc .vmem S1x1x896x128 .fp8e4m3} {h8 : a8.IsWhole} {a9 : Memref sig .tc .vmem S1x1x896x128 .fp8e4m3} {h9 : a9.IsWhole}
  {a10 : Memref sig .tc .vmem S1x1x896x128 .fp8e5m2} {h10 : a10.IsWhole} {a15 : Memref sig .tc .vmem S128x256 .f32} {h15 : a15.IsWhole}
  {x0 : Vec Ideal S2x20 .f32} {x1 : Vec Ideal S2x20 .f32} {x2 : Vec Ideal S2x20 .f32} {x3 : Vec Ideal S2x20 .f32}
  {x5 : Vec Ideal S1x1x896x128 .fp8e4m3} {x6 : Vec Ideal S1x1x896x128 .fp8e4m3} {x7 : Vec Ideal S1x1x896x128 .fp8e4m3} {x8 : Vec Ideal S1x1x896x128 .fp8e5m2}
  {s0 : Vec Ideal S128x256 .f32} {C : Ctx}
  {a16 a17 : Memref sig .tc .vmem S896x896 .bf16}

variable (H : Ins c i a2 h2 a3 h3 a4 h4 a5 h5 a7 h7 a8 h8 a9 h9 a10 h10 a15 h15 x0 x1 x2 x3 x5 x6 x7 x8 s0 C)
include H

/-- A strip of the result from row 640. -/
theorem t1165 : Sub4 (sl.v1165 (F := Ideal) c i a2 h2 a3 h3 a5 h5 a7 h7 a8 h8 a10 h10 a15 h15 a16 x0 x1 x3 x5 x6 x8 s0) C.DV 640 0 :=
  toBlock (trunc (toDV 640 256 rfl rfl (mul (tr (mmT rfl (slice (trunc (tr (ext (H.bDO) _) _) _) 0 640 _) (t1154 H)) _) (splatV H.hos _ _))) _) _

/-- A load of the weights at 384, 384. -/
theorem t1127 : Sub (m := 256) (n := 512) (sl.v1127 (F := Ideal) c i a2 h2 a3 h3 a7 h7 a8 h8 a15 h15 a16 x0 x1 x5 x6 s0) C.PT 384 384 :=
  loadCov a16.view (HS1_31 H) 384 384 2 4 (by sl_kernel_rfl) rfl rfl _

/-- A strip of the result from row 384. -/
theorem t1138 : Sub4 (sl.v1138 (F := Ideal) c i a2 h2 a3 h3 a5 h5 a7 h7 a8 h8 a10 h10 a15 h15 a16 x0 x1 x3 x5 x6 x8 s0) C.DV 384 0 :=
  toBlock (trunc (toDV 384 512 rfl rfl (mul (tr (mmT rfl (slice (trunc (tr (ext (H.bDO) _) _) _) 0 384 _) (t1127 H)) _) (splatV H.hos _ _))) _) _

/-- A load of the weights at 128, 128. -/
theorem t1100 : Sub (m := 256) (n := 768) (sl.v1100 (F := Ideal) c i a2 h2 a3 h3 a7 h7 a8 h8 a15 h15 a16 x0 x1 x5 x6 s0) C.PT 128 128 :=
  loadCov a16.view (HS1_31 H) 128 128 2 6 (by sl_kernel_rfl) rfl rfl _

/-- A strip of the result from row 128. -/
theorem t1111 : Sub4 (sl.v1111 (F := Ideal) c i a2 h2 a3 h3 a5 h5 a7 h7 a8 h8 a10 h10 a15 h15 a16 x0 x1 x3 x5 x6 x8 s0) C.DV 128 0 :=
  toBlock (trunc (toDV 128 768 rfl rfl (mul (tr (mmT rfl (slice (trunc (tr (ext (H.bDO) _) _) _) 0 128 _) (t1100 H)) _) (splatV H.hos _ _))) _) _

/-- A load of the weights at 0, 0. -/
theorem t1073 : Sub (m := 128) (n := 896) (sl.v1073 (F := Ideal) c i a2 h2 a3 h3 a7 h7 a8 h8 a15 h15 a16 x0 x1 x5 x6 s0) C.PT 0 0 :=
  loadCov a16.view (HS1_31 H) 0 0 1 7 (by sl_kernel_rfl) rfl rfl _

/-- A strip of the result from row 0. -/
theorem t1084 : Sub4 (sl.v1084 (F := Ideal) c i a2 h2 a3 h3 a5 h5 a7 h7 a8 h8 a10 h10 a15 h15 a16 x0 x1 x3 x5 x6 x8 s0) C.DV 0 0 :=
  toBlock (trunc (toDV 0 896 rfl rfl (mul (tr (mmT rfl (trunc (tr (ext (H.bDO) _) _) _) (t1073 H)) _) (splatV H.hos _ _))) _) _

end Cert.KernelIdeal.Gen.CaseB
-- ==== Proof.Blocks.lean ====
/-
  What a grid point leaves in its three result blocks: the gradients of `Model`.
-/
module

public import proofs.«01_k».proof.Proof.CaseA2
public import proofs.«01_k».proof.Proof.CaseB2

@[expose] public section

set_option maxRecDepth 16384

noncomputable section

namespace Cert.KernelIdeal.Gen
open Idealize.ShloMosaic Idealize.ShloMosaic.ValueIdx Idealize.SL.Sem Cert.KernelIdeal.Tiles

/-- What one piece that covers a buffer leaves in it, read back. -/
theorem readOne {sig : RefSig} {κ : Kind} {sp : Space} {m n : ℕ} {G : ℕ → ℕ → EReal} (V : View sig κ sp ⟨2, ![m, n]⟩ .f32)
    {w : (⟨2, ![m, n]⟩ : Shape).Idx → Elt Ideal .f32}
    {inb' : ∀ a, (![0, 0] : Fin 2 → ℕ) a + (⟨2, ![m, n]⟩ : Shape).size a ≤ (⟨2, ![m, n]⟩ : Shape).size a}
    {L : List (View.Piece (Elt Ideal) ⟨2, ![m, n]⟩ .f32)} (hL : L = [⟨Rect.unit (s := ⟨2, ![m, n]⟩) ![0, 0] (⟨2, ![m, n]⟩ : Shape).size inb', w⟩])
    (f : V.ty.Contents (Elt Ideal)) (hw : Sub w G 0 0) (hc : ∀ y, ∃ p ∈ L, y ∈ p.1.set) :
    Sub (m := m) (n := n) (fun x => V.read (Elt Ideal) (V.writes (Elt Ideal) f L) x) G 0 0 := by
  intro a b
  show V.read (Elt Ideal) (V.writes (Elt Ideal) f L) (ix2 a b) = _
  rw [View.read_writes_eq_canon _ _ _ hc, Nat.zero_add, Nat.zero_add]
  refine canonValue (fun x => x) (fun y => G (y 0).val (y 1).val) L (fun p hp => ?_) _ (hc _)
  subst hL
  obtain rfl := List.mem_singleton.1 hp
  intro x
  have := hw (x 0) (x 1)
  show w x = G (0 + 1 * (x 0).val) (0 + 1 * (x 1).val)
  rw [Nat.one_mul, Nat.one_mul]
  exact (congrArg w (eq_ix2 x)).trans this

namespace CaseA
open Cert.KernelIdeal.Gen.kernelRun0_A

variable {c : Dev nD} {i : grid0.Coords}
  {a2 : Memref sig .tc .smem S2x20 .f32} {h2 : a2.IsWhole}
  {a3 : Memref sig .tc .smem S2x20 .f32} {h3 : a3.IsWhole}
  {a4 : Memref sig .tc .smem S2x20 .f32} {h4 : a4.IsWhole}
  {a5 : Memref sig .tc .smem S2x20 .f32} {h5 : a5.IsWhole}
  {a6 : Memref sig .tc .smem S20x32 .f32} {h6 : a6.IsWhole}
  {a7 : Memref sig .tc .vmem S1x1x896x128 .fp8e4m3} {h7 : a7.IsWhole}
  {a8 : Memref sig .tc .vmem S1x1x896x128 .fp8e4m3} {h8 : a8.IsWhole}
  {a9 : Memref sig .tc .vmem S1x1x896x128 .fp8e4m3} {h9 : a9.IsWhole}
  {a10 : Memref sig .tc .vmem S1x1x896x128 .fp8e5m2} {h10 : a10.IsWhole}
  {a11 : Memref sig .tc .vmem S1x1x896x128 .bf16} {h11 : a11.IsWhole}
  {a12 : Memref sig .tc .vmem S1x1x896x128 .bf16} {h12 : a12.IsWhole}
  {a13 : Memref sig .tc .vmem S1x1x896x128 .bf16} {h13 : a13.IsWhole}
  {a14 : Memref sig .tc .vmem S1x1x128 .f32} {h14 : a14.IsWhole}
  {a15 : Memref sig .tc .vmem S128x256 .f32} {h15 : a15.IsWhole}
  {a16 : Memref sig .tc .vmem S896x896 .bf16} {h16 : a16.IsWhole}
  {a17 : Memref sig .tc .vmem S896x896 .bf16} {h17 : a17.IsWhole}
  {a18 : Memref sig .tc .vmem S8x256 .f32} {h18 : a18.IsWhole}
  {hc0 : cond0_0 i} {hc1 : cond0_1 i} {hc2 : ¬cond0_2 i} {hc3 : ¬cond0_3 i}
  {x0 : Vec Ideal S2x20 .f32}
  {x1 : Vec Ideal S2x20 .f32}
  {x2 : Vec Ideal S2x20 .f32}
  {x3 : Vec Ideal S2x20 .f32}
  {x4 : Vec Ideal S20x32 .f32}
  {x5 : Vec Ideal S1x1x896x128 .fp8e4m3}
  {x6 : Vec Ideal S1x1x896x128 .fp8e4m3}
  {x7 : Vec Ideal S1x1x896x128 .fp8e4m3}
  {x8 : Vec Ideal S1x1x896x128 .fp8e5m2}
  {C : Ctx}

variable (H : Ins c i a2 h2 a3 h3 a4 h4 a5 h5 a6 h6 a7 h7 a8 h8 a9 h9 a10 h10 a15 hc0 x0 x1 x2 x3 x4 x5 x6 x7 x8 C)
include H

/-- The block of the queries' gradient. -/
theorem out9 : Sub4 (out0_A_9 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8) C.DQ 0 0 :=
  readBlock VO0_9 _ (L := (kernelRun0_A c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8).1) (AllOk4.cons (t1055 H) (AllOk4.cons (t615 H) (AllOk4.cons (t292 H) (AllOk4.cons (t89 H) AllOk4.nil)))) (cover0_A_9 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8)

/-- The block of the keys' gradient. -/
theorem out10 : Sub4 (out0_A_10 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8) C.DK 0 0 :=
  readBlock VO0_10 _ (L := (kernelRun0_A c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8).2.1) (AllOk4.cons (t1152 H) (AllOk4.cons (t1125 H) (AllOk4.cons (t1098 H) (AllOk4.cons (t1072 H) AllOk4.nil)))) (cover0_A_10 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8)

/-- The block of the values' gradient. -/
theorem out11 : Sub4 (out0_A_11 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8) C.DV 0 0 :=
  readBlock VO0_11 _ (L := (kernelRun0_A c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8).2.2.1) (AllOk4.cons (t1165 H) (AllOk4.cons (t1138 H) (AllOk4.cons (t1111 H) (AllOk4.cons (t1084 H) AllOk4.nil)))) (cover0_A_11 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8)

/-- The carried bias table the point leaves. -/
theorem outT : Sub (sout0_A_0 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8) C.T 0 0 :=
  readOne VS0_0 (L := (kernelRun0_A c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8).2.2.2.2.1) rfl _ H.hT (scover0_A_0 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8)

end CaseA

namespace CaseB
open Cert.KernelIdeal.Gen.kernelRun0_B

variable {c : Dev nD} {i : grid0.Coords}
  {a2 : Memref sig .tc .smem S2x20 .f32} {h2 : a2.IsWhole}
  {a3 : Memref sig .tc .smem S2x20 .f32} {h3 : a3.IsWhole}
  {a4 : Memref sig .tc .smem S2x20 .f32} {h4 : a4.IsWhole}
  {a5 : Memref sig .tc .smem S2x20 .f32} {h5 : a5.IsWhole}
  {a6 : Memref sig .tc .smem S20x32 .f32} {h6 : a6.IsWhole}
  {a7 : Memref sig .tc .vmem S1x1x896x128 .fp8e4m3} {h7 : a7.IsWhole}
  {a8 : Memref sig .tc .vmem S1x1x896x128 .fp8e4m3} {h8 : a8.IsWhole}
  {a9 : Memref sig .tc .vmem S1x1x896x128 .fp8e4m3} {h9 : a9.IsWhole}
  {a10 : Memref sig .tc .vmem S1x1x896x128 .fp8e5m2} {h10 : a10.IsWhole}
  {a11 : Memref sig .tc .vmem S1x1x896x128 .bf16} {h11 : a11.IsWhole}
  {a12 : Memref sig .tc .vmem S1x1x896x128 .bf16} {h12 : a12.IsWhole}
  {a13 : Memref sig .tc .vmem S1x1x896x128 .bf16} {h13 : a13.IsWhole}
  {a14 : Memref sig .tc .vmem S1x1x128 .f32} {h14 : a14.IsWhole}
  {a15 : Memref sig .tc .vmem S128x256 .f32} {h15 : a15.IsWhole}
  {a16 : Memref sig .tc .vmem S896x896 .bf16} {h16 : a16.IsWhole}
  {a17 : Memref sig .tc .vmem S896x896 .bf16} {h17 : a17.IsWhole}
  {a18 : Memref sig .tc .vmem S8x256 .f32} {h18 : a18.IsWhole}
  {hc0 : ¬cond0_0 i} {hc1 : ¬cond0_1 i} {hc2 : cond0_2 i} {hc3 : cond0_3 i}
  {x0 : Vec Ideal S2x20 .f32}
  {x1 : Vec Ideal S2x20 .f32}
  {x2 : Vec Ideal S2x20 .f32}
  {x3 : Vec Ideal S2x20 .f32}
  {x4 : Vec Ideal S20x32 .f32}
  {x5 : Vec Ideal S1x1x896x128 .fp8e4m3}
  {x6 : Vec Ideal S1x1x896x128 .fp8e4m3}
  {x7 : Vec Ideal S1x1x896x128 .fp8e4m3}
  {x8 : Vec Ideal S1x1x896x128 .fp8e5m2}
  {s0 : Vec Ideal S128x256 .f32} {s3 : Vec Ideal S8x256 .f32}
  {C : Ctx}

variable (H : Ins c i a2 h2 a3 h3 a4 h4 a5 h5 a7 h7 a8 h8 a9 h9 a10 h10 a15 h15 x0 x1 x2 x3 x5 x6 x7 x8 s0 C)
include H

/-- The block of the queries' gradient. -/
theorem out9 : Sub4 (out0_B_9 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3) C.DQ 0 0 :=
  readBlock VO0_9 _ (L := (kernelRun0_B c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3).1) (AllOk4.cons (t1055 H) (AllOk4.cons (t615 H) (AllOk4.cons (t292 H) (AllOk4.cons (t89 H) AllOk4.nil)))) (cover0_B_9 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3)

/-- The block of the keys' gradient. -/
theorem out10 : Sub4 (out0_B_10 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3) C.DK 0 0 :=
  readBlock VO0_10 _ (L := (kernelRun0_B c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3).2.1) (AllOk4.cons (t1152 H) (AllOk4.cons (t1125 H) (AllOk4.cons (t1098 H) (AllOk4.cons (t1072 H) AllOk4.nil)))) (cover0_B_10 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3)

/-- The block of the values' gradient. -/
theorem out11 : Sub4 (out0_B_11 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3) C.DV 0 0 :=
  readBlock VO0_11 _ (L := (kernelRun0_B c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3).2.2.1) (AllOk4.cons (t1165 H) (AllOk4.cons (t1138 H) (AllOk4.cons (t1111 H) (AllOk4.cons (t1084 H) AllOk4.nil)))) (cover0_B_11 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3)

end CaseB

end Cert.KernelIdeal.Gen
-- ==== Proof.Toep.lean ====
/-
  The bias tile the kernel builds at a head's first point: entry (key, query) holds the bias of their distance less the far
  bias, scaled, and minus infinity for a later key.
-/
module

public import proofs.«01_k».proof.Proof.Equation

@[expose] public section

set_option maxRecDepth 16384

noncomputable section

namespace Cert.KernelIdeal.Gen.Toep

open Idealize.ShloMosaic Idealize.ShloMosaic.ValueIdx Idealize.SL.Sem Cert.KernelIdeal.Tiles
open Cert.KernelIdeal.Gen.kernelRun0_A

/-- The whole buffer, read at one place. -/
theorem scal {sp : Space} {m n : ℕ} {a : Memref sig .tc sp ⟨2, ![m, n]⟩ .f32} (h : a.IsWhole) (X : Vec Ideal ⟨2, ![m, n]⟩ .f32)
    (off : Fin 2 → ℕ) (r s : ℕ) (hr : r < m) (hs : s < n) (hoff : off = ![r, s])
    (inb : ∀ d, off d + (⟨2, ![1, 1]⟩ : Shape).size d ≤ (⟨2, ![m, n]⟩ : Shape).size d) (hp : 0 < (⟨2, ![1, 1]⟩ : Shape).numel) :
    View.readAt (Elt Ideal) a.view (Rect.unit (s := ⟨2, ![m, n]⟩) off (⟨2, ![1, 1]⟩ : Shape).size inb).toLoadRect (h.unread X) (Shape.Idx.first hp)
      = X (ix2 ⟨r, hr⟩ ⟨s, hs⟩) := by
  subst hoff
  rw [Memref.IsWhole.readAt_unread]
  refine congrArg X (funext fun d => Fin.ext ?_)
  match d with
  | ⟨0, _⟩ => rfl
  | ⟨1, _⟩ => rfl

/-- The bias less the far bias, scaled. -/
def w (b : ℕ → EReal) (n : ℕ) : EReal := (b n - b 31) * (lg : EReal)

/-- The distances whose bucket is below `n` hold their bias, the others zero. -/
def Row (b : ℕ → EReal) (X : S8x256.Idx → EReal) (n : ℕ) : Prop :=
  ∀ (a : Fin 8) (l : Fin 256), X (ix2 a l) = if bkt l < n then w b (bkt l) else 0

/-- The distances from `lo` on and below `hi`. -/
def mask (lo hi : BitVec 32) : IVec S8x256 1 :=
  andi (cmpi .sge (iota .tc S8x256 32 [1] iota_S8x256_d1_w32) (broadcast S8x256 lo))
    (cmpi .slt (iota .tc S8x256 32 [1] iota_S8x256_d1_w32) (broadcast S8x256 hi))

/-- One more bucket. -/
theorem step {b : ℕ → EReal} {X : S8x256.Idx → EReal} (k : ℕ) {lo hi : BitVec 32} {x f : EReal}
    (hm : ∀ l : Fin 256, ((BitVec.ofNat 32 l.val).slt hi && lo.sle (BitVec.ofNat 32 l.val)) = decide (bkt l.val = k))
    (hX : Row b X k) (hx : x = b k) (hf : f = b 31) :
    Row b (select (mask lo hi) (broadcast S8x256 (Scalar.mulf (F := Ideal) (φ := .f32) (Scalar.subf (F := Ideal) (φ := .f32) x f) (Named.named κ "log2e" 0x3FB8AA3B#32))) X) (k + 1) := by
  intro a l
  have e0 : mask lo hi (ix2 a l) = BitVec.ofBool (lo.sle (BitVec.ofNat 32 l.val)) &&& BitVec.ofBool ((BitVec.ofNat 32 l.val).slt hi) := by
    show BitVec.ofBool (lo.sle (BitVec.ofNat 32 (0 * 256 + l.val))) &&& BitVec.ofBool ((BitVec.ofNat 32 (0 * 256 + l.val)).slt hi) = _
    rw [Nat.zero_mul, Nat.zero_add]
  have e : mask lo hi (ix2 a l) = BitVec.ofBool (decide (bkt l.val = k)) := by
    rw [e0, ← hm l]
    cases (BitVec.ofNat 32 l.val).slt hi <;> cases lo.sle (BitVec.ofNat 32 l.val) <;> rfl
  show (if mask lo hi (ix2 a l) = 1 then _ else X (ix2 a l)) = _
  rw [e]
  by_cases h : bkt l = k
  · rw [decide_eq_true h, if_pos (show BitVec.ofBool true = 1 from rfl), if_pos (by omega), hx, hf, h]
    rfl
  · rw [decide_eq_false h, if_neg (by decide), hX a l]
    by_cases h' : bkt l < k
    · rw [if_pos h', if_pos (by omega)]
    · rw [if_neg h', if_neg (by omega)]

/-- Before the first bucket. -/
theorem start (b : ℕ → EReal) : Row b (broadcast S8x256 (Scalar.ofBits (F := Ideal) .f32 0x00000000#32)) 0 := by
  intro a l
  rw [if_neg (by omega)]
  exact Ideal.ofBits_zero_f32

/-- The tile: the distances' row turned by each row's number, the later keys masked. -/
theorem tile {b : ℕ → EReal} {X : S8x256.Idx → EReal} (f : ℝ) (hb : b 31 = f) (hX : Row b X 31)
    (h1 : S8x256.Slices ![0, 0] S1x256) (h2 : S1x256.ShapeCasts S1x256) (h3 : S1x256.Broadcasts S128x256)
    (h4 : S128x256.Rotates 1 (some (1, 0))) :
    Sub (m := 128) (n := 256) (k0_pay28 (F := Ideal) (dynamicRotate 1 0#32 (some (1, 0)) (broadcastTo S128x256 (shapeCast S1x256 (extractStridedSlice S1x256 ![0, 0] X h1) h2) h3) h4)
      k0_pay17 (FloatOps.ofBits .f32 4286578688#32)) (fun a l => if a ≤ l then (b (bkt (l - a)) - b 31) * (lg : EReal) else ⊥) 0 0 := by
  have hw : w b 31 = 0 := by
    unfold w
    rw [hb, ← EReal.coe_sub, sub_self, EReal.coe_zero, zero_mul]
  intro a l
  have ha := a.isLt
  have hl := l.isLt
  rw [Nat.zero_add, Nat.zero_add]
  show _ = if a.val ≤ l.val then (b (bkt (l.val - a.val)) - b 31) * (lg : EReal) else ⊥
  unfold k0_pay28
  refine Eq.trans (congrFun (shapeCast_self _ _) (ix2 a l)) ?_
  show (if k0_pay17 (ix2 a l) = 1 then _ else Ideal.ofBits .f32 4286578688#32) = _
  have e : k0_pay17 (ix2 a l) = BitVec.ofBool (decide (a.val ≤ l.val)) := by
    show BitVec.ofBool ((BitVec.ofNat 32 (0 * 128 + a.val)).sle (BitVec.ofNat 32 (0 * 256 + l.val))) = _
    refine congrArg _ ?_
    rw [Nat.zero_mul, Nat.zero_add, Nat.zero_add, BitVec.sle_eq_decide, BitVec.toInt_ofNat', BitVec.toInt_ofNat']
    congr 1
    rw [show ((a.val : ℤ).bmod (2 ^ 32)) = a.val by rw [Int.bmod_eq_of_le] <;> omega, show ((l.val : ℤ).bmod (2 ^ 32)) = l.val by rw [Int.bmod_eq_of_le] <;> omega]
    exact propext Int.ofNat_le
  rw [e]
  by_cases h : a.val ≤ l.val
  · rw [decide_eq_true h, if_pos (show BitVec.ofBool true = 1 from rfl), if_pos h]
    have e1 : dynamicRotate 1 0#32 (some (1, 0)) (broadcastTo S128x256 (shapeCast S1x256 (extractStridedSlice S1x256 ![0, 0] X h1) h2) h3) h4 (ix2 a l)
        = X (ix2 0 ⟨l.val - a.val, by omega⟩) := by
      rw [shapeCast_self]
      unfold dynamicRotate
      refine (broadcastTo_apply _ _ _ (ix2 0 ⟨l.val - a.val, by omega⟩) (fun d => ?_)).trans ?_
      · match d with
        | ⟨0, _⟩ => rfl
        | ⟨1, _⟩ =>
          show l.val - a.val = (l.val + 256 - (0 + 1 * a.val) % 256) % 256
          omega
      · refine (extractStridedSlice_apply _ _ _ _ (ix2 0 ⟨l.val - a.val, by omega⟩) (fun d => ?_))
        match d with
        | ⟨0, _⟩ => rfl
        | ⟨1, _⟩ => exact (Nat.zero_add _).symm
    rw [e1, hX]
    show (if bkt (l.val - a.val) < 31 then w b (bkt (l.val - a.val)) else 0) = w b (bkt (l.val - a.val))
    by_cases h' : bkt (l.val - a.val) < 31
    · rw [if_pos h']
    · have := bkt_lt (l.val - a.val)
      rw [if_neg h', show bkt (l.val - a.val) = 31 by omega, hw]
  · rw [decide_eq_false h, if_neg (by decide), if_neg h]
    exact ofBits_neg_inf

section
variable {c : Dev nD} {i : grid0.Coords} {a6 : Memref sig .tc .smem S20x32 .f32} {h6 : a6.IsWhole} {hc0 : cond0_0 i}
  {x4 : Vec Ideal S20x32 .f32}

/-- The biases of the point's head, by bucket. -/
def bias (i : grid0.Coords) (x4 : Vec Ideal S20x32 .f32) (n : ℕ) : EReal := x4 (ix2 (i 0) (Fin.ofNat 32 n))

/-- The bias of bucket 0. -/
theorem b0 : sl.r_1 (F := Ideal) c i a6 h6 hc0 x4 = bias i x4 0 :=
  scal h6 x4 (k0_off2 i) (i 0).val 0 (i 0).isLt (by omega) (k0_off2_eq i) _ _

/-- The bias of bucket 1. -/
theorem b1 : sl.r_2 (F := Ideal) c i a6 h6 hc0 x4 = bias i x4 1 :=
  scal h6 x4 (k0_off3 i) (i 0).val 1 (i 0).isLt (by omega) (k0_off3_eq i) _ _

/-- The bias of bucket 2. -/
theorem b2 : sl.r_3 (F := Ideal) c i a6 h6 hc0 x4 = bias i x4 2 :=
  scal h6 x4 (k0_off4 i) (i 0).val 2 (i 0).isLt (by omega) (k0_off4_eq i) _ _

/-- The bias of bucket 3. -/
theorem b3 : sl.r_5 (F := Ideal) c i a6 h6 hc0 x4 = bias i x4 3 :=
  scal h6 x4 (k0_off5 i) (i 0).val 3 (i 0).isLt (by omega) (k0_off5_eq i) _ _

/-- The bias of bucket 4. -/
theorem b4 : sl.r_6 (F := Ideal) c i a6 h6 hc0 x4 = bias i x4 4 :=
  scal h6 x4 (k0_off6 i) (i 0).val 4 (i 0).isLt (by omega) (k0_off6_eq i) _ _

/-- The bias of bucket 5. -/
theorem b5 : sl.r_7 (F := Ideal) c i a6 h6 hc0 x4 = bias i x4 5 :=
  scal h6 x4 (k0_off7 i) (i 0).val 5 (i 0).isLt (by omega) (k0_off7_eq i) _ _

/-- The bias of bucket 6. -/
theorem b6 : sl.r_8 (F := Ideal) c i a6 h6 hc0 x4 = bias i x4 6 :=
  scal h6 x4 (k0_off8 i) (i 0).val 6 (i 0).isLt (by omega) (k0_off8_eq i) _ _

/-- The bias of bucket 7. -/
theorem b7 : sl.r_10 (F := Ideal) c i a6 h6 hc0 x4 = bias i x4 7 :=
  scal h6 x4 (k0_off9 i) (i 0).val 7 (i 0).isLt (by omega) (k0_off9_eq i) _ _

/-- The bias of bucket 8. -/
theorem b8 : sl.r_11 (F := Ideal) c i a6 h6 hc0 x4 = bias i x4 8 :=
  scal h6 x4 (k0_off10 i) (i 0).val 8 (i 0).isLt (by omega) (k0_off10_eq i) _ _

/-- The bias of bucket 9. -/
theorem b9 : sl.r_12 (F := Ideal) c i a6 h6 hc0 x4 = bias i x4 9 :=
  scal h6 x4 (k0_off11 i) (i 0).val 9 (i 0).isLt (by omega) (k0_off11_eq i) _ _

/-- The bias of bucket 10. -/
theorem b10 : sl.r_13 (F := Ideal) c i a6 h6 hc0 x4 = bias i x4 10 :=
  scal h6 x4 (k0_off12 i) (i 0).val 10 (i 0).isLt (by omega) (k0_off12_eq i) _ _

/-- The bias of bucket 11. -/
theorem b11 : sl.r_15 (F := Ideal) c i a6 h6 hc0 x4 = bias i x4 11 :=
  scal h6 x4 (k0_off13 i) (i 0).val 11 (i 0).isLt (by omega) (k0_off13_eq i) _ _

/-- The bias of bucket 12. -/
theorem b12 : sl.r_16 (F := Ideal) c i a6 h6 hc0 x4 = bias i x4 12 :=
  scal h6 x4 (k0_off14 i) (i 0).val 12 (i 0).isLt (by omega) (k0_off14_eq i) _ _

/-- The bias of bucket 13. -/
theorem b13 : sl.r_17 (F := Ideal) c i a6 h6 hc0 x4 = bias i x4 13 :=
  scal h6 x4 (k0_off15 i) (i 0).val 13 (i 0).isLt (by omega) (k0_off15_eq i) _ _

/-- The bias of bucket 14. -/
theorem b14 : sl.r_18 (F := Ideal) c i a6 h6 hc0 x4 = bias i x4 14 :=
  scal h6 x4 (k0_off16 i) (i 0).val 14 (i 0).isLt (by omega) (k0_off16_eq i) _ _

/-- The bias of bucket 15. -/
theorem b15 : sl.r_20 (F := Ideal) c i a6 h6 hc0 x4 = bias i x4 15 :=
  scal h6 x4 (k0_off17 i) (i 0).val 15 (i 0).isLt (by omega) (k0_off17_eq i) _ _

/-- The bias of bucket 16. -/
theorem b16 : sl.r_21 (F := Ideal) c i a6 h6 hc0 x4 = bias i x4 16 :=
  scal h6 x4 (k0_off18 i) (i 0).val 16 (i 0).isLt (by omega) (k0_off18_eq i) _ _

/-- The bias of bucket 17. -/
theorem b17 : sl.r_22 (F := Ideal) c i a6 h6 hc0 x4 = bias i x4 17 :=
  scal h6 x4 (k0_off19 i) (i 0).val 17 (i 0).isLt (by omega) (k0_off19_eq i) _ _

/-- The bias of bucket 18. -/
theorem b18 : sl.r_23 (F := Ideal) c i a6 h6 hc0 x4 = bias i x4 18 :=
  scal h6 x4 (k0_off20 i) (i 0).val 18 (i 0).isLt (by omega) (k0_off20_eq i) _ _

/-- The bias of bucket 19. -/
theorem b19 : sl.r_25 (F := Ideal) c i a6 h6 hc0 x4 = bias i x4 19 :=
  scal h6 x4 (k0_off21 i) (i 0).val 19 (i 0).isLt (by omega) (k0_off21_eq i) _ _

/-- The bias of bucket 20. -/
theorem b20 : sl.r_26 (F := Ideal) c i a6 h6 hc0 x4 = bias i x4 20 :=
  scal h6 x4 (k0_off22 i) (i 0).val 20 (i 0).isLt (by omega) (k0_off22_eq i) _ _

/-- The bias of bucket 21. -/
theorem b21 : sl.r_27 (F := Ideal) c i a6 h6 hc0 x4 = bias i x4 21 :=
  scal h6 x4 (k0_off23 i) (i 0).val 21 (i 0).isLt (by omega) (k0_off23_eq i) _ _

/-- The bias of bucket 22. -/
theorem b22 : sl.r_28 (F := Ideal) c i a6 h6 hc0 x4 = bias i x4 22 :=
  scal h6 x4 (k0_off24 i) (i 0).val 22 (i 0).isLt (by omega) (k0_off24_eq i) _ _

/-- The bias of bucket 23. -/
theorem b23 : sl.r_30 (F := Ideal) c i a6 h6 hc0 x4 = bias i x4 23 :=
  scal h6 x4 (k0_off25 i) (i 0).val 23 (i 0).isLt (by omega) (k0_off25_eq i) _ _

/-- The bias of bucket 24. -/
theorem b24 : sl.r_31 (F := Ideal) c i a6 h6 hc0 x4 = bias i x4 24 :=
  scal h6 x4 (k0_off26 i) (i 0).val 24 (i 0).isLt (by omega) (k0_off26_eq i) _ _

/-- The bias of bucket 25. -/
theorem b25 : sl.r_32 (F := Ideal) c i a6 h6 hc0 x4 = bias i x4 25 :=
  scal h6 x4 (k0_off27 i) (i 0).val 25 (i 0).isLt (by omega) (k0_off27_eq i) _ _

/-- The bias of bucket 26. -/
theorem b26 : sl.r_33 (F := Ideal) c i a6 h6 hc0 x4 = bias i x4 26 :=
  scal h6 x4 (k0_off28 i) (i 0).val 26 (i 0).isLt (by omega) (k0_off28_eq i) _ _

/-- The bias of bucket 27. -/
theorem b27 : sl.r_35 (F := Ideal) c i a6 h6 hc0 x4 = bias i x4 27 :=
  scal h6 x4 (k0_off29 i) (i 0).val 27 (i 0).isLt (by omega) (k0_off29_eq i) _ _

/-- The bias of bucket 28. -/
theorem b28 : sl.r_36 (F := Ideal) c i a6 h6 hc0 x4 = bias i x4 28 :=
  scal h6 x4 (k0_off30 i) (i 0).val 28 (i 0).isLt (by omega) (k0_off30_eq i) _ _

/-- The bias of bucket 29. -/
theorem b29 : sl.r_37 (F := Ideal) c i a6 h6 hc0 x4 = bias i x4 29 :=
  scal h6 x4 (k0_off31 i) (i 0).val 29 (i 0).isLt (by omega) (k0_off31_eq i) _ _

/-- The bias of bucket 30. -/
theorem b30 : sl.r_38 (F := Ideal) c i a6 h6 hc0 x4 = bias i x4 30 :=
  scal h6 x4 (k0_off32 i) (i 0).val 30 (i 0).isLt (by omega) (k0_off32_eq i) _ _

/-- The bias of bucket 31. -/
theorem b31 : sl.r (F := Ideal) c i a6 h6 hc0 x4 = bias i x4 31 :=
  scal h6 x4 (k0_off1 i) (i 0).val 31 (i 0).isLt (by omega) (k0_off1_eq i) _ _

theorem m0 : ∀ l : Fin 256, ((BitVec.ofNat 32 l.val).slt 1#32 && (0#32).sle (BitVec.ofNat 32 l.val)) = decide (bkt l.val = 0) := by decide +kernel
theorem m1 : ∀ l : Fin 256, ((BitVec.ofNat 32 l.val).slt 2#32 && (1#32).sle (BitVec.ofNat 32 l.val)) = decide (bkt l.val = 1) := by decide +kernel
theorem m2 : ∀ l : Fin 256, ((BitVec.ofNat 32 l.val).slt 3#32 && (2#32).sle (BitVec.ofNat 32 l.val)) = decide (bkt l.val = 2) := by decide +kernel

/-- The row after bucket 2. -/
theorem r_4_row : Row (bias i x4) (sl.r_4 (F := Ideal) c i a6 h6 hc0 x4) 3 := (step 2 m2 (step 1 m1 (step 0 m0 (start _) b0 b31) b1 b31) b2 b31)

theorem m3 : ∀ l : Fin 256, ((BitVec.ofNat 32 l.val).slt 4#32 && (3#32).sle (BitVec.ofNat 32 l.val)) = decide (bkt l.val = 3) := by decide +kernel
theorem m4 : ∀ l : Fin 256, ((BitVec.ofNat 32 l.val).slt 5#32 && (4#32).sle (BitVec.ofNat 32 l.val)) = decide (bkt l.val = 4) := by decide +kernel
theorem m5 : ∀ l : Fin 256, ((BitVec.ofNat 32 l.val).slt 6#32 && (5#32).sle (BitVec.ofNat 32 l.val)) = decide (bkt l.val = 5) := by decide +kernel
theorem m6 : ∀ l : Fin 256, ((BitVec.ofNat 32 l.val).slt 7#32 && (6#32).sle (BitVec.ofNat 32 l.val)) = decide (bkt l.val = 6) := by decide +kernel

/-- The row after bucket 6. -/
theorem r_9_row : Row (bias i x4) (sl.r_9 (F := Ideal) c i a6 h6 hc0 x4) 7 := (step 6 m6 (step 5 m5 (step 4 m4 (step 3 m3 r_4_row b3 b31) b4 b31) b5 b31) b6 b31)

theorem m7 : ∀ l : Fin 256, ((BitVec.ofNat 32 l.val).slt 8#32 && (7#32).sle (BitVec.ofNat 32 l.val)) = decide (bkt l.val = 7) := by decide +kernel
theorem m8 : ∀ l : Fin 256, ((BitVec.ofNat 32 l.val).slt 9#32 && (8#32).sle (BitVec.ofNat 32 l.val)) = decide (bkt l.val = 8) := by decide +kernel
theorem m9 : ∀ l : Fin 256, ((BitVec.ofNat 32 l.val).slt 10#32 && (9#32).sle (BitVec.ofNat 32 l.val)) = decide (bkt l.val = 9) := by decide +kernel
theorem m10 : ∀ l : Fin 256, ((BitVec.ofNat 32 l.val).slt 11#32 && (10#32).sle (BitVec.ofNat 32 l.val)) = decide (bkt l.val = 10) := by decide +kernel

/-- The row after bucket 10. -/
theorem r_14_row : Row (bias i x4) (sl.r_14 (F := Ideal) c i a6 h6 hc0 x4) 11 := (step 10 m10 (step 9 m9 (step 8 m8 (step 7 m7 r_9_row b7 b31) b8 b31) b9 b31) b10 b31)

theorem m11 : ∀ l : Fin 256, ((BitVec.ofNat 32 l.val).slt 12#32 && (11#32).sle (BitVec.ofNat 32 l.val)) = decide (bkt l.val = 11) := by decide +kernel
theorem m12 : ∀ l : Fin 256, ((BitVec.ofNat 32 l.val).slt 13#32 && (12#32).sle (BitVec.ofNat 32 l.val)) = decide (bkt l.val = 12) := by decide +kernel
theorem m13 : ∀ l : Fin 256, ((BitVec.ofNat 32 l.val).slt 14#32 && (13#32).sle (BitVec.ofNat 32 l.val)) = decide (bkt l.val = 13) := by decide +kernel
theorem m14 : ∀ l : Fin 256, ((BitVec.ofNat 32 l.val).slt 15#32 && (14#32).sle (BitVec.ofNat 32 l.val)) = decide (bkt l.val = 14) := by decide +kernel

/-- The row after bucket 14. -/
theorem r_19_row : Row (bias i x4) (sl.r_19 (F := Ideal) c i a6 h6 hc0 x4) 15 := (step 14 m14 (step 13 m13 (step 12 m12 (step 11 m11 r_14_row b11 b31) b12 b31) b13 b31) b14 b31)

theorem m15 : ∀ l : Fin 256, ((BitVec.ofNat 32 l.val).slt 16#32 && (15#32).sle (BitVec.ofNat 32 l.val)) = decide (bkt l.val = 15) := by decide +kernel
theorem m16 : ∀ l : Fin 256, ((BitVec.ofNat 32 l.val).slt 19#32 && (16#32).sle (BitVec.ofNat 32 l.val)) = decide (bkt l.val = 16) := by decide +kernel
theorem m17 : ∀ l : Fin 256, ((BitVec.ofNat 32 l.val).slt 21#32 && (19#32).sle (BitVec.ofNat 32 l.val)) = decide (bkt l.val = 17) := by decide +kernel
theorem m18 : ∀ l : Fin 256, ((BitVec.ofNat 32 l.val).slt 24#32 && (21#32).sle (BitVec.ofNat 32 l.val)) = decide (bkt l.val = 18) := by decide +kernel

/-- The row after bucket 18. -/
theorem r_24_row : Row (bias i x4) (sl.r_24 (F := Ideal) c i a6 h6 hc0 x4) 19 := (step 18 m18 (step 17 m17 (step 16 m16 (step 15 m15 r_19_row b15 b31) b16 b31) b17 b31) b18 b31)

theorem m19 : ∀ l : Fin 256, ((BitVec.ofNat 32 l.val).slt 27#32 && (24#32).sle (BitVec.ofNat 32 l.val)) = decide (bkt l.val = 19) := by decide +kernel
theorem m20 : ∀ l : Fin 256, ((BitVec.ofNat 32 l.val).slt 31#32 && (27#32).sle (BitVec.ofNat 32 l.val)) = decide (bkt l.val = 20) := by decide +kernel
theorem m21 : ∀ l : Fin 256, ((BitVec.ofNat 32 l.val).slt 35#32 && (31#32).sle (BitVec.ofNat 32 l.val)) = decide (bkt l.val = 21) := by decide +kernel
theorem m22 : ∀ l : Fin 256, ((BitVec.ofNat 32 l.val).slt 40#32 && (35#32).sle (BitVec.ofNat 32 l.val)) = decide (bkt l.val = 22) := by decide +kernel

/-- The row after bucket 22. -/
theorem r_29_row : Row (bias i x4) (sl.r_29 (F := Ideal) c i a6 h6 hc0 x4) 23 := (step 22 m22 (step 21 m21 (step 20 m20 (step 19 m19 r_24_row b19 b31) b20 b31) b21 b31) b22 b31)

theorem m23 : ∀ l : Fin 256, ((BitVec.ofNat 32 l.val).slt 46#32 && (40#32).sle (BitVec.ofNat 32 l.val)) = decide (bkt l.val = 23) := by decide +kernel
theorem m24 : ∀ l : Fin 256, ((BitVec.ofNat 32 l.val).slt 52#32 && (46#32).sle (BitVec.ofNat 32 l.val)) = decide (bkt l.val = 24) := by decide +kernel
theorem m25 : ∀ l : Fin 256, ((BitVec.ofNat 32 l.val).slt 59#32 && (52#32).sle (BitVec.ofNat 32 l.val)) = decide (bkt l.val = 25) := by decide +kernel
theorem m26 : ∀ l : Fin 256, ((BitVec.ofNat 32 l.val).slt 67#32 && (59#32).sle (BitVec.ofNat 32 l.val)) = decide (bkt l.val = 26) := by decide +kernel

/-- The row after bucket 26. -/
theorem r_34_row : Row (bias i x4) (sl.r_34 (F := Ideal) c i a6 h6 hc0 x4) 27 := (step 26 m26 (step 25 m25 (step 24 m24 (step 23 m23 r_29_row b23 b31) b24 b31) b25 b31) b26 b31)

theorem m27 : ∀ l : Fin 256, ((BitVec.ofNat 32 l.val).slt 77#32 && (67#32).sle (BitVec.ofNat 32 l.val)) = decide (bkt l.val = 27) := by decide +kernel
theorem m28 : ∀ l : Fin 256, ((BitVec.ofNat 32 l.val).slt 87#32 && (77#32).sle (BitVec.ofNat 32 l.val)) = decide (bkt l.val = 28) := by decide +kernel
theorem m29 : ∀ l : Fin 256, ((BitVec.ofNat 32 l.val).slt 99#32 && (87#32).sle (BitVec.ofNat 32 l.val)) = decide (bkt l.val = 29) := by decide +kernel
theorem m30 : ∀ l : Fin 256, ((BitVec.ofNat 32 l.val).slt 113#32 && (99#32).sle (BitVec.ofNat 32 l.val)) = decide (bkt l.val = 30) := by decide +kernel

/-- The bias tile of a head. -/
theorem toep (f : ℝ) (hb : bias i x4 31 = f) :
    Sub (k0_pay28 (sl.r_39 (F := Ideal) c i a6 h6 hc0 x4) k0_pay17 sl.cst_452)
      (fun a l => if a ≤ l then (bias i x4 (bkt (l - a)) - bias i x4 31) * (lg : EReal) else ⊥) 0 0 :=
  tile f hb (step 30 m30 (step 29 m29 (step 28 m28 (step 27 m27 r_34_row b27 b31) b28 b31) b29 b31) b30 b31) slices_S8x256_o0_0_S1x256 shapeCasts_S1x256_S1x256 broadcasts_S1x256_S128x256 rotates_S128x256_d1s1a0

end

end Cert.KernelIdeal.Gen.Toep
-- ==== Proof.Outs.lean ====
/-
  The three gradient arrays the kernel leaves, read at an index: the matrices of `Model` for the index's batch and head.
-/
module

public import proofs.«01_k».proof.Proof.Entry
public import proofs.«01_k».proof.Proof.Args
public import proofs.«01_k».proof.Proof.Blocks
public import proofs.«01_k».proof.Proof.Toep
public import proofs.«01_k».proof.Proof.Gen.KernelIdeal.Value

@[expose] public section

set_option maxRecDepth 16384

noncomputable section

namespace Cert.KernelIdeal.Gen
open Idealize.ShloMosaic Idealize.ShloMosaic.TcCoe Idealize.ShloMosaic.ValueIdx Idealize.SL.Sem Cert.KernelIdeal Cert.KernelIdeal.Tiles

section
variable {c : Dev nD} {i : grid0.Coords}
  {a2 : Memref sig .tc .smem S2x20 .f32} {h2 : a2.IsWhole}
  {a3 : Memref sig .tc .smem S2x20 .f32} {h3 : a3.IsWhole}
  {a4 : Memref sig .tc .smem S2x20 .f32} {h4 : a4.IsWhole}
  {a5 : Memref sig .tc .smem S2x20 .f32} {h5 : a5.IsWhole}
  {a6 : Memref sig .tc .smem S20x32 .f32} {h6 : a6.IsWhole}
  {a7 : Memref sig .tc .vmem S1x1x896x128 .fp8e4m3} {h7 : a7.IsWhole}
  {a8 : Memref sig .tc .vmem S1x1x896x128 .fp8e4m3} {h8 : a8.IsWhole}
  {a9 : Memref sig .tc .vmem S1x1x896x128 .fp8e4m3} {h9 : a9.IsWhole}
  {a10 : Memref sig .tc .vmem S1x1x896x128 .fp8e5m2} {h10 : a10.IsWhole}
  {a15 : Memref sig .tc .vmem S128x256 .f32} {h15 : a15.IsWhole}
  {hc0 : cond0_0 i} {x0 x1 x2 x3 : Vec Ideal S2x20 .f32} {x4 : Vec Ideal S20x32 .f32}
  {x5 x6 x7 : Vec Ideal S1x1x896x128 .fp8e4m3} {x8 : Vec Ideal S1x1x896x128 .fp8e5m2} {s0 : Vec Ideal S128x256 .f32} {C : Ctx}

/-- A first point's inputs, from its blocks. -/
theorem insA (hQ : Sub4 x5 C.Q 0 0) (hK : Sub4 x6 C.K 0 0) (hV : Sub4 x7 C.V 0 0) (hO : Sub4 x8 C.DO 0 0)
    (hq : x0 (ix2 (i 1) (i 0)) = C.qs) (hk : x1 (ix2 (i 1) (i 0)) = C.ks) (hv : x2 (ix2 (i 1) (i 0)) = C.vs) (ho : x3 (ix2 (i 1) (i 0)) = C.os)
    (f : ℝ) (hf : Toep.bias i x4 31 = f)
    (hT : C.T = fun a l => if a ≤ l then (Toep.bias i x4 (bkt (l - a)) - Toep.bias i x4 31) * (lg : EReal) else ⊥) :
    CaseA.Ins c i a2 h2 a3 h3 a4 h4 a5 h5 a6 h6 a7 h7 a8 h8 a9 h9 a10 h10 a15 hc0 x0 x1 x2 x3 x4 x5 x6 x7 x8 C where
  bQ := ofBlock (loadBlock (e := .fp8e4m3) (fun x => x) a7 h7 hQ _) _
  bK := ofBlock (loadBlock (e := .fp8e4m3) (fun x => x) a8 h8 hK _) _
  bV := ofBlock (loadBlock (e := .fp8e4m3) (fun x => x) a9 h9 hV _) _
  bDO := ofBlock (loadBlock (e := .fp8e5m2) (fun x => x) a10 h10 hO _) _
  sq := (Toep.scal h2 x0 (k0_off33 i) (i 1).val (i 0).val (i 1).isLt (i 0).isLt (k0_off33_eq i) _ _).trans hq
  sk := (Toep.scal h3 x1 (k0_off33 i) (i 1).val (i 0).val (i 1).isLt (i 0).isLt (k0_off33_eq i) _ _).trans hk
  sv := (Toep.scal h4 x2 (k0_off33 i) (i 1).val (i 0).val (i 1).isLt (i 0).isLt (k0_off33_eq i) _ _).trans hv
  so := (Toep.scal h5 x3 (k0_off33 i) (i 1).val (i 0).val (i 1).isLt (i 0).isLt (k0_off33_eq i) _ _).trans ho
  hT := by rw [hT]; exact Toep.toep f hf

/-- A second point's inputs, from its blocks and the carried bias tile. -/
theorem insB (hQ : Sub4 x5 C.Q 0 0) (hK : Sub4 x6 C.K 0 0) (hV : Sub4 x7 C.V 0 0) (hO : Sub4 x8 C.DO 0 0)
    (hq : x0 (ix2 (i 1) (i 0)) = C.qs) (hk : x1 (ix2 (i 1) (i 0)) = C.ks) (hv : x2 (ix2 (i 1) (i 0)) = C.vs) (ho : x3 (ix2 (i 1) (i 0)) = C.os)
    (hT : Sub s0 C.T 0 0) :
    CaseB.Ins c i a2 h2 a3 h3 a4 h4 a5 h5 a7 h7 a8 h8 a9 h9 a10 h10 a15 h15 x0 x1 x2 x3 x5 x6 x7 x8 s0 C where
  bQ := ofBlock (loadBlock (e := .fp8e4m3) (fun x => x) a7 h7 hQ _) _
  bK := ofBlock (loadBlock (e := .fp8e4m3) (fun x => x) a8 h8 hK _) _
  bV := ofBlock (loadBlock (e := .fp8e4m3) (fun x => x) a9 h9 hV _) _
  bDO := ofBlock (loadBlock (e := .fp8e5m2) (fun x => x) a10 h10 hO _) _
  sq := (Toep.scal h2 x0 (k0_off33 i) (i 1).val (i 0).val (i 1).isLt (i 0).isLt (k0_off33_eq i) _ _).trans hq
  sk := (Toep.scal h3 x1 (k0_off33 i) (i 1).val (i 0).val (i 1).isLt (i 0).isLt (k0_off33_eq i) _ _).trans hk
  sv := (Toep.scal h4 x2 (k0_off33 i) (i 1).val (i 0).val (i 1).isLt (i 0).isLt (k0_off33_eq i) _ _).trans hv
  so := (Toep.scal h5 x3 (k0_off33 i) (i 1).val (i 0).val (i 1).isLt (i 0).isLt (k0_off33_eq i) _ _).trans ho
  hT := hT

end

variable (m : (ℓ : Loc nD τ sig) → Buf (Elt Ideal) ℓ)

/-- The data of batch `b`, head `h`, read off the arguments in memory. -/
def ctxM (c : Dev nD) (b : Fin 2) (h : Fin 20) : Ctx :=
  ctx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b h

/-- A place of a row-and-column pair below the extents. -/
theorem pos (a : Fin 896) (d : Fin 128) (b : Fin 2) (h : Fin 20) :
    (ix4 b a h d : S2x896x20x128.Idx) = ix4 b (Fin.ofNat 896 (0 + a.val)) h (Fin.ofNat 128 (0 + d.val)) := by
  have ea : Fin.ofNat 896 (0 + a.val) = a := Fin.ext (by show (0 + a.val) % 896 = a.val; rw [Nat.zero_add]; exact Nat.mod_eq_of_lt a.isLt)
  have ed : Fin.ofNat 128 (0 + d.val) = d := Fin.ext (by show (0 + d.val) % 128 = d.val; rw [Nat.zero_add]; exact Nat.mod_eq_of_lt d.isLt)
  rw [ea, ed]

section
variable (c : Dev nD) (t : Fin cfg0.N)

theorem blkQ : Sub4 (iblk m c 5 t) (ctxM m c (grid0.coords t 1) (grid0.coords t 0)).Q 0 0 := fun a d =>
  (Entry.e5 m c t (grid0.coords t 1) (grid0.coords t 0) (Entry.batch t) (Entry.head t) a d).trans (congrArg (m ((c : Thread nD τ).loc main_arg0)) (pos a d _ _))
theorem blkK : Sub4 (iblk m c 6 t) (ctxM m c (grid0.coords t 1) (grid0.coords t 0)).K 0 0 := fun a d =>
  (Entry.e6 m c t (grid0.coords t 1) (grid0.coords t 0) (Entry.batch t) (Entry.head t) a d).trans (congrArg (m ((c : Thread nD τ).loc main_arg1)) (pos a d _ _))
theorem blkV : Sub4 (iblk m c 7 t) (ctxM m c (grid0.coords t 1) (grid0.coords t 0)).V 0 0 := fun a d =>
  (Entry.e7 m c t (grid0.coords t 1) (grid0.coords t 0) (Entry.batch t) (Entry.head t) a d).trans (congrArg (m ((c : Thread nD τ).loc main_arg2)) (pos a d _ _))
theorem blkO : Sub4 (iblk m c 8 t) (ctxM m c (grid0.coords t 1) (grid0.coords t 0)).DO 0 0 := fun a d =>
  (Entry.e8 m c t (grid0.coords t 1) (grid0.coords t 0) (Entry.batch t) (Entry.head t) a d).trans (congrArg (m ((c : Thread nD τ).loc main_arg6)) (pos a d _ _))

/-- The inputs of a head's first point. -/
theorem pointA (f : ℝ) (hf : biasAt (m ((c : Thread nD τ).loc main_arg8)) (grid0.coords t 0) 31 = f) (h0 : cond0_0 (grid0.coords t)) :
    CaseA.Ins c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      scM0_0 h0 (iblk m c 0 t) (iblk m c 1 t) (iblk m c 2 t) (iblk m c 3 t) (iblk m c 4 t) (iblk m c 5 t) (iblk m c 6 t) (iblk m c 7 t) (iblk m c 8 t)
      (ctxM m c (grid0.coords t 1) (grid0.coords t 0)) :=
  insA (blkQ m c t) (blkK m c t) (blkV m c t) (blkO m c t) (congrFun (Entry.e0 m c t) _) (congrFun (Entry.e1 m c t) _) (congrFun (Entry.e2 m c t) _) (congrFun (Entry.e3 m c t) _)
    f ((congrFun (Entry.e4 m c t) _).trans hf) (by rw [Entry.e4]; rfl)

/-- The bias tile a head's first point leaves. -/
theorem carried (f : ℝ) (hf : biasAt (m ((c : Thread nD τ).loc main_arg8)) (grid0.coords t 0) 31 = f) (h : t.val % 2 = 0) :
    Sub (outsAt0 m c t.val t.isLt).2.2.2.2.1 (ctxM m c (grid0.coords t 1) (grid0.coords t 0)).T 0 0 := by
  have h2 : ¬t.val % 2 = 1 := by omega
  rw [outsAt0_A m c t h h h2 h2]
  exact CaseA.outT (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc1 := (hcond0_1 t).mpr h) (hc2 := fun e => h2 ((hcond0_2 t).mp e)) (hc3 := fun e => h2 ((hcond0_3 t).mp e)) (pointA m c t f hf ((hcond0_0 t).mpr h))

/-- The inputs of a head's second point. -/
theorem pointB (f : ℝ) (hf : biasAt (m ((c : Thread nD τ).loc main_arg8)) (grid0.coords t 0) 31 = f) (h : t.val % 2 = 1) :
    CaseB.Ins c (grid0.coords t) (ms0_0 t) (hs0_0 t) (ms0_1 t) (hs0_1 t) (ms0_2 t) (hs0_2 t) (ms0_3 t) (hs0_3 t) (ms0_5 t) (hs0_5 t) (ms0_6 t) (hs0_6 t) (ms0_7 t) (hs0_7 t) (ms0_8 t) (hs0_8 t)
      scM0_0 (Memref.isWhole_whole _) (iblk m c 0 t) (iblk m c 1 t) (iblk m c 2 t) (iblk m c 3 t) (iblk m c 5 t) (iblk m c 6 t) (iblk m c 7 t) (iblk m c 8 t)
      (outsAt0 m c (t.val - 1) (Nat.lt_of_le_of_lt (Nat.sub_le _ _) t.isLt)).2.2.2.2.1 (ctxM m c (grid0.coords t 1) (grid0.coords t 0)) := by
  have hlt : t.val - 1 < cfg0.N := Nat.lt_of_le_of_lt (Nat.sub_le _ _) t.isLt
  have eh : grid0.coords ⟨t.val - 1, hlt⟩ 0 = grid0.coords t 0 := Fin.ext (by
    rw [Entry.head t, Entry.head ⟨t.val - 1, hlt⟩]
    show (t.val - 1) / 2 = t.val / 2
    omega)
  have hT := carried m c ⟨t.val - 1, hlt⟩ f (by rw [eh]; exact hf) (by show (t.val - 1) % 2 = 0; omega)
  refine insB (blkQ m c t) (blkK m c t) (blkV m c t) (blkO m c t) (congrFun (Entry.e0 m c t) _) (congrFun (Entry.e1 m c t) _) (congrFun (Entry.e2 m c t) _) (congrFun (Entry.e3 m c t) _) ?_
  rw [eh] at hT
  exact hT

/-- The queries' gradient a point leaves. -/
theorem point9 (f : ℝ) (hf : biasAt (m ((c : Thread nD τ).loc main_arg8)) (grid0.coords t 0) 31 = f) :
    Sub4 (outsAt0 m c t.val t.isLt).1 (ctxM m c (grid0.coords t 1) (grid0.coords t 0)).DQ 0 0 := by
  by_cases h : t.val % 2 = 0
  · have h2 : ¬t.val % 2 = 1 := by omega
    rw [outsAt0_A m c t h h h2 h2]
    dsimp only
    exact CaseA.out9 (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc1 := (hcond0_1 t).mpr h) (hc2 := fun e => h2 ((hcond0_2 t).mp e)) (hc3 := fun e => h2 ((hcond0_3 t).mp e)) (pointA m c t f hf ((hcond0_0 t).mpr h))
  · have h2 : t.val % 2 = 1 := by omega
    rw [outsAt0_B m c t h h h2 h2]
    dsimp only
    exact CaseB.out9 (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := fun e => h ((hcond0_0 t).mp e)) (hc1 := fun e => h ((hcond0_1 t).mp e)) (hc2 := (hcond0_2 t).mpr h2) (hc3 := (hcond0_3 t).mpr h2) (s3 := (outsAt0 m c (t.val - 1) (Nat.lt_of_le_of_lt (Nat.sub_le _ _) t.isLt)).2.2.2.2.2) (pointB m c t f hf h2)

/-- The keys' gradient a point leaves. -/
theorem point10 (f : ℝ) (hf : biasAt (m ((c : Thread nD τ).loc main_arg8)) (grid0.coords t 0) 31 = f) :
    Sub4 (outsAt0 m c t.val t.isLt).2.1 (ctxM m c (grid0.coords t 1) (grid0.coords t 0)).DK 0 0 := by
  by_cases h : t.val % 2 = 0
  · have h2 : ¬t.val % 2 = 1 := by omega
    rw [outsAt0_A m c t h h h2 h2]
    dsimp only
    exact CaseA.out10 (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc1 := (hcond0_1 t).mpr h) (hc2 := fun e => h2 ((hcond0_2 t).mp e)) (hc3 := fun e => h2 ((hcond0_3 t).mp e)) (pointA m c t f hf ((hcond0_0 t).mpr h))
  · have h2 : t.val % 2 = 1 := by omega
    rw [outsAt0_B m c t h h h2 h2]
    dsimp only
    exact CaseB.out10 (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := fun e => h ((hcond0_0 t).mp e)) (hc1 := fun e => h ((hcond0_1 t).mp e)) (hc2 := (hcond0_2 t).mpr h2) (hc3 := (hcond0_3 t).mpr h2) (s3 := (outsAt0 m c (t.val - 1) (Nat.lt_of_le_of_lt (Nat.sub_le _ _) t.isLt)).2.2.2.2.2) (pointB m c t f hf h2)

/-- The values' gradient a point leaves. -/
theorem point11 (f : ℝ) (hf : biasAt (m ((c : Thread nD τ).loc main_arg8)) (grid0.coords t 0) 31 = f) :
    Sub4 (outsAt0 m c t.val t.isLt).2.2.1 (ctxM m c (grid0.coords t 1) (grid0.coords t 0)).DV 0 0 := by
  by_cases h : t.val % 2 = 0
  · have h2 : ¬t.val % 2 = 1 := by omega
    rw [outsAt0_A m c t h h h2 h2]
    dsimp only
    exact CaseA.out11 (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc1 := (hcond0_1 t).mpr h) (hc2 := fun e => h2 ((hcond0_2 t).mp e)) (hc3 := fun e => h2 ((hcond0_3 t).mp e)) (pointA m c t f hf ((hcond0_0 t).mpr h))
  · have h2 : t.val % 2 = 1 := by omega
    rw [outsAt0_B m c t h h h2 h2]
    dsimp only
    exact CaseB.out11 (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := fun e => h ((hcond0_0 t).mp e)) (hc1 := fun e => h ((hcond0_1 t).mp e)) (hc2 := (hcond0_2 t).mpr h2) (hc3 := (hcond0_3 t).mpr h2) (s3 := (outsAt0 m c (t.val - 1) (Nat.lt_of_le_of_lt (Nat.sub_le _ _) t.isLt)).2.2.2.2.2) (pointB m c t f hf h2)

end

/-- The point of a batch and head. -/
def pt (b : Fin 2) (h : Fin 20) : Fin cfg0.N := ⟨b.val + 2 * h.val, by rw [show cfg0.N = 40 from N_0]; omega⟩

theorem pt_head (b : Fin 2) (h : Fin 20) : grid0.coords (pt b h) 0 = h := Fin.ext (by
  rw [Entry.head]; show (b.val + 2 * h.val) / 2 = h.val; omega)
theorem pt_batch (b : Fin 2) (h : Fin 20) : grid0.coords (pt b h) 1 = b := Fin.ext (by
  rw [Entry.batch]; show (b.val + 2 * h.val) % 2 = b.val; omega)

/-- The array of the queries' gradient. -/
theorem array9 (c : Dev nD) (b : Fin 2) (h : Fin 20) (a : Fin 896) (d : Fin 128) (f : ℝ)
    (hf : biasAt (m ((c : Thread nD τ).loc main_arg8)) h 31 = f) :
    Value.G9 m c (ix4 b h a d : S2x20x896x128.Idx) = (ctxM m c b h).DQ a.val d.val := by
  have hp : Value.pt9Of (ix4 b h a d : S2x20x896x128.Idx) = (pt b h).val := by
    show 1 * (b.val / 1 - 0) + 2 * (h.val / 1 - 0) + 40 * (a.val / 896 - 0) + 40 * (d.val / 128 - 0) = b.val + 2 * h.val
    have := a.isLt
    have := d.isLt
    omega
  have hl : Value.loc9Of (ix4 b h a d : S2x20x896x128.Idx) = ix4 0 0 a d := funext fun e => Fin.ext (by
    match e with
    | ⟨0, _⟩ => exact Nat.mod_one _
    | ⟨1, _⟩ => exact Nat.mod_one _
    | ⟨2, _⟩ => exact Nat.mod_eq_of_lt a.isLt
    | ⟨3, _⟩ => exact Nat.mod_eq_of_lt d.isLt)
  have key := point9 m c (pt b h) f (by rw [pt_head]; exact hf) a d
  rw [pt_head, pt_batch, Nat.zero_add, Nat.zero_add, Value.outsAt0_sweep] at key
  unfold Value.G9
  rw [dif_pos (by rw [hp]; exact (pt b h).isLt), hl, Value.fold0_congr m c _ _ (pt b h).val (by rw [Nat.zero_add]; exact (pt b h).isLt) hp]
  exact key

/-- The array of the keys' gradient. -/
theorem array10 (c : Dev nD) (b : Fin 2) (h : Fin 20) (a : Fin 896) (d : Fin 128) (f : ℝ)
    (hf : biasAt (m ((c : Thread nD τ).loc main_arg8)) h 31 = f) :
    Value.G10 m c (ix4 b h a d : S2x20x896x128.Idx) = (ctxM m c b h).DK a.val d.val := by
  have hp : Value.pt10Of (ix4 b h a d : S2x20x896x128.Idx) = (pt b h).val := by
    show 1 * (b.val / 1 - 0) + 2 * (h.val / 1 - 0) + 40 * (a.val / 896 - 0) + 40 * (d.val / 128 - 0) = b.val + 2 * h.val
    have := a.isLt
    have := d.isLt
    omega
  have hl : Value.loc10Of (ix4 b h a d : S2x20x896x128.Idx) = ix4 0 0 a d := funext fun e => Fin.ext (by
    match e with
    | ⟨0, _⟩ => exact Nat.mod_one _
    | ⟨1, _⟩ => exact Nat.mod_one _
    | ⟨2, _⟩ => exact Nat.mod_eq_of_lt a.isLt
    | ⟨3, _⟩ => exact Nat.mod_eq_of_lt d.isLt)
  have key := point10 m c (pt b h) f (by rw [pt_head]; exact hf) a d
  rw [pt_head, pt_batch, Nat.zero_add, Nat.zero_add, Value.outsAt0_sweep] at key
  unfold Value.G10
  rw [dif_pos (by rw [hp]; exact (pt b h).isLt), hl, Value.fold0_congr m c _ _ (pt b h).val (by rw [Nat.zero_add]; exact (pt b h).isLt) hp]
  exact key

/-- The array of the values' gradient. -/
theorem array11 (c : Dev nD) (b : Fin 2) (h : Fin 20) (a : Fin 896) (d : Fin 128) (f : ℝ)
    (hf : biasAt (m ((c : Thread nD τ).loc main_arg8)) h 31 = f) :
    Value.G11 m c (ix4 b h a d : S2x20x896x128.Idx) = (ctxM m c b h).DV a.val d.val := by
  have hp : Value.pt11Of (ix4 b h a d : S2x20x896x128.Idx) = (pt b h).val := by
    show 1 * (b.val / 1 - 0) + 2 * (h.val / 1 - 0) + 40 * (a.val / 896 - 0) + 40 * (d.val / 128 - 0) = b.val + 2 * h.val
    have := a.isLt
    have := d.isLt
    omega
  have hl : Value.loc11Of (ix4 b h a d : S2x20x896x128.Idx) = ix4 0 0 a d := funext fun e => Fin.ext (by
    match e with
    | ⟨0, _⟩ => exact Nat.mod_one _
    | ⟨1, _⟩ => exact Nat.mod_one _
    | ⟨2, _⟩ => exact Nat.mod_eq_of_lt a.isLt
    | ⟨3, _⟩ => exact Nat.mod_eq_of_lt d.isLt)
  have key := point11 m c (pt b h) f (by rw [pt_head]; exact hf) a d
  rw [pt_head, pt_batch, Nat.zero_add, Nat.zero_add, Value.outsAt0_sweep] at key
  unfold Value.G11
  rw [dif_pos (by rw [hp]; exact (pt b h).isLt), hl, Value.fold0_congr m c _ _ (pt b h).val (by rw [Nat.zero_add]; exact (pt b h).isLt) hp]
  exact key

end Cert.KernelIdeal.Gen
-- ==== Proof.Bias.lean ====
/-
  The operations of the bias gradient, as tiles: the sums of the scores' gradients along the diagonals, the rotations that
  line the diagonals up in columns, and the sums over the distances of a bucket.
-/
module

public import proofs.«01_k».proof.Proof.Model
import Idealize.ShloMosaic.Lib.KernelVsHost
import Idealize.ShloMosaic.Lib.Pointwise.SelectCore
public import proofs.«01_k».proof.Proof.Gen.KernelIdeal.Skeleton

@[expose] public section

set_option maxRecDepth 16384

noncomputable section

namespace Cert.KernelIdeal.Tiles

open Idealize.ShloMosaic hiding ix1 ix2 ix3 ix4
open Idealize.ShloMosaic.ValueIdx
open scoped BigOperators

section
variable {m n r c : ℕ} {G H : ℕ → ℕ → EReal}

/-- A tile, its matrix counted from the tile's corner. -/
theorem Sub.corner {X : (⟨2, ![m, n]⟩ : Shape).Idx → EReal} (hX : Sub X G r c) : Sub X (fun a b => G (r + a) (c + b)) 0 0 := by
  intro a b
  rw [hX a b, Nat.zero_add, Nat.zero_add]

/-- A rotation of 256 columns by `256 - k` reads `k` columns on, around the end. -/
theorem roll {X : (⟨2, ![m, 256]⟩ : Shape).Idx → EReal} (hX : Sub X G 0 0) (k : ℕ) (w : BitVec 32) (hw : w.toNat + k = 256)
    (hk : 0 < k) (h : (⟨2, ![m, 256]⟩ : Shape).Rotates 1 none) :
    Sub (dynamicRotate 1 w none X h) (fun s x => G s ((x + k) % 256)) 0 0 := by
  intro a b
  have hb := b.isLt
  rw [dynamicRotate_apply 1 w X h (ix2 a b) (ix2 a ⟨(b.val + k) % 256, by omega⟩), hX]
  · simp only [Nat.zero_add]
  · intro d
    match d with
    | ⟨0, _⟩ => rfl
    | ⟨1, _⟩ =>
      refine Eq.trans ?_ (if_pos rfl).symm
      show (b.val + k) % 256 = (b.val + 256 - w.toNat % 256) % 256
      omega

/-- Two tiles side by side. -/
theorem beside {X Y : (⟨2, ![128, 128]⟩ : Shape).Idx → EReal} (hX : Sub X G 0 0) (hY : Sub Y H 0 0)
    (h : Shape.Concatenates [(⟨2, ![128, 128]⟩ : Shape), ⟨2, ![128, 128]⟩] ⟨2, ![128, 256]⟩ 1) :
    Sub (concatenate ⟨2, ![128, 256]⟩ 1 [⟨⟨2, ![128, 128]⟩, X⟩, ⟨⟨2, ![128, 128]⟩, Y⟩] h)
      (fun a l => if l < 128 then G a l else H a (l - 128)) 0 0 := by
  intro a b
  have hb := b.isLt
  rw [concatenate_pair_apply]
  by_cases hl : b.val < 128
  · refine (dif_pos hl).trans ?_
    have := hX a ⟨b.val, hl⟩
    simp only [Nat.zero_add] at this ⊢
    rw [if_pos hl, ← this]
    refine congrArg X (funext fun d => Fin.ext ?_)
    match d with
    | ⟨0, _⟩ => rfl
    | ⟨1, _⟩ => rfl
  · refine (dif_neg hl).trans ?_
    have := hY a ⟨b.val - 128, by omega⟩
    simp only [Nat.zero_add] at this ⊢
    rw [if_neg hl, ← this]
    refine congrArg Y (funext fun d => Fin.ext ?_)
    match d with
    | ⟨0, _⟩ => rfl
    | ⟨1, _⟩ => rfl

/-- The sum of `n` tiles down a diagonal, `o` tiles to the right of the main one. -/
def Diag (D : ℕ → ℕ → EReal) (o n a l : ℕ) : EReal := ∑ r ∈ Finset.range n, D (128 * r + a) (128 * (r + o) + l)

/-- No tile yet. -/
theorem diag0 (D : ℕ → ℕ → EReal) (o : ℕ) {X : (⟨2, ![m, n]⟩ : Shape).Idx → EReal} (hX : Sub X (fun _ _ => 0) 0 0) :
    Sub X (Diag D o 0) 0 0 := hX.congr fun _ _ _ _ => (Finset.sum_range_zero _).symm

/-- One more tile. -/
theorem diagS {D : ℕ → ℕ → EReal} {X Y : (⟨2, ![m, n]⟩ : Shape).Idx → EReal} (o t r c : ℕ) (hX : Sub X (Diag D o t) 0 0)
    (hY : Sub Y D r c) (hr : r = 128 * t) (hc : c = 128 * (t + o)) :
    Sub (addf (F := Ideal) (φ := .f32) X Y) (Diag D o (t + 1)) 0 0 := by
  subst hr hc
  exact (add hX hY.corner).congr fun a b _ _ => by
    simp only [Nat.zero_add]
    exact (Finset.sum_range_succ _ _).symm

/-- The two diagonals side by side. -/
def Dcat (D : ℕ → ℕ → EReal) (a l : ℕ) : EReal := if l < 128 then Diag D 0 7 a l else Diag D 1 6 a (l - 128)

/-- The first `j` strips of eight rows, each rotated by its first row. -/
def Gs (A : ℕ → ℕ → EReal) (j s x : ℕ) : EReal := ∑ i ∈ Finset.range j, A (8 * i + s) ((x + 8 * i) % 256)

/-- The first strip. -/
theorem strip0 {A : ℕ → ℕ → EReal} {V : (⟨2, ![128, 256]⟩ : Shape).Idx → EReal} (hV : Sub V A 0 0)
    (h : (⟨2, ![128, 256]⟩ : Shape).Slices ![0, 0] ⟨2, ![8, 256]⟩) :
    Sub (extractStridedSlice ⟨2, ![8, 256]⟩ ![0, 0] V h) (Gs A 1) 0 0 := by
  refine (slice hV 0 0 h).congr fun a b _ hb => ?_
  show _ = ∑ i ∈ Finset.range 1, _
  rw [Finset.sum_range_one]
  simp only [Nat.zero_add, Nat.mul_zero, Nat.add_zero, Nat.mod_eq_of_lt hb]

/-- One more strip. -/
theorem stripS {A : ℕ → ℕ → EReal} {X : (⟨2, ![8, 256]⟩ : Shape).Idx → EReal} {V : (⟨2, ![128, 256]⟩ : Shape).Idx → EReal} (j q : ℕ)
    (w : BitVec 32) (hX : Sub X (Gs A j) 0 0) (hV : Sub V A 0 0) (hq : q = 8 * j) (hw : w.toNat + q = 256) (hj : 0 < q)
    (h : (⟨2, ![128, 256]⟩ : Shape).Slices ![q, 0] ⟨2, ![8, 256]⟩) (h' : (⟨2, ![8, 256]⟩ : Shape).Rotates 1 none) :
    Sub (addf (F := Ideal) (φ := .f32) X (dynamicRotate 1 w none (extractStridedSlice ⟨2, ![8, 256]⟩ ![q, 0] V h) h'))
      (Gs A (j + 1)) 0 0 := by
  refine (add hX (roll (slice hV q 0 h).corner q w hw hj h')).congr fun a b _ _ => ?_
  subst hq
  unfold Gs
  rw [Finset.sum_range_succ]
  simp only [Nat.zero_add, Nat.add_zero]

/-- The diagonals of a grid point in columns, one row for each residue modulo eight, scaled. -/
def SK (C : Ctx) (s x : ℕ) : EReal := Gs (Dcat C.DS) 16 s x * C.dps

/-- The first eleven strips after the first, then the last four, scaled. -/
theorem skTile {C : Ctx} {x : EReal} (hx : x = C.dps) {V : (⟨2, ![128, 256]⟩ : Shape).Idx → EReal} (hV : Sub V (Dcat C.DS) 0 0)
    {X : (⟨2, ![8, 256]⟩ : Shape).Idx → EReal} (hX : Sub X (Gs (Dcat C.DS) 12) 0 0) :
    Sub (Gen.k0_pay309 (F := Ideal) x V X (extractStridedSlice S8x256 ![96, 0] V Gen.slices_S128x256_o96_0_S8x256)) (SK C) 0 0 :=
  mul (stripS 15 120 136#32 (stripS 14 112 144#32 (stripS 13 104 152#32 (stripS 12 96 160#32 hX
    hV rfl rfl (by decide) _ _) hV rfl rfl (by decide) _ _) hV rfl rfl (by decide) _ _) hV rfl rfl (by decide) _ _) (splatV hx _ _)

/-- The rotation of the rows with a bit set. -/
theorem bitRoll {X : (⟨2, ![8, 256]⟩ : Shape).Idx → EReal} (hX : Sub X G 0 0) (k : ℕ) (w : BitVec 32) (hw : w.toNat + k = 256)
    (hk : 0 < k) (h : (⟨2, ![8, 256]⟩ : Shape).Rotates 1 none) {M : (⟨2, ![8, 256]⟩ : Shape).Idx → BitVec 1}
    (hM : ∀ (a : Fin 8) (b : Fin 256), M (ix2 a b) = if a.val &&& k = k then 1#1 else 0#1) :
    Sub (select M (dynamicRotate 1 w none X h) X) (fun s x => G s ((x + if s &&& k = k then k else 0) % 256)) 0 0 := by
  intro a b
  show Scalar.select (M (ix2 a b)) (dynamicRotate 1 w none X h (ix2 a b)) (X (ix2 a b)) = _
  rw [hM, roll hX k w hw hk h a b, hX a b]
  simp only [Nat.zero_add]
  by_cases e : a.val &&& k = k
  · rw [if_pos e, if_pos e]; rfl
  · rw [if_neg e, if_neg e, Nat.add_zero, Nat.mod_eq_of_lt b.isLt]; rfl

/-- A sum over the rows. -/
theorem rowsSum {X : (⟨2, ![m, n]⟩ : Shape).Idx → EReal} (hX : Sub X G 0 c) (h : (⟨2, ![m, n]⟩ : Shape).Reduces [0] ⟨1, ![n]⟩)
    (hφ : FKind.Formats .f32) (hacc : (0x00000000#32 : BitVec 32) = FKind.add.neutral .f32 hφ) :
    Sub1 (multiReduction (F := Ideal) (φ := .f32) .add [0] ⟨1, ![n]⟩ X 0x00000000#32 h hφ hacc)
      (fun x => ∑ s ∈ Finset.range m, G s x) c := by
  intro b
  rw [Ideal.multiReduction_add_single]
  refine Eq.trans ?_ (Fin.sum_univ_eq_sum_range (fun s => G s (c + b)) m)
  refine Finset.sum_congr rfl fun (i : Fin m) _ => ?_
  have e : h.lift (ix1 b) i = ix2 i b := by
    funext d; apply Fin.ext
    match d with
    | ⟨0, _⟩ => rfl
    | ⟨1, _⟩ => rfl
  rw [e, hX, Nat.zero_add]

/-- A sum over the columns. -/
theorem colsSum {X : (⟨2, ![m, n]⟩ : Shape).Idx → EReal} (h : (⟨2, ![m, n]⟩ : Shape).Reduces [1] ⟨1, ![m]⟩)
    (hφ : FKind.Formats .f32) (hacc : (0x00000000#32 : BitVec 32) = FKind.add.neutral .f32 hφ) (a : Fin m) :
    multiReduction (F := Ideal) (φ := .f32) .add [1] ⟨1, ![m]⟩ X 0x00000000#32 h hφ hacc (ix1 a) = ∑ b : Fin n, X (ix2 a b) := by
  rw [Ideal.multiReduction_add_single]
  refine Finset.sum_congr rfl fun (i : Fin n) _ => congrArg X ?_
  funext d; apply Fin.ext
  match d with
  | ⟨0, _⟩ => rfl
  | ⟨1, _⟩ => rfl

end

end Cert.KernelIdeal.Tiles
-- ==== Proof.CaseA3.lean ====
/-
  The kernel's values at a grid point of even batch, operation by operation, as tiles of the matrices of `Model`.
-/
module

public import proofs.«01_k».proof.Proof.CaseA2
public import proofs.«01_k».proof.Proof.Bias

@[expose] public section

set_option maxRecDepth 16384

noncomputable section

namespace Cert.KernelIdeal.Gen.CaseA

open Idealize.ShloMosaic Idealize.ShloMosaic.ValueIdx Idealize.SL.Sem Cert.KernelIdeal.Tiles
open Cert.KernelIdeal.Gen.kernelRun0_A

variable {c : Dev nD} {i : grid0.Coords} {a2 : Memref sig .tc .smem S2x20 .f32} {h2 : a2.IsWhole}
  {a3 : Memref sig .tc .smem S2x20 .f32} {h3 : a3.IsWhole} {a4 : Memref sig .tc .smem S2x20 .f32} {h4 : a4.IsWhole}
  {a5 : Memref sig .tc .smem S2x20 .f32} {h5 : a5.IsWhole} {a6 : Memref sig .tc .smem S20x32 .f32} {h6 : a6.IsWhole}
  {a7 : Memref sig .tc .vmem S1x1x896x128 .fp8e4m3} {h7 : a7.IsWhole} {a8 : Memref sig .tc .vmem S1x1x896x128 .fp8e4m3} {h8 : a8.IsWhole}
  {a9 : Memref sig .tc .vmem S1x1x896x128 .fp8e4m3} {h9 : a9.IsWhole} {a10 : Memref sig .tc .vmem S1x1x896x128 .fp8e5m2} {h10 : a10.IsWhole}
  {a15 : Memref sig .tc .vmem S128x256 .f32} {hc0 : cond0_0 i} {x0 : Vec Ideal S2x20 .f32} {x1 : Vec Ideal S2x20 .f32}
  {x2 : Vec Ideal S2x20 .f32} {x3 : Vec Ideal S2x20 .f32} {x4 : Vec Ideal S20x32 .f32} {x5 : Vec Ideal S1x1x896x128 .fp8e4m3}
  {x6 : Vec Ideal S1x1x896x128 .fp8e4m3} {x7 : Vec Ideal S1x1x896x128 .fp8e4m3} {x8 : Vec Ideal S1x1x896x128 .fp8e5m2} {C : Ctx}
  {a16 a17 : Memref sig .tc .vmem S896x896 .bf16}

variable (H : Ins c i a2 h2 a3 h3 a4 h4 a5 h5 a6 h6 a7 h7 a8 h8 a9 h9 a10 h10 a15 hc0 x0 x1 x2 x3 x4 x5 x6 x7 x8 C)
include H

/-- The diagonal blocks' gradients, added up. -/
theorem t1033 : Sub (sl.v1033 (F := Ideal) c i a2 h2 a3 h3 a6 h6 a7 h7 a8 h8 a9 h9 a10 h10 a15 hc0 x0 x1 x4 x5 x6 x7 x8) (Diag C.DS 0 7) 0 0 :=
  diagS 0 6 768 768 (diagS 0 5 640 640 (diagS 0 4 512 512 (diagS 0 3 384 384 (diagS 0 2 256 256 (diagS 0 1 128 128 (diagS 0 0 0 0 (diag0 C.DS 0 (fun _ _ => Ideal.ofBits_zero_f32)) (t65 H) rfl rfl) (t158 H) rfl rfl) (t268 H) rfl rfl) (t421 H) rfl rfl) (t591 H) rfl rfl) (t802 H) rfl rfl) (t1032 H) rfl rfl

/-- The blocks' gradients next to the diagonal, added up. -/
theorem t1019 : Sub (sl.v1019 (F := Ideal) c i a2 h2 a3 h3 a6 h6 a7 h7 a8 h8 a9 h9 a10 h10 a15 hc0 x0 x1 x4 x5 x6 x7 x8) (Diag C.DS 1 6) 0 0 :=
  diagS 1 5 640 768 (diagS 1 4 512 640 (diagS 1 3 384 512 (diagS 1 2 256 384 (diagS 1 1 128 256 (diagS 1 0 0 128 (diag0 C.DS 1 (fun _ _ => Ideal.ofBits_zero_f32)) (t144 H) rfl rfl) (t254 H) rfl rfl) (t407 H) rfl rfl) (t577 H) rfl rfl) (t788 H) rfl rfl) (t1018 H) rfl rfl

/-- Both side by side. -/
theorem t1166 : Sub (sl.v1166 (F := Ideal) c i a2 h2 a3 h3 a6 h6 a7 h7 a8 h8 a9 h9 a10 h10 a15 hc0 x0 x1 x4 x5 x6 x7 x8) (Dcat C.DS) 0 0 :=
  beside (t1033 H) (t1019 H) _

/-- The first twelve strips. -/
theorem t1200 : Sub (sl.v1200 (F := Ideal) c i a2 h2 a3 h3 a6 h6 a7 h7 a8 h8 a9 h9 a10 h10 a15 hc0 x0 x1 x4 x5 x6 x7 x8) (Gs (Dcat C.DS) 12) 0 0 :=
  stripS 11 88 168#32 (stripS 10 80 176#32 (stripS 9 72 184#32 (stripS 8 64 192#32 (stripS 7 56 200#32 (stripS 6 48 208#32 (stripS 5 40 216#32 (stripS 4 32 224#32 (stripS 3 24 232#32 (stripS 2 16 240#32 (stripS 1 8 248#32 (strip0 (t1166 H) _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _

/-- All sixteen, scaled. -/
theorem t1214 : Sub (k0_pay309 (F := Ideal) (sl.r_49 (F := Ideal) c i a4 h4 a5 h5 x2 x3) (sl.v1166 (F := Ideal) c i a2 h2 a3 h3 a6 h6 a7 h7 a8 h8 a9 h9 a10 h10 a15 hc0 x0 x1 x4 x5 x6 x7 x8)
    (sl.v1200 (F := Ideal) c i a2 h2 a3 h3 a6 h6 a7 h7 a8 h8 a9 h9 a10 h10 a15 hc0 x0 x1 x4 x5 x6 x7 x8)
    (sl.v1201 (F := Ideal) c i a2 h2 a3 h3 a6 h6 a7 h7 a8 h8 a9 h9 a10 h10 a15 hc0 x0 x1 x4 x5 x6 x7 x8)) (SK C) 0 0 :=
  skTile H.hdps (t1166 H) (t1200 H)

end Cert.KernelIdeal.Gen.CaseA
-- ==== Proof.CaseB3.lean ====
/-
  The kernel's values at a grid point of odd batch, operation by operation, as tiles of the matrices of `Model`.
-/
module

public import proofs.«01_k».proof.Proof.CaseB2
public import proofs.«01_k».proof.Proof.Bias

@[expose] public section

set_option maxRecDepth 16384

noncomputable section

namespace Cert.KernelIdeal.Gen.CaseB

open Idealize.ShloMosaic Idealize.ShloMosaic.ValueIdx Idealize.SL.Sem Cert.KernelIdeal.Tiles
open Cert.KernelIdeal.Gen.kernelRun0_B

variable {c : Dev nD} {i : grid0.Coords} {a2 : Memref sig .tc .smem S2x20 .f32} {h2 : a2.IsWhole}
  {a3 : Memref sig .tc .smem S2x20 .f32} {h3 : a3.IsWhole} {a4 : Memref sig .tc .smem S2x20 .f32} {h4 : a4.IsWhole}
  {a5 : Memref sig .tc .smem S2x20 .f32} {h5 : a5.IsWhole} {a7 : Memref sig .tc .vmem S1x1x896x128 .fp8e4m3} {h7 : a7.IsWhole}
  {a8 : Memref sig .tc .vmem S1x1x896x128 .fp8e4m3} {h8 : a8.IsWhole} {a9 : Memref sig .tc .vmem S1x1x896x128 .fp8e4m3} {h9 : a9.IsWhole}
  {a10 : Memref sig .tc .vmem S1x1x896x128 .fp8e5m2} {h10 : a10.IsWhole} {a15 : Memref sig .tc .vmem S128x256 .f32} {h15 : a15.IsWhole}
  {x0 : Vec Ideal S2x20 .f32} {x1 : Vec Ideal S2x20 .f32} {x2 : Vec Ideal S2x20 .f32} {x3 : Vec Ideal S2x20 .f32}
  {x5 : Vec Ideal S1x1x896x128 .fp8e4m3} {x6 : Vec Ideal S1x1x896x128 .fp8e4m3} {x7 : Vec Ideal S1x1x896x128 .fp8e4m3} {x8 : Vec Ideal S1x1x896x128 .fp8e5m2}
  {s0 : Vec Ideal S128x256 .f32} {C : Ctx}
  {a16 a17 : Memref sig .tc .vmem S896x896 .bf16}

variable (H : Ins c i a2 h2 a3 h3 a4 h4 a5 h5 a7 h7 a8 h8 a9 h9 a10 h10 a15 h15 x0 x1 x2 x3 x5 x6 x7 x8 s0 C)
include H

/-- The diagonal blocks' gradients, added up. -/
theorem t1033 : Sub (sl.v1033 (F := Ideal) c i a2 h2 a3 h3 a7 h7 a8 h8 a9 h9 a10 h10 a15 h15 x0 x1 x5 x6 x7 x8 s0) (Diag C.DS 0 7) 0 0 :=
  diagS 0 6 768 768 (diagS 0 5 640 640 (diagS 0 4 512 512 (diagS 0 3 384 384 (diagS 0 2 256 256 (diagS 0 1 128 128 (diagS 0 0 0 0 (diag0 C.DS 0 (fun _ _ => Ideal.ofBits_zero_f32)) (t65 H) rfl rfl) (t158 H) rfl rfl) (t268 H) rfl rfl) (t421 H) rfl rfl) (t591 H) rfl rfl) (t802 H) rfl rfl) (t1032 H) rfl rfl

/-- The blocks' gradients next to the diagonal, added up. -/
theorem t1019 : Sub (sl.v1019 (F := Ideal) c i a2 h2 a3 h3 a7 h7 a8 h8 a9 h9 a10 h10 a15 h15 x0 x1 x5 x6 x7 x8 s0) (Diag C.DS 1 6) 0 0 :=
  diagS 1 5 640 768 (diagS 1 4 512 640 (diagS 1 3 384 512 (diagS 1 2 256 384 (diagS 1 1 128 256 (diagS 1 0 0 128 (diag0 C.DS 1 (fun _ _ => Ideal.ofBits_zero_f32)) (t144 H) rfl rfl) (t254 H) rfl rfl) (t407 H) rfl rfl) (t577 H) rfl rfl) (t788 H) rfl rfl) (t1018 H) rfl rfl

/-- Both side by side. -/
theorem t1166 : Sub (sl.v1166 (F := Ideal) c i a2 h2 a3 h3 a7 h7 a8 h8 a9 h9 a10 h10 a15 h15 x0 x1 x5 x6 x7 x8 s0) (Dcat C.DS) 0 0 :=
  beside (t1033 H) (t1019 H) _

/-- The first twelve strips. -/
theorem t1200 : Sub (sl.v1200 (F := Ideal) c i a2 h2 a3 h3 a7 h7 a8 h8 a9 h9 a10 h10 a15 h15 x0 x1 x5 x6 x7 x8 s0) (Gs (Dcat C.DS) 12) 0 0 :=
  stripS 11 88 168#32 (stripS 10 80 176#32 (stripS 9 72 184#32 (stripS 8 64 192#32 (stripS 7 56 200#32 (stripS 6 48 208#32 (stripS 5 40 216#32 (stripS 4 32 224#32 (stripS 3 24 232#32 (stripS 2 16 240#32 (stripS 1 8 248#32 (strip0 (t1166 H) _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _) (t1166 H) rfl rfl (by decide) _ _

/-- All sixteen, scaled. -/
theorem t1214 : Sub (k0_pay309 (F := Ideal) (sl.r_9 (F := Ideal) c i a4 h4 a5 h5 x2 x3) (sl.v1166 (F := Ideal) c i a2 h2 a3 h3 a7 h7 a8 h8 a9 h9 a10 h10 a15 h15 x0 x1 x5 x6 x7 x8 s0)
    (sl.v1200 (F := Ideal) c i a2 h2 a3 h3 a7 h7 a8 h8 a9 h9 a10 h10 a15 h15 x0 x1 x5 x6 x7 x8 s0)
    (sl.v1201 (F := Ideal) c i a2 h2 a3 h3 a7 h7 a8 h8 a9 h9 a10 h10 a15 h15 x0 x1 x5 x6 x7 x8 s0)) (SK C) 0 0 :=
  skTile H.hdps (t1166 H) (t1200 H)

end Cert.KernelIdeal.Gen.CaseB
-- ==== Proof.BiasEq.lean ====
/-
  The sums along the diagonals of the scores' gradients, and the sums over the queries and keys of a bucket.
-/
module

public import proofs.«01_k».proof.Proof.Bias
public import proofs.«01_k».proof.Proof.Equation

@[expose] public section

noncomputable section

namespace Cert.KernelIdeal.Tiles

open Idealize.ShloMosaic Idealize.ShloMosaic.ValueIdx
open scoped BigOperators

/-- The total of a distance: every row's entry that many columns on. -/
def Tot (G : ℕ → ℕ → EReal) (x : ℕ) : EReal := ∑ s ∈ Finset.range 8, G s ((x + s) % 256)

/-- The totals of a sum. -/
theorem Tot_add (G H : ℕ → ℕ → EReal) (x : ℕ) : Tot (fun s x => G s x + H s x) x = Tot G x + Tot H x := Finset.sum_add_distrib

/-- A sum in groups. -/
theorem sum_groups (m n : ℕ) (F : ℕ → EReal) : ∑ i ∈ Finset.range n, ∑ s ∈ Finset.range m, F (m * i + s) = ∑ a ∈ Finset.range (m * n), F a := by
  induction n with
  | zero => simp
  | succ n ih => rw [Finset.sum_range_succ, ih, Nat.mul_succ, Finset.sum_range_add]

/-- A distance of a bucket but the last is short. -/
theorem short {x l : ℕ} (hl : l ≠ 31) (h : bkt x = l) : x < 113 := by
  by_contra hx
  exact hl (h.symm.trans (bkt_far (by omega)))

/-- The entries at a distance, added up. -/
def Dist (W : ℕ → ℕ → EReal) (x : ℕ) : EReal := ∑ k ∈ Finset.range 896, if k + x < 896 then W (k + x) k else 0

/-- The queries and keys of a bucket, added up by their distance. -/
theorem diagonals (W : ℕ → ℕ → EReal) (h0 : ∀ q k, q < k → W q k = 0) (l : ℕ) (hl : l ≠ 31) :
    ∑ q ∈ Finset.range 896, ∑ k ∈ Finset.range 896, (if bkt (q - k) = l then W q k else 0)
      = ∑ x ∈ Finset.range 256, if bkt x = l then Dist W x else 0 := by
  have hr : ∀ x ∈ Finset.range 256, (if bkt x = l then Dist W x else 0)
      = ∑ k ∈ Finset.range 896, if bkt x = l then (if k + x < 896 then W (k + x) k else 0) else 0 := by
    intro x _
    by_cases e : bkt x = l
    · simp only [if_pos e]; rfl
    · simp only [if_neg e, Finset.sum_const_zero]
  rw [Finset.sum_congr rfl hr, Finset.sum_comm, Finset.sum_comm (s := Finset.range 256)]
  refine Finset.sum_congr rfl fun k hk => ?_
  have hk := Finset.mem_range.1 hk
  have e := Finset.sum_range_add (fun q => if bkt (q - k) = l then W q k else 0) k (896 - k)
  rw [show k + (896 - k) = 896 by omega] at e
  rw [e, Finset.sum_eq_zero (fun q hq => by rw [h0 q k (Finset.mem_range.1 hq), ite_self]), zero_add]
  refine Finset.sum_congr_of_eq_on_inter (fun x hx hn => ?_) (fun x hx hn => ?_) (fun x hx hy => ?_)
  · rw [Nat.add_sub_cancel_left]
    refine if_neg fun e => hn (Finset.mem_range.2 ?_)
    have := short hl e
    omega
  · rw [if_neg (c := k + x < 896) fun h => hn (Finset.mem_range.2 (by omega)), ite_self]
  · rw [Nat.add_sub_cancel_left, if_pos (c := k + x < 896) (by have := Finset.mem_range.1 hx; omega)]

namespace Ctx.Ok
variable {C : Ctx} {b : ℕ → EReal} {f o v : ℝ} (H : C.Ok b f o v)
include H

/-- A later key has no gradient. -/
theorem rds_later (q k : ℕ) (h : q < k) : C.RDS b q k = 0 := by
  have e : C.RX b q k = ⊥ := if_neg (by omega)
  have e' : C.RE b q k = 0 := by
    unfold Ctx.RE
    rw [e, EReal.bot_sub]; rfl
  unfold Ctx.RDS Ctx.RP
  rw [e', zero_mul, zero_mul]

/-- A diagonal's entry, scaled, block by block. -/
theorem diag_eq (x a : ℕ) (hx : x < 113) (ha : a < 128) :
    Dcat C.DS a (x + a) * C.dps = ∑ r ∈ Finset.range 7, (if 128 * r + a + x < 896 then C.RDS b (128 * r + a + x) (128 * r + a) else 0) := by
  have key : ∀ k q : ℕ, q < 896 → k / 128 ≤ q / 128 → C.DS k q * C.dps = C.RDS b q k := by
    intro k q hq h
    rw [H.ds_eq k q hq, H.dps_eq]
    unfold Ctx.DST
    rw [if_pos h]
  unfold Dcat
  by_cases hc : x + a < 128
  · rw [if_pos hc]
    unfold Diag
    rw [H.dps_eq, sum_mul_real _ _ (mul_nonneg H.o0 H.v0), ← H.dps_eq]
    refine Finset.sum_congr rfl fun r hr => ?_
    have hr := Finset.mem_range.1 hr
    rw [if_pos (by omega), ← key _ _ (by omega) (by omega), show 128 * (r + 0) + (x + a) = 128 * r + a + x by omega]
  · rw [if_neg hc]
    unfold Diag
    rw [H.dps_eq, sum_mul_real _ _ (mul_nonneg H.o0 H.v0), ← H.dps_eq, Finset.sum_range_succ _ 6, if_neg (c := 128 * 6 + a + x < 896) (by omega), add_zero]
    refine Finset.sum_congr rfl fun r hr => ?_
    have hr := Finset.mem_range.1 hr
    rw [if_pos (by omega), ← key _ _ (by omega) (by omega), show 128 * (r + 1) + (x + a - 128) = 128 * r + a + x by omega]

/-- The total of a short distance. -/
theorem tot_eq (x : ℕ) (hx : x < 113) : Tot (SK C) x = Dist (C.RDS b) x := by
  have h1 : ∀ s ∈ Finset.range 8, SK C s ((x + s) % 256) = ∑ i ∈ Finset.range 16, Dcat C.DS (8 * i + s) (x + (8 * i + s)) * C.dps := by
    intro s hs
    have hs := Finset.mem_range.1 hs
    unfold SK Gs
    rw [H.dps_eq, sum_mul_real _ _ (mul_nonneg H.o0 H.v0)]
    refine Finset.sum_congr rfl fun i hi => ?_
    have hi := Finset.mem_range.1 hi
    rw [show ((x + s) % 256 + 8 * i) % 256 = x + (8 * i + s) by omega]
  unfold Tot
  rw [Finset.sum_congr rfl h1, Finset.sum_comm, sum_groups 8 16 (fun a => Dcat C.DS a (x + a) * C.dps)]
  refine (Finset.sum_congr rfl fun a ha => H.diag_eq x a hx (Finset.mem_range.1 ha)).trans ?_
  rw [Finset.sum_comm]
  exact sum_groups 128 7 (fun k => if k + x < 896 then C.RDS b (k + x) k else 0)

end Ctx.Ok

/-- The kernel's sum over the distances of a bucket is the sum over its queries and keys. -/
theorem bias_eq {C D : Ctx} {b : ℕ → EReal} {f f' o v o' v' : ℝ} (H : C.Ok b f o v) (H' : D.Ok b f' o' v') (l : ℕ) (hl : l ≠ 31) :
    (∑ x ∈ Finset.range 256, if bkt x = l then Tot (fun s x => SK C s x + SK D s x) x else 0)
      = ∑ q ∈ Finset.range 896, ∑ k ∈ Finset.range 896, (if bkt (q - k) = l then C.RDS b q k + D.RDS b q k else 0) := by
  rw [diagonals (fun q k => C.RDS b q k + D.RDS b q k) (fun q k h => by show C.RDS b q k + D.RDS b q k = 0; rw [H.rds_later q k h, H'.rds_later q k h, add_zero]) l hl]
  refine Finset.sum_congr rfl fun x _ => ?_
  by_cases e : bkt x = l
  · rw [if_pos e, if_pos e, Tot_add, H.tot_eq x (short hl e), H'.tot_eq x (short hl e)]
    unfold Dist
    rw [← Finset.sum_add_distrib]
    refine Finset.sum_congr rfl fun k _ => ?_
    by_cases h : k + x < 896
    · rw [if_pos h, if_pos h, if_pos h]
    · rw [if_neg h, if_neg h, if_neg h, add_zero]
  · rw [if_neg e, if_neg e]

end Cert.KernelIdeal.Tiles
-- ==== Proof.BiasMarks.lean ====
/-
  The kernel's marks of the distances of a bucket.
-/
module

public import proofs.«01_k».proof.Proof.Equation
public import proofs.«01_k».proof.Proof.Gen.KernelIdeal.Skeleton

@[expose] public section

set_option maxRecDepth 16384

noncomputable section

namespace Cert.KernelIdeal.Tiles

open Idealize.ShloMosaic Idealize.ShloMosaic.ValueIdx Cert.KernelIdeal.Gen

/-- The distances of a bucket, as the kernel marks them. -/
def marks : IVec S32x256 1 :=
  k0_pay25 (iota .tc S32x256 32 [1] iota_S32x256_d1_w32) (iota .tc S32x256 32 [0] iota_S32x256_d0_w32)
    (k0_pay23 (iota .tc S32x256 32 [0] iota_S32x256_d0_w32) (k0_pay21 (iota .tc S32x256 32 [0] iota_S32x256_d0_w32) k0_pay19 17#32) 22#32)
    (k0_pay24 (iota .tc S32x256 32 [0] iota_S32x256_d0_w32) (k0_pay22 (iota .tc S32x256 32 [0] iota_S32x256_d0_w32) k0_pay20)) 27#32

/-- They are the distances of that bucket, for every bucket but the last. -/
theorem marks_eq : ∀ (n : Fin 31) (x : Fin 256), marks (ix2 n.castSucc x) = if bkt x.val = n.val then 1#1 else 0#1 := by
  decide +kernel

end Cert.KernelIdeal.Tiles
-- ==== Proof.BiasOut.lean ====
/-
  The last step of a head: the diagonals summed over their residues, the sums over the distances of a bucket, and what they
  are of the scores' gradients.
-/
module

public import proofs.«01_k».proof.Proof.BiasEq
public import proofs.«01_k».proof.Proof.BiasMarks

@[expose] public section

set_option maxRecDepth 16384

noncomputable section

namespace Cert.KernelIdeal.Tiles

open Idealize.ShloMosaic Idealize.ShloMosaic.ValueIdx Cert.KernelIdeal.Gen
open scoped BigOperators

/-- The rows' bit for one. -/
theorem bit1 : ∀ (a : Fin 8) (b : Fin 256), (cmpi .ne (andi (iota .tc S8x256 32 [0] iota_S8x256_d0_w32) (broadcast S8x256 1#32)) (broadcast S8x256 0#32) : IVec S8x256 1) (ix2 a b)
    = if a.val &&& 1 = 1 then 1#1 else 0#1 := by decide +kernel
/-- The rows' bit for two. -/
theorem bit2 : ∀ (a : Fin 8) (b : Fin 256), (cmpi .ne (andi (iota .tc S8x256 32 [0] iota_S8x256_d0_w32) (broadcast S8x256 2#32)) (broadcast S8x256 0#32) : IVec S8x256 1) (ix2 a b)
    = if a.val &&& 2 = 2 then 1#1 else 0#1 := by decide +kernel
/-- The rows' bit for four. -/
theorem bit4 : ∀ (a : Fin 8) (b : Fin 256), (cmpi .ne (andi (iota .tc S8x256 32 [0] iota_S8x256_d0_w32) (broadcast S8x256 4#32)) (broadcast S8x256 0#32) : IVec S8x256 1) (ix2 a b)
    = if a.val &&& 4 = 4 then 1#1 else 0#1 := by decide +kernel

/-- The three rotations together rotate each row by its number. -/
theorem turns (s x : ℕ) (hs : s < 8) :
    (((x + (if s &&& 4 = 4 then 4 else 0)) % 256 + (if s &&& 2 = 2 then 2 else 0)) % 256 + (if s &&& 1 = 1 then 1 else 0)) % 256 = (x + s) % 256 := by
  interval_cases s <;> simp <;> omega

/-- The totals. -/
theorem totals {G : ℕ → ℕ → EReal} {X : FVec Ideal S8x256 .f32} (hX : Sub (m := 8) (n := 256) X G 0 0) :
    Sub (m := 1) (n := 256) (k0_pay18 (F := Ideal) X) (fun _ x => Tot G x) 0 0 := by
  refine Sub.congr (row1 (rowsSum (bitRoll (bitRoll (bitRoll hX 1 255#32 rfl (by decide) _ bit1) 2 254#32 rfl (by decide) _ bit2) 4 252#32 rfl (by decide) _ bit4) _ _ _) _) fun a x _ _ => ?_
  refine Finset.sum_congr rfl fun s hs => ?_
  exact congrArg (G s) (turns s (0 + x) (Finset.mem_range.1 hs))

/-- A column repeated along the lanes. -/
theorem alongLanes {X : (⟨1, ![32]⟩ : Shape).Idx → EReal} (h : S32.ShapeCasts S32x1) (h' : S32x1.ShapeCasts S32x1) (h'' : S32x1.Broadcasts S32x128)
    (a : Fin 32) (b : Fin 128) : broadcastTo S32x128 (shapeCast S32x1 (shapeCast S32x1 X h) h') h'' (ix2 a b) = X (ix1 a) := by
  rw [shapeCast_self]
  refine (broadcastTo_apply (s := S32x1) _ _ (ix2 a b) (ix2 a (0 : Fin 1)) (fun | ⟨0, _⟩ => (if_neg (show ¬(32 : ℕ) = 1 by decide)).symm | ⟨1, _⟩ => (if_pos rfl).symm)).trans ?_
  refine shapeCast_apply _ _ (ix2 a 0) (ix1 a) ?_
  rw [Shape.rowMajor_val_two, Shape.rowMajor_val_one]
  show a.val = a.val * 1 + 0
  omega

/-- A sum over the rows, at a column. -/
theorem rowsSum0 {m n : ℕ} {X : (⟨2, ![m, n]⟩ : Shape).Idx → EReal} (h : (⟨2, ![m, n]⟩ : Shape).Reduces [0] ⟨1, ![n]⟩)
    (hφ : FKind.Formats .f32) (hacc : (0x00000000#32 : BitVec 32) = FKind.add.neutral .f32 hφ) (b : Fin n) :
    multiReduction (F := Ideal) (φ := .f32) .add [0] ⟨1, ![n]⟩ X 0x00000000#32 h hφ hacc (ix1 b) = ∑ a : Fin m, X (ix2 a b) := by
  rw [Ideal.multiReduction_add_single]
  refine Finset.sum_congr rfl fun (i : Fin m) _ => congrArg X ?_
  funext d; apply Fin.ext
  match d with
  | ⟨0, _⟩ => rfl
  | ⟨1, _⟩ => rfl

/-- A lane's row. -/
theorem diagMask : ∀ (a : Fin 32) (b : Fin 128), (cmpi .eq (iota .tc S32x128 32 [0] iota_S32x128_d0_w32) (iota .tc S32x128 32 [1] iota_S32x128_d1_w32) : IVec S32x128 1) (ix2 a b)
    = if a.val = b.val then 1#1 else 0#1 := by decide +kernel

/-- The last lane of the buckets. -/
theorem lastMask : ∀ (b : Fin 128), b.val ≠ 31 → (cmpi .eq (iota .tc S1x128 32 [1] iota_S1x128_d1_w32) (broadcast S1x128 31#32) : IVec S1x128 1) (ix2 0 b) = 0#1 := by decide +kernel

/-- The sums over the buckets, every lane but the last bucket's. -/
theorem buckets {g : ℕ → EReal} {X : FVec Ideal S1x256 .f32} (hX : Sub (m := 1) (n := 256) X (fun _ x => g x) 0 0) (l : Fin 128) (hl : l.val ≠ 31) :
    k0_pay1 (F := Ideal) (iota .tc S32x128 32 [1] iota_S32x128_d1_w32) (iota .tc S32x128 32 [0] iota_S32x128_d0_w32) marks (k0_pay26 (F := Ideal) X) (k0_pay27 (F := Ideal)) (ix3 0 0 l)
      = ∑ x ∈ Finset.range 256, if bkt x = l.val then g x else 0 := by
  have hsel : ∀ n : Fin 32, n.val ≠ 31 → (∑ x : Fin 256, (select marks (k0_pay26 (F := Ideal) X) (k0_pay27 (F := Ideal)) : FVec Ideal S32x256 .f32) (ix2 n x))
      = ∑ x ∈ Finset.range 256, if bkt x = n.val then g x else 0 := by
    intro n hn
    refine Eq.trans (Finset.sum_congr rfl fun x _ => ?_) (Fin.sum_univ_eq_sum_range (fun x => if bkt x = n.val then g x else 0) 256)
    show Scalar.select (marks (ix2 n x)) (k0_pay26 (F := Ideal) X (ix2 n x)) (Ideal.ofBits .f32 0x00000000#32) = _
    have hb : k0_pay26 (F := Ideal) X (ix2 n x) = g x.val := by
      exact (spread (m := 32) (same hX shapeCasts_S1x256_S1x256) (by decide) broadcasts_S1x256_S32x256 0 n x).trans (congrArg g (Nat.zero_add _))
    have hm := marks_eq ⟨n.val, by omega⟩ x
    rw [show (Fin.castSucc ⟨n.val, by omega⟩ : Fin 32) = n from rfl] at hm
    rw [hm, hb, Ideal.ofBits_zero_f32]
    show Scalar.select (if bkt x.val = n.val then 1#1 else 0#1) _ _ = _
    by_cases e : bkt x.val = n.val
    · rw [if_pos e, if_pos e]; rfl
    · rw [if_neg e, if_neg e]; rfl
  unfold k0_pay1
  rw [shapeCast_apply _ _ (ix3 0 0 l) (ix2 0 l) (by
    rw [Shape.rowMajor_val_two, Shape.rowMajor_val_three]; rfl)]
  show Scalar.select ((cmpi .eq (iota .tc S1x128 32 [1] iota_S1x128_d1_w32) (broadcast S1x128 31#32) : IVec S1x128 1) (ix2 0 l)) _ _ = _
  rw [lastMask l hl]
  refine (if_neg (by decide)).trans ?_
  rw [shapeCast_apply _ _ (ix2 0 l) (ix1 l) (by
    rw [Shape.rowMajor_val_two, Shape.rowMajor_val_one]; show l.val = 0 * 128 + l.val; omega)]
  refine (rowsSum0 _ _ _ l).trans ?_
  refine (Finset.sum_congr rfl fun (n : Fin 32) _ => ?_ : _ = ∑ n : Fin 32, if n.val = l.val then (∑ x ∈ Finset.range 256, if bkt x = l.val then g x else 0) else 0).trans ?_
  · show Scalar.select ((cmpi .eq (iota .tc S32x128 32 [0] iota_S32x128_d0_w32) (iota .tc S32x128 32 [1] iota_S32x128_d1_w32) : IVec S32x128 1) (ix2 n l)) (broadcastTo S32x128 _ _ (ix2 n l)) (Ideal.ofBits .f32 0x00000000#32) = _
    rw [diagMask, Ideal.ofBits_zero_f32]
    by_cases h : n.val = l.val
    · rw [if_pos h, if_pos h]
      refine (if_pos rfl).trans ((alongLanes _ _ _ n l).trans ((colsSum _ _ _ n).trans ((hsel n (by omega)).trans ?_)))
      rw [h]
    · rw [if_neg h, if_neg h]; rfl
  · by_cases h : l.val < 32
    · rw [Finset.sum_eq_single (⟨l.val, h⟩ : Fin 32) (fun b _ hb => if_neg fun e => hb (Fin.ext e)) (fun h => absurd (Finset.mem_univ _) h), if_pos rfl]
    · rw [Finset.sum_eq_zero fun n _ => if_neg (by have := n.isLt; omega)]
      refine (Finset.sum_eq_zero fun x _ => if_neg ?_).symm
      have := bkt_lt x
      omega

end Cert.KernelIdeal.Tiles
-- ==== Proof.BiasBlocks.lean ====
/-
  What a grid point leaves of the bias gradient: a head's first point its strips, the second the sums over the buckets.
-/
module

public import proofs.«01_k».proof.Proof.CaseA3
public import proofs.«01_k».proof.Proof.CaseB3
public import proofs.«01_k».proof.Proof.Blocks
public import proofs.«01_k».proof.Proof.BiasOut

@[expose] public section

set_option maxRecDepth 16384

noncomputable section

namespace Cert.KernelIdeal.Gen
open Idealize.ShloMosaic Idealize.ShloMosaic.ValueIdx Idealize.SL.Sem Cert.KernelIdeal.Tiles

/-- What one piece that covers a buffer of rank three leaves in it, read back. -/
theorem readOne3 {sig : RefSig} {κ : Kind} {sp : Space} (V : View sig κ sp S1x1x128 .f32)
    {w : S1x1x128.Idx → Elt Ideal .f32} {inb' : ∀ a, (![0, 0, 0] : Fin 3 → ℕ) a + S1x1x128.size a ≤ S1x1x128.size a}
    {L : List (View.Piece (Elt Ideal) S1x1x128 .f32)} (hL : L = [⟨Rect.unit (s := S1x1x128) ![0, 0, 0] S1x1x128.size inb', w⟩])
    (f : V.ty.Contents (Elt Ideal)) (hc : ∀ y, ∃ p ∈ L, y ∈ p.1.set) (y : S1x1x128.Idx) :
    V.read (Elt Ideal) (V.writes (Elt Ideal) f L) y = w y := by
  rw [View.read_writes_eq_canon _ _ _ hc]
  refine canonValue (fun x => x) w L (fun p hp => ?_) _ (hc _)
  subst hL
  obtain rfl := List.mem_singleton.1 hp
  intro x
  refine congrArg w (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

namespace CaseA
open Cert.KernelIdeal.Gen.kernelRun0_A

variable {c : Dev nD} {i : grid0.Coords}
  {a2 : Memref sig .tc .smem S2x20 .f32} {h2 : a2.IsWhole}
  {a3 : Memref sig .tc .smem S2x20 .f32} {h3 : a3.IsWhole}
  {a4 : Memref sig .tc .smem S2x20 .f32} {h4 : a4.IsWhole}
  {a5 : Memref sig .tc .smem S2x20 .f32} {h5 : a5.IsWhole}
  {a6 : Memref sig .tc .smem S20x32 .f32} {h6 : a6.IsWhole}
  {a7 : Memref sig .tc .vmem S1x1x896x128 .fp8e4m3} {h7 : a7.IsWhole}
  {a8 : Memref sig .tc .vmem S1x1x896x128 .fp8e4m3} {h8 : a8.IsWhole}
  {a9 : Memref sig .tc .vmem S1x1x896x128 .fp8e4m3} {h9 : a9.IsWhole}
  {a10 : Memref sig .tc .vmem S1x1x896x128 .fp8e5m2} {h10 : a10.IsWhole}
  {a11 : Memref sig .tc .vmem S1x1x896x128 .bf16} {h11 : a11.IsWhole}
  {a12 : Memref sig .tc .vmem S1x1x896x128 .bf16} {h12 : a12.IsWhole}
  {a13 : Memref sig .tc .vmem S1x1x896x128 .bf16} {h13 : a13.IsWhole}
  {a14 : Memref sig .tc .vmem S1x1x128 .f32} {h14 : a14.IsWhole}
  {a15 : Memref sig .tc .vmem S128x256 .f32} {h15 : a15.IsWhole}
  {a16 : Memref sig .tc .vmem S896x896 .bf16} {h16 : a16.IsWhole}
  {a17 : Memref sig .tc .vmem S896x896 .bf16} {h17 : a17.IsWhole}
  {a18 : Memref sig .tc .vmem S8x256 .f32} {h18 : a18.IsWhole}
  {hc0 : cond0_0 i} {hc1 : cond0_1 i} {hc2 : ¬cond0_2 i} {hc3 : ¬cond0_3 i}
  {x0 : Vec Ideal S2x20 .f32}
  {x1 : Vec Ideal S2x20 .f32}
  {x2 : Vec Ideal S2x20 .f32}
  {x3 : Vec Ideal S2x20 .f32}
  {x4 : Vec Ideal S20x32 .f32}
  {x5 : Vec Ideal S1x1x896x128 .fp8e4m3}
  {x6 : Vec Ideal S1x1x896x128 .fp8e4m3}
  {x7 : Vec Ideal S1x1x896x128 .fp8e4m3}
  {x8 : Vec Ideal S1x1x896x128 .fp8e5m2}
  {C : Ctx}

variable (H : Ins c i a2 h2 a3 h3 a4 h4 a5 h5 a6 h6 a7 h7 a8 h8 a9 h9 a10 h10 a15 hc0 x0 x1 x2 x3 x4 x5 x6 x7 x8 C)
include H

/-- The strips a head's first point leaves. -/
theorem outS : Sub (sout0_A_3 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8) (SK C) 0 0 :=
  readOne VS0_3 (L := (kernelRun0_A c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8).2.2.2.2.2.1) rfl _ (same (t1214 H) _) (scover0_A_3 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8)

end CaseA

namespace CaseB
open Cert.KernelIdeal.Gen.kernelRun0_B

variable {c : Dev nD} {i : grid0.Coords}
  {a2 : Memref sig .tc .smem S2x20 .f32} {h2 : a2.IsWhole}
  {a3 : Memref sig .tc .smem S2x20 .f32} {h3 : a3.IsWhole}
  {a4 : Memref sig .tc .smem S2x20 .f32} {h4 : a4.IsWhole}
  {a5 : Memref sig .tc .smem S2x20 .f32} {h5 : a5.IsWhole}
  {a6 : Memref sig .tc .smem S20x32 .f32} {h6 : a6.IsWhole}
  {a7 : Memref sig .tc .vmem S1x1x896x128 .fp8e4m3} {h7 : a7.IsWhole}
  {a8 : Memref sig .tc .vmem S1x1x896x128 .fp8e4m3} {h8 : a8.IsWhole}
  {a9 : Memref sig .tc .vmem S1x1x896x128 .fp8e4m3} {h9 : a9.IsWhole}
  {a10 : Memref sig .tc .vmem S1x1x896x128 .fp8e5m2} {h10 : a10.IsWhole}
  {a11 : Memref sig .tc .vmem S1x1x896x128 .bf16} {h11 : a11.IsWhole}
  {a12 : Memref sig .tc .vmem S1x1x896x128 .bf16} {h12 : a12.IsWhole}
  {a13 : Memref sig .tc .vmem S1x1x896x128 .bf16} {h13 : a13.IsWhole}
  {a14 : Memref sig .tc .vmem S1x1x128 .f32} {h14 : a14.IsWhole}
  {a15 : Memref sig .tc .vmem S128x256 .f32} {h15 : a15.IsWhole}
  {a16 : Memref sig .tc .vmem S896x896 .bf16} {h16 : a16.IsWhole}
  {a17 : Memref sig .tc .vmem S896x896 .bf16} {h17 : a17.IsWhole}
  {a18 : Memref sig .tc .vmem S8x256 .f32} {h18 : a18.IsWhole}
  {hc0 : ¬cond0_0 i} {hc1 : ¬cond0_1 i} {hc2 : cond0_2 i} {hc3 : cond0_3 i}
  {x0 : Vec Ideal S2x20 .f32}
  {x1 : Vec Ideal S2x20 .f32}
  {x2 : Vec Ideal S2x20 .f32}
  {x3 : Vec Ideal S2x20 .f32}
  {x4 : Vec Ideal S20x32 .f32}
  {x5 : Vec Ideal S1x1x896x128 .fp8e4m3}
  {x6 : Vec Ideal S1x1x896x128 .fp8e4m3}
  {x7 : Vec Ideal S1x1x896x128 .fp8e4m3}
  {x8 : Vec Ideal S1x1x896x128 .fp8e5m2}
  {s0 : Vec Ideal S128x256 .f32} {s3 : Vec Ideal S8x256 .f32}
  {C : Ctx}

variable (H : Ins c i a2 h2 a3 h3 a4 h4 a5 h5 a7 h7 a8 h8 a9 h9 a10 h10 a15 h15 x0 x1 x2 x3 x5 x6 x7 x8 s0 C)
include H

/-- The strips of both batches, added up. -/
theorem t1224 {D : Ctx} (hS : Sub s3 (SK D) 0 0) :
    Sub (fun x => sl.v1224 (F := Ideal) c i a2 h2 a3 h3 a4 h4 a5 h5 a7 h7 a8 h8 a9 h9 a10 h10 a15 h15 a18 h18 x0 x1 x2 x3 x5 x6 x7 x8 s0 s3 x) (fun s x => SK D s x + SK C s x) 0 0 :=
  loadOne a18.view (same (add (loadBox a18 h18 hS 0 0 _) (t1214 H)) _) 0 0 _

/-- The bias gradient a head's second point leaves, every lane but the last bucket's. -/
theorem out12 {D : Ctx} (hS : Sub s3 (SK D) 0 0) (l : Fin 128) (hl : l.val ≠ 31) :
    out0_B_12 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3 (ix3 0 0 l)
      = ∑ x ∈ Finset.range 256, if bkt x = l.val then Tot (fun s x => SK D s x + SK C s x) x else 0 :=
  (readOne3 VO0_12 (L := (kernelRun0_B c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3).2.2.2.1) rfl _ (cover0_B_12 c i a2 h2 a3 h3 a4 h4 a5 h5 a6 h6 a7 h7 a8 h8 a9 h9 a10 h10 a11 h11 a12 h12 a13 h13 a14 h14 a15 h15 a16 h16 a17 h17 a18 h18 hc0 hc1 hc2 hc3 x0 x1 x2 x3 x4 x5 x6 x7 x8 s0 s3) (ix3 0 0 l)).trans
    (buckets (totals (t1224 H hS)) l hl)

end CaseB

end Cert.KernelIdeal.Gen
-- ==== Proof.OutsBias.lean ====
/-
  The bias gradient's array the kernel leaves, read at an index: the sums over the distances of a bucket, both batches together.
-/
module

public import proofs.«01_k».proof.Proof.Outs
public import proofs.«01_k».proof.Proof.BiasBlocks

@[expose] public section

set_option maxRecDepth 16384

noncomputable section

namespace Cert.KernelIdeal.Gen
open Idealize.ShloMosaic Idealize.ShloMosaic.TcCoe Idealize.ShloMosaic.ValueIdx Idealize.SL.Sem Cert.KernelIdeal Cert.KernelIdeal.Tiles

variable (m : (ℓ : Loc nD τ sig) → Buf (Elt Ideal) ℓ)

section
variable (c : Dev nD) (t : Fin cfg0.N)

/-- The strips a head's first point leaves. -/
theorem strips (f : ℝ) (hf : biasAt (m ((c : Thread nD τ).loc main_arg8)) (grid0.coords t 0) 31 = f) (h : t.val % 2 = 0) :
    Sub (outsAt0 m c t.val t.isLt).2.2.2.2.2 (SK (ctxM m c (grid0.coords t 1) (grid0.coords t 0))) 0 0 := by
  have h2 : ¬t.val % 2 = 1 := by omega
  rw [outsAt0_A m c t h h h2 h2]
  exact CaseA.outS (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc1 := (hcond0_1 t).mpr h) (hc2 := fun e => h2 ((hcond0_2 t).mp e)) (hc3 := fun e => h2 ((hcond0_3 t).mp e)) (pointA m c t f hf ((hcond0_0 t).mpr h))

/-- The bias gradient a head's second point leaves, every lane but the last bucket's. -/
theorem point12 (f : ℝ) (hf : biasAt (m ((c : Thread nD τ).loc main_arg8)) (grid0.coords t 0) 31 = f) (h2 : t.val % 2 = 1) (l : Fin 128) (hl : l.val ≠ 31) :
    (outsAt0 m c t.val t.isLt).2.2.2.1 (ix3 0 0 l)
      = ∑ x ∈ Finset.range 256, if bkt x = l.val then
          Tot (fun s x => SK (ctxM m c 0 (grid0.coords t 0)) s x + SK (ctxM m c (grid0.coords t 1) (grid0.coords t 0)) s x) x else 0 := by
  have h : ¬t.val % 2 = 0 := by omega
  have hlt : t.val - 1 < cfg0.N := Nat.lt_of_le_of_lt (Nat.sub_le _ _) t.isLt
  have eh : grid0.coords ⟨t.val - 1, hlt⟩ 0 = grid0.coords t 0 := Fin.ext (by
    rw [Entry.head t, Entry.head ⟨t.val - 1, hlt⟩]
    show (t.val - 1) / 2 = t.val / 2
    omega)
  have eb : grid0.coords ⟨t.val - 1, hlt⟩ 1 = (0 : Fin 2) := Fin.ext (by
    rw [Entry.batch ⟨t.val - 1, hlt⟩]
    show (t.val - 1) % 2 = 0
    omega)
  have hS := strips m c ⟨t.val - 1, hlt⟩ f (by rw [eh]; exact hf) (by show (t.val - 1) % 2 = 0; omega)
  rw [eh, eb] at hS
  rw [outsAt0_B m c t h h h2 h2]
  dsimp only
  exact CaseB.out12 (a11 := ms0_9 t) (h11 := hs0_9 t) (a12 := ms0_10 t) (h12 := hs0_10 t) (a13 := ms0_11 t) (h13 := hs0_11 t) (a14 := ms0_12 t) (h14 := hs0_12 t) (a15 := scM0_0) (h15 := Memref.isWhole_whole _) (a16 := scM0_1) (h16 := Memref.isWhole_whole _) (a17 := scM0_2) (h17 := Memref.isWhole_whole _) (a18 := scM0_3) (h18 := Memref.isWhole_whole _) (hc0 := fun e => h ((hcond0_0 t).mp e)) (hc1 := fun e => h ((hcond0_1 t).mp e)) (hc2 := (hcond0_2 t).mpr h2) (hc3 := (hcond0_3 t).mpr h2) (pointB m c t f hf h2) hS l hl

end

/-- The array of the bias gradient, every lane but the last bucket's. -/
theorem array12 (c : Dev nD) (h : Fin 20) (l : Fin 128) (hl : l.val ≠ 31) (f : ℝ)
    (hf : biasAt (m ((c : Thread nD τ).loc main_arg8)) h 31 = f) :
    Value.G12 m c (ix3 h 0 l : S20x1x128.Idx)
      = ∑ x ∈ Finset.range 256, if bkt x = l.val then Tot (fun s x => SK (ctxM m c 0 h) s x + SK (ctxM m c 1 h) s x) x else 0 := by
  have hp : Value.pt12Of (ix3 h 0 l : S20x1x128.Idx) = (pt 1 h).val := by
    show 2 * (1 * (h.val / 1 - 0) + 1 * (0 / 1 - 0) + 1 * (l.val / 128 - 0)) + 1 = 1 + 2 * h.val
    have := l.isLt
    omega
  have hl' : Value.loc12Of (ix3 h 0 l : S20x1x128.Idx) = ix3 0 0 l := funext fun e => Fin.ext (by
    match e with
    | ⟨0, _⟩ => exact Nat.mod_one _
    | ⟨1, _⟩ => exact Nat.mod_one _
    | ⟨2, _⟩ => exact Nat.mod_eq_of_lt l.isLt)
  have key := point12 m c (pt 1 h) f (by rw [pt_head]; exact hf) (by show (1 + 2 * h.val) % 2 = 1; omega) l hl
  rw [pt_head, pt_batch, Value.outsAt0_sweep] at key
  unfold Value.G12
  rw [dif_pos (by rw [hp]; exact (pt 1 h).isLt), hl', Value.fold0_congr m c _ _ (pt 1 h).val (by rw [Nat.zero_add]; exact (pt 1 h).isLt) hp]
  exact key

end Cert.KernelIdeal.Gen
-- ==== Proof.RefInt.lean ====
/-
  The whole numbers of the reference, read at an index: the distance of a query and a key, its bucket, the bias gathered by
  it, and the comparison of the two positions.
-/
module

public import proofs.«01_k».proof.Proof.Equation
public import proofs.«01_k».proof.Proof.Gen.ReferenceIdeal.Read

@[expose] public section

set_option maxRecDepth 16384

noncomputable section

namespace Cert.ReferenceIdeal.Read

open Idealize.ShloMosaic Idealize.ShloMosaic.ValueIdx Idealize.SL.Sem Cert.ReferenceIdeal Cert.KernelIdeal.Tiles

/-- One when the word is at least the threshold. -/
def atLeast (x n : BitVec 32) : BitVec 32 := (IntOp.cmpi .sge x n).setWidth 32

/-- The bucket as the reference computes it. -/
def bucketOf (x : BitVec 32) : BitVec 32 :=
  Scalar.select (IntOp.cmpi .slt x 16#32) x
    (IntOp.addi 16#32 (List.foldl (fun r n => IntOp.addi r (atLeast x n)) 0#32
      [19#32, 21#32, 24#32, 27#32, 31#32, 35#32, 40#32, 46#32, 52#32, 59#32, 67#32, 77#32, 87#32, 99#32, 113#32]))

theorem v87_eq (i : S896x896.Idx) : val_main_v87 (F := Ideal) i = bucketOf (val_main_v21 (F := Ideal) i) := by
  simp only [val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_v84_apply, val_main_v85_apply, val_main_v86_apply, val_main_v87_apply, val_main_c_apply, val_main_c_1_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_c_13_apply, val_main_c_14_apply, val_main_c_15_apply, val_main_c_16_apply, val_main_c_17_apply, val_main_c_18_apply]
  rfl

/-- The bucket of a distance below the sequence length. -/
theorem bucketOf_eq : ∀ a : Fin 896, bucketOf (BitVec.ofNat 32 a.val) = BitVec.ofNat 32 (bkt a.val) := by
  decide +kernel

/-- The distance, zero for a later key. -/
theorem v21_eq (i : S896x896.Idx) : val_main_v21 (F := Ideal) i = BitVec.ofNat 32 ((i 0).val - (i 1).val) := by
  have h0 : (i 0).val < 896 := (i 0).isLt
  have h1 : (i 1).val < 896 := (i 1).isLt
  simp only [val_main_v21_apply, val_main_v20_apply, val_main_v19_apply, val_main_v18_apply, val_main_v17_apply, val_main_v16_apply,
    val_main_v15_apply, val_main_v14_apply, val_main_c_apply]
  show IntOp.maxsi (IntOp.subi (BitVec.ofNat 32 (i 0).val) (BitVec.ofNat 32 (i 1).val)) 0#32 = _
  generalize (i 0).val = q at *
  generalize (i 1).val = k at *
  unfold IntOp.maxsi IntOp.subi
  by_cases h : k ≤ q
  · have e : BitVec.ofNat 32 q - BitVec.ofNat 32 k = BitVec.ofNat 32 (q - k) := by
      apply BitVec.eq_of_toNat_eq
      simp only [BitVec.toNat_sub, BitVec.toNat_ofNat]
      omega
    rw [e]
    split
    · rfl
    · rename_i hs
      have hq : (BitVec.ofNat 32 (q - k)).toInt = (q - k : ℕ) := by
        rw [BitVec.toInt_eq_toNat_of_lt (by simp only [BitVec.toNat_ofNat]; omega)]
        simp only [BitVec.toNat_ofNat]
        omega
      simp only [BitVec.slt, hq, BitVec.toInt_zero, decide_eq_true_eq] at hs
      have : q - k = 0 := by omega
      rw [this]
  · have e : (BitVec.ofNat 32 q - BitVec.ofNat 32 k).toInt = (q : ℤ) - k := by
      rw [BitVec.toInt_eq_toNat_cond]
      simp only [BitVec.toNat_sub, BitVec.toNat_ofNat]
      split <;> omega
    rw [if_neg, show q - k = 0 by omega]
    simp only [BitVec.slt, e, BitVec.toInt_zero, decide_eq_true_eq]
    omega

/-- The bucket of a query and a key. -/
theorem bucket_eq (i : S896x896.Idx) : val_main_v87 (F := Ideal) i = BitVec.ofNat 32 (bkt ((i 0).val - (i 1).val)) := by
  have h0 : (i 0).val < 896 := (i 0).isLt
  rw [v87_eq, v21_eq]
  exact bucketOf_eq ⟨(i 0).val - (i 1).val, by omega⟩

/-- The bucket the gather reads: the wrap of a negative index leaves it. -/
theorem v100_eq (i : S896x896.Idx) : val_main_v100 (F := Ideal) i = BitVec.ofNat 32 (bkt ((i 0).val - (i 1).val)) := by
  have hb : bkt ((i 0).val - (i 1).val) < 32 := bkt_lt _
  simp only [val_main_v100_apply, val_main_v99_apply, val_main_v98_apply, val_main_v97_apply, val_main_v96_apply, val_main_c_19_apply, val_main_c_20_apply, bucket_eq]
  generalize bkt ((i 0).val - (i 1).val) = n at *
  revert n
  decide +kernel

/-- The bias of a query and a key. -/
theorem v102_eq (x8 : S20x32.Idx → EReal) (h : Fin 20) (q k : Fin 896) :
    val_main_v102 (F := Ideal) x8 (ix3 h q k) = x8 (ix2 h (Fin.ofNat 32 (bkt (q.val - k.val)))) := by
  unfold val_main_v102 Host.gather
  refine congrArg x8 (funext fun a => Fin.ext ?_)
  have hb : bkt (q.val - k.val) < 32 := bkt_lt _
  have hv : ∀ j : S896x896x1.Idx, (j 0).val = q.val → (j 1).val = k.val → (val_main_v101 (F := Ideal) j).toInt.toNat = bkt (q.val - k.val) := by
    intro j e0 e1
    rw [val_main_v101_apply, v100_eq]
    show (BitVec.ofNat 32 (bkt ((j 0).val - (j 1).val))).toInt.toNat = _
    rw [e0, e1, BitVec.toInt_eq_toNat_of_lt (by simp only [BitVec.toNat_ofNat]; omega), BitVec.toNat_ofNat, Int.toNat_natCast]
    omega
  generalize val_main_v101 (F := Ideal) = y at *
  show GatherDims.start gather_S20x32_S896x896x1_S20x896x896_0_1_n_n_1_2_201 (ix3 h q k) y a
    + GatherDims.batchCoord gather_S20x32_S896x896x1_S20x896x896_0_1_n_n_1_2_201 (ix3 h q k) a
    + GatherDims.offCoord gather_S20x32_S896x896x1_S20x896x896_0_1_n_n_1_2_201 (ix3 h q k) a = _
  rw [GatherDims.batchCoord_eq_zero _ _ _ List.not_mem_nil]
  match a with
  | ⟨0, _⟩ =>
    have es : GatherDims.start gather_S20x32_S896x896x1_S20x896x896_0_1_n_n_1_2_201 (ix3 h q k) y 0 = 0 := by
      unfold GatherDims.start
      rw [dif_neg (by decide)]
    have eo : GatherDims.offCoord gather_S20x32_S896x896x1_S20x896x896_0_1_n_n_1_2_201 (ix3 h q k) 0 = h.val := by
      unfold GatherDims.offCoord
      rw [dif_pos (by decide)]
      rfl
    exact (congrArg₂ (fun u w => u + 0 + w) es eo).trans (by simp)
  | ⟨1, _⟩ =>
    have eo : GatherDims.offCoord gather_S20x32_S896x896x1_S20x896x896_0_1_n_n_1_2_201 (ix3 h q k) 1 = 0 :=
      GatherDims.offCoord_eq_zero _ _ _ (by decide)
    have es : GatherDims.start gather_S20x32_S896x896x1_S20x896x896_0_1_n_n_1_2_201 (ix3 h q k) y 1 = bkt (q.val - k.val) := by
      unfold GatherDims.start
      rw [dif_pos (by decide)]
      rw [hv _ rfl rfl]
      show min (bkt (q.val - k.val)) 31 = _
      omega
    refine (congrArg₂ (fun u w => u + 0 + w) es eo).trans ?_
    show bkt (q.val - k.val) + 0 + 0 = bkt (q.val - k.val) % 32
    omega

/-- A key no later than the query. -/
theorem v92_eq (i : S896x896.Idx) : val_main_v92 (F := Ideal) i = BitVec.ofBool (decide ((i 1).val ≤ (i 0).val)) := by
  have h0 : (i 0).val < 896 := (i 0).isLt
  have h1 : (i 1).val < 896 := (i 1).isLt
  simp only [val_main_v92_apply, val_main_v91_apply, val_main_v90_apply, val_main_v89_apply, val_main_v88_apply, val_main_v14_apply]
  show BitVec.ofBool ((BitVec.ofNat 32 (i 1).val).sle (BitVec.ofNat 32 (i 0).val)) = _
  refine congrArg BitVec.ofBool ?_
  generalize (i 0).val = q at *
  generalize (i 1).val = k at *
  unfold BitVec.sle
  rw [BitVec.toInt_eq_toNat_of_lt (by simp only [BitVec.toNat_ofNat]; omega), BitVec.toInt_eq_toNat_of_lt (by simp only [BitVec.toNat_ofNat]; omega)]
  simp only [BitVec.toNat_ofNat]
  rw [Nat.mod_eq_of_lt (by omega), Nat.mod_eq_of_lt (by omega)]
  simp only [Nat.cast_le]

end Cert.ReferenceIdeal.Read
-- ==== Proof.RefVal.lean ====
/-
  The reference's three gradients, read at an index: the matrices `RDQ`, `RDK` and `RDV` of the index's batch and head.
-/
module

public import proofs.«01_k».proof.Proof.Args
public import proofs.«01_k».proof.Proof.RefInt
public import Idealize.ShloMosaic.Lib.KernelVsHost

@[expose] public section

set_option maxRecDepth 16384

noncomputable section

namespace Cert.ReferenceIdeal.Read

open Idealize.ShloMosaic Idealize.ShloMosaic.ValueIdx Idealize.SL.Sem Cert.ReferenceIdeal Cert.KernelIdeal.Tiles Cert.KernelIdeal.Gen

variable (x3 x4 x5 x7 : S2x20.Idx → EReal) (x8 : S20x32.Idx → EReal) (r0 r1 r2 r3 : S2x896x20x128.Idx → EReal) (b : Fin 2) (h : Fin 20)

/-- A batch and a head. -/
theorem at2 (j : S2x20.Idx) (h0 : (j 0).val = b.val) (h1 : (j 1).val = h.val) : j = ix2 b h := funext fun a => Fin.ext (by
  match a with
  | ⟨0, _⟩ => exact h0
  | ⟨1, _⟩ => exact h1)

/-- A place of the codes. -/
theorem at4 (j : S2x896x20x128.Idx) (h0 : (j 0).val = b.val) (h2 : (j 2).val = h.val) :
    j = ix4 b (Fin.ofNat 896 (j 1).val) h (Fin.ofNat 128 (j 3).val) := funext fun a => Fin.ext (by
  match a with
  | ⟨0, _⟩ => exact h0
  | ⟨1, _⟩ => exact (Nat.mod_eq_of_lt (j 1).isLt).symm
  | ⟨2, _⟩ => exact h2
  | ⟨3, _⟩ => exact (Nat.mod_eq_of_lt (j 3).isLt).symm)

theorem r_v1 (i : S2x20x896x128.Idx) (h0 : (i 0).val = b.val) (h1 : (i 1).val = h.val) :
    val_main_v1 (F := Ideal) r0 i = (ctx r0 r1 r2 x3 x4 x5 r3 x7 x8 b h).Q (i 2).val (i 3).val := by
  rw [val_main_v1_apply]
  exact congrArg r0 (at4 b h _ h0 h1)

theorem r_v2 (i : S2x20x896x128.Idx) (h0 : (i 0).val = b.val) (h1 : (i 1).val = h.val) :
    val_main_v2 (F := Ideal) r1 i = (ctx r0 r1 r2 x3 x4 x5 r3 x7 x8 b h).K (i 2).val (i 3).val := by
  rw [val_main_v2_apply]
  exact congrArg r1 (at4 b h _ h0 h1)

theorem r_v3 (i : S2x20x896x128.Idx) (h0 : (i 0).val = b.val) (h1 : (i 1).val = h.val) :
    val_main_v3 (F := Ideal) r2 i = (ctx r0 r1 r2 x3 x4 x5 r3 x7 x8 b h).V (i 2).val (i 3).val := by
  rw [val_main_v3_apply]
  exact congrArg r2 (at4 b h _ h0 h1)

theorem r_v4 (i : S2x20x896x128.Idx) (h0 : (i 0).val = b.val) (h1 : (i 1).val = h.val) :
    val_main_v4 (F := Ideal) r3 i = (ctx r0 r1 r2 x3 x4 x5 r3 x7 x8 b h).DO (i 2).val (i 3).val := by
  rw [val_main_v4_apply]
  exact congrArg r3 (at4 b h _ h0 h1)

theorem r_v94 (i : S2x20x896x896.Idx) (h0 : (i 0).val = b.val) (h1 : (i 1).val = h.val) :
    val_main_v94 (F := Ideal) x3 x4 i = Ctx.ss * (ctx r0 r1 r2 x3 x4 x5 r3 x7 x8 b h).qs * (ctx r0 r1 r2 x3 x4 x5 r3 x7 x8 b h).ks := by
  simp only [val_main_v94_apply, val_main_v8_apply, val_main_v7_apply, val_main_v6_apply, val_main_v5_apply, val_main_cst_apply]
  rw [at2 b h (idx_main_v8 _) h0 h1]
  rfl

theorem r_v119 (i : S2x20x896x896.Idx) (h0 : (i 0).val = b.val) (h1 : (i 1).val = h.val) :
    val_main_v119 (F := Ideal) x5 x7 i = (ctx r0 r1 r2 x3 x4 x5 r3 x7 x8 b h).os * (ctx r0 r1 r2 x3 x4 x5 r3 x7 x8 b h).vs := by
  simp only [val_main_v119_apply, val_main_v10_apply, val_main_v9_apply]
  rw [at2 b h (idx_main_v10 _) h0 h1]
  rfl

theorem r_v132 (i : S2x20x896x128.Idx) (h0 : (i 0).val = b.val) (h1 : (i 1).val = h.val) :
    val_main_v132 (F := Ideal) x4 i = Ctx.ss * (ctx r0 r1 r2 x3 x4 x5 r3 x7 x8 b h).ks := by
  simp only [val_main_v132_apply, val_main_v13_apply, val_main_v12_apply, val_main_v11_apply, val_main_cst_0_apply]
  rw [at2 b h (idx_main_v13 _) h0 h1]
  rfl

theorem r_v147 (i : S2x20x896x128.Idx) (h0 : (i 0).val = b.val) (h1 : (i 1).val = h.val) :
    val_main_v147 (F := Ideal) x3 i = Ctx.ss * (ctx r0 r1 r2 x3 x4 x5 r3 x7 x8 b h).qs := by
  simp only [val_main_v147_apply, val_main_v146_apply, val_main_v145_apply, val_main_v144_apply, val_main_cst_27_apply]
  rw [at2 b h (idx_main_v146 _) h0 h1]
  rfl

theorem r_v151 (i : S2x20x896x128.Idx) (h0 : (i 0).val = b.val) (h1 : (i 1).val = h.val) :
    val_main_v151 (F := Ideal) x7 i = (ctx r0 r1 r2 x3 x4 x5 r3 x7 x8 b h).os := by
  simp only [val_main_v151_apply, val_main_v150_apply]
  rw [at2 b h (idx_main_v150 _) h0 h1]
  rfl

/-- The scores before scaling. -/
theorem r_v93 (i : S2x20x896x896.Idx) (h0 : (i 0).val = b.val) (h1 : (i 1).val = h.val) :
    val_main_v93 (F := Ideal) r0 r1 i = ∑ d ∈ Finset.range 128, (ctx r0 r1 r2 x3 x4 x5 r3 x7 x8 b h).Q (i 2).val d * (ctx r0 r1 r2 x3 x4 x5 r3 x7 x8 b h).K (i 3).val d := by
  rw [val_main_v93_apply, Finset.sum_range]
  exact Finset.sum_congr rfl fun d _ => congrArg₂ (· * ·) (r_v1 x3 x4 x5 x7 x8 r0 r1 r2 r3 b h _ h0 h1) (r_v2 x3 x4 x5 x7 x8 r0 r1 r2 r3 b h _ h0 h1)

/-- The bias of a head's query and key. -/
theorem r_v104 (i : S2x20x896x896.Idx) (h0 : (i 0).val = b.val) (h1 : (i 1).val = h.val) :
    val_main_v104 (F := Ideal) x8 i = (biasAt x8 h) (bkt ((i 2).val - (i 3).val)) := by
  rw [val_main_v104_apply, val_main_v103_apply]
  have e : idx_main_v103 (idx_main_v104 i) = ix3 h (⟨(i 2).val, (i 2).isLt⟩ : Fin 896) (⟨(i 3).val, (i 3).isLt⟩ : Fin 896) := funext fun a => Fin.ext (by
    match a with
    | ⟨0, _⟩ => exact h1
    | ⟨1, _⟩ => rfl
    | ⟨2, _⟩ => rfl)
  exact (congrArg (val_main_v102 (F := Ideal) x8) e).trans (v102_eq x8 h _ _)

/-- A query's scores. -/
theorem r_v106 (i : S2x20x896x896.Idx) (h0 : (i 0).val = b.val) (h1 : (i 1).val = h.val) :
    val_main_v106 (F := Ideal) x3 x4 x8 r0 r1 i = (ctx r0 r1 r2 x3 x4 x5 r3 x7 x8 b h).RX (biasAt x8 h) (i 2).val (i 3).val := by
  rw [val_main_v106_apply, val_main_v105_apply, val_main_v95_apply, val_main_call1_v2_apply, val_main_call1_v0_apply, val_main_cst_21_apply,
    val_main_call1_v1_apply, v92_eq, r_v93 x3 x4 x5 x7 x8 r0 r1 r2 r3 b h i h0 h1, r_v94 x3 x4 x5 x7 x8 r0 r1 r2 r3 b h i h0 h1, r_v104 x8 b h i h0 h1]
  unfold Ctx.RX
  show (if BitVec.ofBool (decide ((i 3).val ≤ (i 2).val)) = 1 then _ else Ideal.ofBits .f32 0xFF800000#32) = _
  rw [ofBits_neg_inf]
  by_cases hk : (i 3).val ≤ (i 2).val
  · rw [if_pos hk, decide_eq_true hk]
    exact if_pos (show BitVec.ofBool true = 1 from rfl)
  · rw [if_neg hk, decide_eq_false hk]
    exact if_neg (show ¬BitVec.ofBool false = 1 by decide)

/-- The maximum over the keys. -/
theorem rowMax (X : S2x20x896x896.Idx → EReal) (hr : S2x20x896x896.Reduces [3] S2x20x896) (hφ : FKind.Formats .f32)
    (hacc : (0xFF800000#32 : BitVec 32) = FKind.maximumf.neutral .f32 hφ) (i : S2x20x896.Idx) :
    multiReduction (F := Ideal) (φ := .f32) .maximumf [3] S2x20x896 X 0xFF800000#32 hr hφ hacc i
      = (Finset.univ : Finset (Fin 896)).sup fun k => X (idx_main_v112 i k) := by
  rw [Ideal.multiReduction_maximumf_single]
  show (Finset.univ : Finset (Fin 896)).fold max (Ideal.ofBits .f32 0xFF800000#32) _ = _
  rw [ofBits_neg_inf]
  refine (fold_max_eq_sup _ _).trans ?_
  refine Finset.sup_congr rfl fun (k : Fin 896) _ => ?_
  have e : hr.lift i k = idx_main_v112 i k := by
    funext d; apply Fin.ext
    match d with
    | ⟨0, _⟩ => rfl
    | ⟨1, _⟩ => rfl
    | ⟨2, _⟩ => rfl
    | ⟨3, _⟩ => rfl
  exact congrArg X e

/-- A query's greatest score. -/
theorem r_v107 (i : S2x20x896.Idx) (h0 : (i 0).val = b.val) (h1 : (i 1).val = h.val) :
    val_main_v107 (F := Ideal) x3 x4 x8 r0 r1 i = (ctx r0 r1 r2 x3 x4 x5 r3 x7 x8 b h).RM (biasAt x8 h) (i 2).val := by
  have hr : S2x20x896x896.Reduces [3] S2x20x896 := ⟨rfl, by decide, by decide⟩
  unfold val_main_v107 val_main_cst_22
  have hx := fun j h0 h1 => r_v106 x3 x4 x5 x7 x8 r0 r1 r2 r3 b h j h0 h1
  generalize val_main_v106 (F := Ideal) x3 x4 x8 r0 r1 = X at hx ⊢
  refine (congrFun (hostReduce_maximumf_eq_multiReduction (F := Ideal) (φ := .f32) X 0xFF800000#32 Gen.reducesTo_S2x20x896x896_S2x20x896_d3 Gen.h_S_ hr (.inl rfl) rfl) i).trans ?_
  exact (rowMax X hr (.inl rfl) rfl i).trans (Finset.sup_congr rfl fun k _ => hx _ h0 h1) |>.trans (sup_fin_eq_range 896 _)

/-- The weights before normalizing. -/
theorem r_v111 (i : S2x20x896x896.Idx) (h0 : (i 0).val = b.val) (h1 : (i 1).val = h.val) :
    val_main_v111 (F := Ideal) x3 x4 x8 r0 r1 i = (ctx r0 r1 r2 x3 x4 x5 r3 x7 x8 b h).RE (biasAt x8 h) (i 2).val (i 3).val := by
  rw [val_main_v111_apply, val_main_v110_apply, val_main_v109_apply, val_main_v108_apply, r_v106 x3 x4 x5 x7 x8 r0 r1 r2 r3 b h i h0 h1,
    r_v107 x3 x4 x5 x7 x8 r0 r1 r2 r3 b h _ h0 h1]
  rfl

/-- A query's total weight. -/
theorem r_v112 (i : S2x20x896.Idx) (h0 : (i 0).val = b.val) (h1 : (i 1).val = h.val) :
    val_main_v112 (F := Ideal) x3 x4 x8 r0 r1 i = (ctx r0 r1 r2 x3 x4 x5 r3 x7 x8 b h).RL' (biasAt x8 h) (i 2).val := by
  rw [val_main_v112_apply, val_main_cst_23_apply]
  unfold Ctx.RL'
  rw [Finset.sum_range]
  show Ideal.ofBits .f32 0x00000000#32 + _ = _
  rw [Ideal.ofBits_zero_f32, zero_add]
  exact Finset.sum_congr rfl fun k _ => r_v111 x3 x4 x5 x7 x8 r0 r1 r2 r3 b h _ h0 h1

/-- The softmax weights. -/
theorem r_v117 (i : S2x20x896x896.Idx) (h0 : (i 0).val = b.val) (h1 : (i 1).val = h.val) :
    val_main_v117 (F := Ideal) x3 x4 x8 r0 r1 i = (ctx r0 r1 r2 x3 x4 x5 r3 x7 x8 b h).RP (biasAt x8 h) (i 2).val (i 3).val := by
  rw [val_main_v117_apply, val_main_v116_apply, val_main_v115_apply, val_main_v114_apply, val_main_v113_apply, val_main_cst_24_apply,
    r_v111 x3 x4 x5 x7 x8 r0 r1 r2 r3 b h i h0 h1, r_v112 x3 x4 x5 x7 x8 r0 r1 r2 r3 b h _ h0 h1]
  unfold Ctx.RP
  show _ * Ideal.div (Ideal.ofBits .f32 0x3F800000#32) _ = _
  rw [Ideal.ofBits_one_f32]

/-- The weights' gradients. -/
theorem r_v120 (i : S2x20x896x896.Idx) (h0 : (i 0).val = b.val) (h1 : (i 1).val = h.val) :
    val_main_v120 (F := Ideal) x5 x7 r2 r3 i = (ctx r0 r1 r2 x3 x4 x5 r3 x7 x8 b h).RDP (i 2).val (i 3).val := by
  rw [val_main_v120_apply, val_main_v118_apply, r_v119 x3 x4 x5 x7 x8 r0 r1 r2 r3 b h i h0 h1]
  unfold Ctx.RDP
  rw [Finset.sum_range]
  exact congrArg (· * _) (Finset.sum_congr rfl fun d _ => congrArg₂ (· * ·) (r_v4 x3 x4 x5 x7 x8 r0 r1 r2 r3 b h _ h0 h1) (r_v3 x3 x4 x5 x7 x8 r0 r1 r2 r3 b h _ h0 h1))

/-- A query's mean weight gradient. -/
theorem r_v122 (i : S2x20x896.Idx) (h0 : (i 0).val = b.val) (h1 : (i 1).val = h.val) :
    val_main_v122 (F := Ideal) x3 x4 x5 x7 x8 r0 r1 r2 r3 i = (ctx r0 r1 r2 x3 x4 x5 r3 x7 x8 b h).RDR (biasAt x8 h) (i 2).val := by
  rw [val_main_v122_apply, val_main_cst_25_apply]
  unfold Ctx.RDR
  rw [Finset.sum_range]
  show Ideal.ofBits .f32 0x00000000#32 + _ = _
  rw [Ideal.ofBits_zero_f32, zero_add]
  refine Finset.sum_congr rfl fun k _ => ?_
  rw [val_main_v121_apply, r_v117 x3 x4 x5 x7 x8 r0 r1 r2 r3 b h _ h0 h1, r_v120 x3 x4 x5 x7 x8 r0 r1 r2 r3 b h _ h0 h1]
  rfl

/-- The scores' gradients. -/
theorem r_v126 (i : S2x20x896x896.Idx) (h0 : (i 0).val = b.val) (h1 : (i 1).val = h.val) :
    val_main_v126 (F := Ideal) x3 x4 x5 x7 x8 r0 r1 r2 r3 i = (ctx r0 r1 r2 x3 x4 x5 r3 x7 x8 b h).RDS (biasAt x8 h) (i 2).val (i 3).val := by
  rw [val_main_v126_apply, val_main_v125_apply, val_main_v124_apply, val_main_v123_apply, r_v117 x3 x4 x5 x7 x8 r0 r1 r2 r3 b h i h0 h1,
    r_v120 x3 x4 x5 x7 x8 r0 r1 r2 r3 b h i h0 h1, r_v122 x3 x4 x5 x7 x8 r0 r1 r2 r3 b h _ h0 h1]
  rfl

/-- The queries' gradient. -/
theorem r_v134 (i : S2x20x896x128.Idx) (h0 : (i 0).val = b.val) (h1 : (i 1).val = h.val) :
    val_main_v134 (F := Ideal) x3 x4 x5 x7 x8 r0 r1 r2 r3 i = (ctx r0 r1 r2 x3 x4 x5 r3 x7 x8 b h).RDQ (biasAt x8 h) (i 2).val (i 3).val := by
  rw [val_main_v134_apply, val_main_v133_apply, val_main_v131_apply, r_v132 x3 x4 x5 x7 x8 r0 r1 r2 r3 b h i h0 h1]
  unfold Ctx.RDQ
  rw [Finset.sum_range]
  exact congrArg (· * _) (Finset.sum_congr rfl fun k _ => congrArg₂ (· * ·) (r_v126 x3 x4 x5 x7 x8 r0 r1 r2 r3 b h _ h0 h1) (r_v2 x3 x4 x5 x7 x8 r0 r1 r2 r3 b h _ h0 h1))

/-- The keys' gradient. -/
theorem r_v149 (i : S2x20x896x128.Idx) (h0 : (i 0).val = b.val) (h1 : (i 1).val = h.val) :
    val_main_v149 (F := Ideal) x3 x4 x5 x7 x8 r0 r1 r2 r3 i = (ctx r0 r1 r2 x3 x4 x5 r3 x7 x8 b h).RDK (biasAt x8 h) (i 2).val (i 3).val := by
  rw [val_main_v149_apply, val_main_v148_apply, val_main_v130_apply, r_v147 x3 x4 x5 x7 x8 r0 r1 r2 r3 b h i h0 h1]
  unfold Ctx.RDK
  rw [Finset.sum_range]
  exact congrArg (· * _) (Finset.sum_congr rfl fun k _ => congrArg₂ (· * ·) (r_v126 x3 x4 x5 x7 x8 r0 r1 r2 r3 b h _ h0 h1) (r_v1 x3 x4 x5 x7 x8 r0 r1 r2 r3 b h _ h0 h1))

/-- The values' gradient. -/
theorem r_v153 (i : S2x20x896x128.Idx) (h0 : (i 0).val = b.val) (h1 : (i 1).val = h.val) :
    val_main_v153 (F := Ideal) x3 x4 x7 x8 r0 r1 r3 i = (ctx r0 r1 r2 x3 x4 x5 r3 x7 x8 b h).RDV (biasAt x8 h) (i 2).val (i 3).val := by
  rw [val_main_v153_apply, val_main_v152_apply, val_main_v129_apply, r_v151 x3 x4 x5 x7 x8 r0 r1 r2 r3 b h i h0 h1]
  unfold Ctx.RDV
  rw [Finset.sum_range]
  exact congrArg (· * _) (Finset.sum_congr rfl fun k _ => congrArg₂ (· * ·) (r_v117 x3 x4 x5 x7 x8 r0 r1 r2 r3 b h _ h0 h1) (r_v4 x3 x4 x5 x7 x8 r0 r1 r2 r3 b h _ h0 h1))

end Cert.ReferenceIdeal.Read
-- ==== Proof.RefBias.lean ====
/-
  The reference's bias gradient, read at an index: the sum over the queries and keys of a bucket, both batches together.
-/
module

public import proofs.«01_k».proof.Proof.RefVal
import Idealize.ShloMosaic.Lib.KernelVsHost
import Idealize.ShloMosaic.Lib.TwoAxisContraction

@[expose] public section

set_option maxRecDepth 16384

noncomputable section

namespace Cert.ReferenceIdeal.Read

open Idealize.ShloMosaic Idealize.ShloMosaic.ValueIdx Idealize.SL.Sem Cert.ReferenceIdeal Cert.KernelIdeal.Tiles Cert.KernelIdeal.Gen
open scoped BigOperators

/-- The indicator of a bucket. -/
theorem r_v142 (i : S896x896x32.Idx) : val_main_v142 (F := Ideal) i = if bkt ((i 0).val - (i 1).val) = (i 2).val then (1 : EReal) else 0 := by
  have hb : bkt ((i 0).val - (i 1).val) < 32 := bkt_lt _
  have hn : (i 2).val < 32 := (i 2).isLt
  rw [val_main_v142_apply, val_main_v141_apply, val_main_v139_apply, val_main_v140_apply, val_main_v136_apply, val_main_v138_apply, val_main_v137_apply, bucket_eq]
  show FloatOps.uitofp (F := Ideal) .f32 (IntOp.cmpi .eq (BitVec.ofNat 32 (bkt ((i 0).val - (i 1).val))) (BitVec.ofNat 32 (i 2).val)) = _
  generalize bkt ((i 0).val - (i 1).val) = a at *
  generalize (i 2).val = n at *
  have e : IntOp.cmpi .eq (BitVec.ofNat 32 a) (BitVec.ofNat 32 n) = BitVec.ofBool (decide (a = n)) := by
    refine congrArg BitVec.ofBool ?_
    rw [Bool.eq_iff_iff, beq_iff_eq, decide_eq_true_eq]
    refine ⟨fun h => ?_, fun h => by rw [h]⟩
    have := congrArg BitVec.toNat h
    simp only [BitVec.toNat_ofNat] at this
    omega
  rw [e]
  by_cases h : a = n
  · rw [if_pos h, decide_eq_true h]
    show (((1 : ℕ) : ℝ) : EReal) = 1
    simp
  · rw [if_neg h, decide_eq_false h]
    show (((0 : ℕ) : ℝ) : EReal) = 0
    simp

variable (x3 x4 x5 x7 : S2x20.Idx → EReal) (x8 : S20x32.Idx → EReal) (r0 r1 r2 r3 : S2x896x20x128.Idx → EReal) (h : Fin 20)

/-- The scores' gradients, both batches together. -/
theorem r_v135 (i : S20x896x896.Idx) (h0 : (i 0).val = h.val) :
    val_main_v135 (F := Ideal) x3 x4 x5 x7 x8 r0 r1 r2 r3 i
      = (ctx r0 r1 r2 x3 x4 x5 r3 x7 x8 0 h).RDS (biasAt x8 h) (i 1).val (i 2).val + (ctx r0 r1 r2 x3 x4 x5 r3 x7 x8 1 h).RDS (biasAt x8 h) (i 1).val (i 2).val := by
  rw [val_main_v135_apply, val_main_cst_26_apply, Fin.sum_univ_two]
  show Ideal.ofBits .f32 0x00000000#32 + _ = _
  rw [Ideal.ofBits_zero_f32, zero_add, r_v126 x3 x4 x5 x7 x8 r0 r1 r2 r3 0 h _ rfl h0, r_v126 x3 x4 x5 x7 x8 r0 r1 r2 r3 1 h _ rfl h0]

/-- The sum over a bucket. -/
def RDB (l : ℕ) : EReal := ∑ q ∈ Finset.range 896, ∑ k ∈ Finset.range 896,
  if bkt (q - k) = l then (ctx r0 r1 r2 x3 x4 x5 r3 x7 x8 0 h).RDS (biasAt x8 h) q k + (ctx r0 r1 r2 x3 x4 x5 r3 x7 x8 1 h).RDS (biasAt x8 h) q k else 0

/-- The bias gradient, bucket by bucket. -/
theorem r_v143 (n : Fin 32) : val_main_v143 (F := Ideal) x3 x4 x5 x7 x8 r0 r1 r2 r3 (ix2 h n) = RDB x3 x4 x5 x7 x8 r0 r1 r2 r3 h n.val := by
  unfold val_main_v143
  simp only [Host.dotGeneral]
  rw [Ideal.dotGeneral_apply, sum_contr2 dot_S20x896x896_S896x896x32_S20x32_21_10_0_2_n_n 896 896 rfl rfl rfl, Finset.sum_comm]
  unfold RDB
  rw [Finset.sum_range]
  refine Finset.sum_congr rfl fun q _ => ?_
  rw [Finset.sum_range]
  refine Finset.sum_congr rfl fun k _ => ?_
  have e0 := contrEquiv2_symm_val0 dot_S20x896x896_S896x896x32_S20x32_21_10_0_2_n_n 896 896 rfl rfl rfl (k, q)
  have e1 := contrEquiv2_symm_val1 dot_S20x896x896_S896x896x32_S20x32_21_10_0_2_n_n 896 896 rfl rfl rfl (k, q)
  generalize (contrEquiv2 dot_S20x896x896_S896x896x32_S20x32_21_10_0_2_n_n 896 896 rfl rfl rfl).symm (k, q) = z at *
  have el : dot_S20x896x896_S896x896x32_S20x32_21_10_0_2_n_n.lhsIdx (ix2 h n) z = (ix3 h q k : S20x896x896.Idx) := by
    funext a; apply Fin.ext
    match a with
    | ⟨0, _⟩ => rfl
    | ⟨1, _⟩ => exact e1
    | ⟨2, _⟩ => exact e0
  have er : dot_S20x896x896_S896x896x32_S20x32_21_10_0_2_n_n.rhsIdx (ix2 h n) z = (ix3 q k n : S896x896x32.Idx) := by
    funext a; apply Fin.ext
    match a with
    | ⟨0, _⟩ => exact e1
    | ⟨1, _⟩ => exact e0
    | ⟨2, _⟩ => rfl
  rw [el, er, r_v142, r_v135 x3 x4 x5 x7 x8 r0 r1 r2 r3 h (ix3 h q k) rfl]
  show _ * (if bkt (q.val - k.val) = n.val then (1 : EReal) else 0) = _
  by_cases e : bkt (q.val - k.val) = n.val
  · rw [if_pos e, if_pos e, mul_one]
  · rw [if_neg e, if_neg e, mul_zero]

/-- The bias gradient, lane by lane: zero past the buckets. -/
theorem r_v155 (i : S20x1x128.Idx) (h0 : (i 0).val = h.val) :
    val_main_v155 (F := Ideal) x3 x4 x5 x7 x8 r0 r1 r2 r3 i = RDB x3 x4 x5 x7 x8 r0 r1 r2 r3 h (i 2).val := by
  rw [val_main_v155_apply]
  unfold val_main_v154
  by_cases hl : (i 2).val < 32
  · rw [pad_apply_of_inside _ _ _ _ _ _ _ (idx_main_v155 i) (ix2 h (⟨(i 2).val, hl⟩ : Fin 32)) (fun a => by
      match a with
      | ⟨0, _⟩ => show (i 0).val = 0 + h.val * (0 + 1); omega
      | ⟨1, _⟩ => show (i 2).val = 0 + (i 2).val * (0 + 1); omega)]
    exact r_v143 x3 x4 x5 x7 x8 r0 r1 r2 r3 h _
  · rw [pad_apply_of_not_inside _ _ _ _ _ _ _ _ (1 : Fin 2) (by
      intro hin
      have e : ((i 2).val - 0) / (0 + 1) < 32 := hin.2.2
      omega)]
    rw [val_main_call2_v0_apply]
    refine Eq.trans (b := 0) ?_ ?_
    · show (((0#32 : BitVec 32).toInt : ℝ) : EReal) = 0
      simp
    · unfold RDB
      refine (Finset.sum_eq_zero fun q _ => Finset.sum_eq_zero fun k _ => if_neg ?_).symm
      have := bkt_lt (q - k)
      omega

end Cert.ReferenceIdeal.Read
-- ==== Proof.Regs.lean ====
/-
  The widening call of the reference leaves the codes themselves.
-/
module

public import proofs.«01_k».proof.Proof.Gen.ReferenceIdeal.Run
public import Idealize.ShloMosaic.Lib.Pipeline.Value
public import Idealize.ShloMosaic.PureOps.Ideal

@[expose] public section

set_option maxRecDepth 16384

noncomputable section

namespace Cert.ReferenceIdeal.Gen

open Idealize.ShloMosaic Idealize.ShloMosaic.TcCoe Idealize.SL Idealize.SL.Sem Cert.ReferenceIdeal

variable (m : (ℓ : Loc nD τ sig) → Buf (Elt Ideal) ℓ)

/-- Four zero offsets. -/
theorem zeros4 : (![0, 0, 0, 0] : Fin 4 → ℕ) = fun _ => 0 := by
  funext a; match a with | ⟨0, _⟩ => rfl | ⟨1, _⟩ => rfl | ⟨2, _⟩ => rfl | ⟨3, _⟩ => rfl

/-- The widened queries are the queries. -/
theorem reg0 (c : Dev nD) : Value.reg_main_v0_0 m c = (fun i => m ((c.tc : Thread nD τ).loc main_arg0) i : S2x896x20x128.Idx → EReal) := by
  refine (dats m 0 c).arrAt_eq_of_cover 4 _ (fun t _ => ?_) fun i => ⟨⟨0, Nat.one_pos⟩, flush0_4 _, ?_⟩
  · show (cfg0.win 4).cut (grid0.coords t) ((dats m 0 c).after 4 t) = _
    rw [after0_4]
    unfold out0_4 r0_0
    rw [View.canon_unit_zero (S := S2x896x20x128) zeros4, View.ld_unit_zero (S := S2x896x20x128) zeros4]
    rfl
  · show i ∈ ((View.whole main_v0_0).slice (win0_4.rect ⟨0, Nat.one_pos⟩)).set
    rw [View.set_slice_whole, Rect.mem_set_unit]
    intro a
    exact ⟨(Nat.zero_mul _).le.trans (Nat.zero_le _), by
      match a with
      | ⟨0, _⟩ => exact (i 0).isLt
      | ⟨1, _⟩ => exact (i 1).isLt
      | ⟨2, _⟩ => exact (i 2).isLt
      | ⟨3, _⟩ => exact (i 3).isLt⟩

/-- The widened keys are the keys. -/
theorem reg1 (c : Dev nD) : Value.reg_main_v0_1 m c = (fun i => m ((c.tc : Thread nD τ).loc main_arg1) i : S2x896x20x128.Idx → EReal) := by
  refine (dats m 0 c).arrAt_eq_of_cover 5 _ (fun t _ => ?_) fun i => ⟨⟨0, Nat.one_pos⟩, flush0_5 _, ?_⟩
  · show (cfg0.win 5).cut (grid0.coords t) ((dats m 0 c).after 5 t) = _
    rw [after0_5]
    unfold out0_5 r0_0
    rw [View.canon_unit_zero (S := S2x896x20x128) zeros4, View.ld_unit_zero (S := S2x896x20x128) zeros4]
    rfl
  · show i ∈ ((View.whole main_v0_1).slice (win0_5.rect ⟨0, Nat.one_pos⟩)).set
    rw [View.set_slice_whole, Rect.mem_set_unit]
    intro a
    exact ⟨(Nat.zero_mul _).le.trans (Nat.zero_le _), by
      match a with
      | ⟨0, _⟩ => exact (i 0).isLt
      | ⟨1, _⟩ => exact (i 1).isLt
      | ⟨2, _⟩ => exact (i 2).isLt
      | ⟨3, _⟩ => exact (i 3).isLt⟩

/-- The widened values are the values. -/
theorem reg2 (c : Dev nD) : Value.reg_main_v0_2 m c = (fun i => m ((c.tc : Thread nD τ).loc main_arg2) i : S2x896x20x128.Idx → EReal) := by
  refine (dats m 0 c).arrAt_eq_of_cover 6 _ (fun t _ => ?_) fun i => ⟨⟨0, Nat.one_pos⟩, flush0_6 _, ?_⟩
  · show (cfg0.win 6).cut (grid0.coords t) ((dats m 0 c).after 6 t) = _
    rw [after0_6]
    unfold out0_6 r0_0
    rw [View.canon_unit_zero (S := S2x896x20x128) zeros4, View.ld_unit_zero (S := S2x896x20x128) zeros4]
    rfl
  · show i ∈ ((View.whole main_v0_2).slice (win0_6.rect ⟨0, Nat.one_pos⟩)).set
    rw [View.set_slice_whole, Rect.mem_set_unit]
    intro a
    exact ⟨(Nat.zero_mul _).le.trans (Nat.zero_le _), by
      match a with
      | ⟨0, _⟩ => exact (i 0).isLt
      | ⟨1, _⟩ => exact (i 1).isLt
      | ⟨2, _⟩ => exact (i 2).isLt
      | ⟨3, _⟩ => exact (i 3).isLt⟩

/-- The widened output gradients are the output gradients. -/
theorem reg3 (c : Dev nD) : Value.reg_main_v0_3 m c = (fun i => m ((c.tc : Thread nD τ).loc main_arg6) i : S2x896x20x128.Idx → EReal) := by
  refine (dats m 0 c).arrAt_eq_of_cover 7 _ (fun t _ => ?_) fun i => ⟨⟨0, Nat.one_pos⟩, flush0_7 _, ?_⟩
  · show (cfg0.win 7).cut (grid0.coords t) ((dats m 0 c).after 7 t) = _
    rw [after0_7]
    unfold out0_7 r0_0
    rw [View.canon_unit_zero (S := S2x896x20x128) zeros4, View.ld_unit_zero (S := S2x896x20x128) zeros4]
    rfl
  · show i ∈ ((View.whole main_v0_3).slice (win0_7.rect ⟨0, Nat.one_pos⟩)).set
    rw [View.set_slice_whole, Rect.mem_set_unit]
    intro a
    exact ⟨(Nat.zero_mul _).le.trans (Nat.zero_le _), by
      match a with
      | ⟨0, _⟩ => exact (i 0).isLt
      | ⟨1, _⟩ => exact (i 1).isLt
      | ⟨2, _⟩ => exact (i 2).isLt
      | ⟨3, _⟩ => exact (i 3).isLt⟩

end Cert.ReferenceIdeal.Gen
-- ==== Proof.Pre.lean ====
/-
  The precondition, read as real numbers.
-/
module

public import proofs.«01_k».proof.Pre_scales_nonneg_far_finite
public import Idealize.ShloMosaic.PureOps.Ideal
public import Idealize.ShloMosaic.Lib.ValueIdxCore
public import Idealize.ShloMosaic.Lib.Pipeline.Value
public import Idealize.ShloMosaic.Lib.ReduceAll
public import Idealize.ShloMosaic.Lib.IdealHost
public import proofs.«01_k».proof.Proof.Tiles

@[expose] public section

set_option maxRecDepth 16384

noncomputable section

namespace Cert.Pre_scales_nonneg_far_finite

open Idealize.ShloMosaic Idealize.ShloMosaic.ValueIdx Cert.Pre_scales_nonneg_far_finite

/-- A conjunction of two bits is set where both are. -/
theorem and_one : ∀ {a b : BitVec 1}, IntOp.andi a b = 1#1 → a = 1#1 ∧ b = 1#1 := by
  unfold IntOp.andi; decide

/-- A decided bit is set where the proposition holds. -/
theorem of_one {p : Prop} [Decidable p] (h : BitVec.ofBool (decide p) = 1#1) : p := by
  by_contra hp
  rw [decide_eq_false hp] at h
  exact absurd h (by decide)

/-- The pattern of plus infinity. -/
theorem ofBits_inf : Ideal.ofBits .f32 0x7F800000#32 = ⊤ := by
  simp [Ideal.ofBits, Ideal.ieee]

/-- An extended real at least zero and below infinity is a nonnegative real. -/
theorem real_of_nonneg (x : EReal) (h : IntOp.andi (Ideal.cmp .oge x (Ideal.ofBits .f32 0x00000000#32)) (Ideal.cmp .olt x (Ideal.ofBits .f32 0x7F800000#32)) = 1#1) :
    ∃ v : ℝ, 0 ≤ v ∧ x = v := by
  obtain ⟨h1, h2⟩ := and_one h
  rw [Ideal.ofBits_zero_f32] at h1
  rw [ofBits_inf] at h2
  have h1 : (0 : EReal) ≤ x := of_one h1
  have h2 : x < ⊤ := of_one h2
  induction x with
  | bot => exact absurd h1 (by simp)
  | top => exact absurd h2 (by simp)
  | coe v => exact ⟨v, EReal.coe_nonneg.1 h1, rfl⟩

/-- An extended real between the infinities is a real. -/
theorem real_of_finite (x : EReal) (h : IntOp.andi (Ideal.cmp .ogt x (Ideal.ofBits .f32 0xFF800000#32)) (Ideal.cmp .olt x (Ideal.ofBits .f32 0x7F800000#32)) = 1#1) :
    ∃ v : ℝ, x = v := by
  obtain ⟨h1, h2⟩ := and_one h
  rw [Cert.KernelIdeal.Tiles.ofBits_neg_inf] at h1
  rw [ofBits_inf] at h2
  have h1 : (⊥ : EReal) < x := of_one h1
  have h2 : x < ⊤ := of_one h2
  induction x with
  | bot => exact absurd h1 (by simp)
  | top => exact absurd h2 (by simp)
  | coe v => exact ⟨v, rfl⟩

instance : Subsingleton S_.Idx := ⟨fun a b => funext fun i => i.elim0⟩

variable [Facts]
open Facts

/-- Where the precondition holds, the values' and output gradients' scales are nonnegative reals and each head's bias at the last bucket a real. -/
theorem reals (x0 x1 x2 x3 x4 x5 x6 x7 x8) (h : fn (F := Ideal) x0 x1 x2 x3 x4 x5 x6 x7 x8 = fun _ => 1#1) :
    (∀ i : S2x20.Idx, ∃ v : ℝ, 0 ≤ v ∧ (x5 i : EReal) = v) ∧ (∀ i : S2x20.Idx, ∃ v : ℝ, 0 ≤ v ∧ (x7 i : EReal) = v)
      ∧ ∀ a : Fin 20, ∃ v : ℝ, (x8 (ix2 a (31 : Fin 32)) : EReal) = v := by
  have h := congrFun h (fun a => a.elim0)
  obtain ⟨h, h3⟩ := and_one h
  obtain ⟨h1, h2⟩ := and_one h
  refine ⟨fun i => real_of_nonneg _ (Host.reduce_andi_all _ _ reducesTo_S2x20_S_d0_1 h_S_ _ h1 i),
    fun i => real_of_nonneg _ (Host.reduce_andi_all _ _ reducesTo_S2x20_S_d0_1 h_S_ _ h2 i), fun a => ?_⟩
  have e := real_of_finite _ (Host.reduce_andi_all _ _ reducesTo_S20_S_d0 h_S_ _ h3 (ix1 a))
  have e2 : shapeCast S20 (extractStridedSlice S20x1 ![0, 31] x8 slices_S20x32_S20x1_0_31) shapeCasts_S20x1_S20 (ix1 a) = x8 (ix2 a (31 : Fin 32)) := by
    rw [shapeCast_apply _ _ (ix1 a) (ix2 a (0 : Fin 1)) (by rw [Shape.rowMajor_val_one, Shape.rowMajor_val_two]; show a.val * 1 + 0 = a.val; omega), extractStridedSlice_apply _ _ _ _ (ix2 a (31 : Fin 32))]
    intro d
    match d with
    | ⟨0, _⟩ => exact (Nat.zero_add _).symm
    | ⟨1, _⟩ => rfl
  rw [← e2]
  exact e

end Cert.Pre_scales_nonneg_far_finite
-- ==== Proof.Results.lean ====
/-
  Both programs' results, read at an index: of the gradients, one matrix entry of one batch and head; of the bias gradient, a
  bucket's sum over both batches.
-/
module

public import proofs.«01_k».proof.Proof.OutsBias
public import proofs.«01_k».proof.Proof.RefBias
public import proofs.«01_k».proof.Proof.Regs
public import proofs.«01_k».proof.Proof.Pre

@[expose] public section

set_option maxRecDepth 16384

noncomputable section

namespace Cert.Proof

open Idealize.ShloMosaic Idealize.ShloMosaic.TcCoe Idealize.ShloMosaic.ValueIdx Idealize.SL Idealize.SL.Sem Cert.KernelIdeal.Tiles Cert.KernelIdeal.Gen

/-- An index is its four coordinates. -/
theorem eta4 (i : Cert.KernelIdeal.S2x20x896x128.Idx) :
    i = ix4 (⟨(i 0).val, (i 0).isLt⟩ : Fin 2) (⟨(i 1).val, (i 1).isLt⟩ : Fin 20) (⟨(i 2).val, (i 2).isLt⟩ : Fin 896) (⟨(i 3).val, (i 3).isLt⟩ : Fin 128) :=
  funext fun a => Fin.ext (by
    match a with
    | ⟨0, _⟩ => rfl
    | ⟨1, _⟩ => rfl
    | ⟨2, _⟩ => rfl
    | ⟨3, _⟩ => rfl)

/-- The sum over a bucket, both batches together. -/
def bucketSum (C D : Ctx) (b : ℕ → EReal) (l : ℕ) : EReal := ∑ q ∈ Finset.range 896, ∑ k ∈ Finset.range 896,
  if bkt (q - k) = l then C.RDS b q k + D.RDS b q k else 0

/-- An index is its head and its lane. -/
theorem eta3 (i : Cert.KernelIdeal.S20x1x128.Idx) : i = ix3 (⟨(i 0).val, (i 0).isLt⟩ : Fin 20) (0 : Fin 1) (⟨(i 2).val, (i 2).isLt⟩ : Fin 128) :=
  funext fun a => Fin.ext (by
    match a with
    | ⟨0, _⟩ => rfl
    | ⟨1, _⟩ => exact Nat.lt_one_iff.1 (i 1).isLt
    | ⟨2, _⟩ => rfl)

/-- What the precondition says of the two scales and the bias. -/
def Good (x5 x7 : Cert.KernelIdeal.S2x20.Idx → EReal) (x8 : Cert.KernelIdeal.S20x32.Idx → EReal) : Prop :=
  (∀ i, ∃ v : ℝ, 0 ≤ v ∧ x5 i = v) ∧ (∀ i, ∃ v : ℝ, 0 ≤ v ∧ x7 i = v) ∧ ∀ a : Fin 20, ∃ v : ℝ, x8 (ix2 a (31 : Fin 32)) = v

/-- Equal arguments give equal data. -/
theorem ctx_congr {x0 x1 x2 y0 y1 y2 : Cert.KernelIdeal.S2x896x20x128.Idx → EReal} {x3 x4 x5 y3 y4 y5 : Cert.KernelIdeal.S2x20.Idx → EReal}
    {x6 y6 : Cert.KernelIdeal.S2x896x20x128.Idx → EReal} {x7 y7 : Cert.KernelIdeal.S2x20.Idx → EReal} {x8 y8 : Cert.KernelIdeal.S20x32.Idx → EReal}
    (e0 : x0 = y0) (e1 : x1 = y1) (e2 : x2 = y2) (e3 : x3 = y3) (e4 : x4 = y4) (e5 : x5 = y5) (e6 : x6 = y6) (e7 : x7 = y7) (e8 : x8 = y8)
    (b : Fin 2) (h : Fin 20) : ctx x0 x1 x2 x3 x4 x5 x6 x7 x8 b h = ctx y0 y1 y2 y3 y4 y5 y6 y7 y8 b h := by
  subst e0 e1 e2 e3 e4 e5 e6 e7 e8; rfl

section
variable (m : (ℓ : Loc Cert.KernelIdeal.nD Cert.KernelIdeal.τ Cert.KernelIdeal.sig) → Buf (Elt Ideal) ℓ) (c : Dev Cert.KernelIdeal.nD)

/-- The bias of a head, at a bucket. -/
abbrev bias (h : Fin 20) : ℕ → EReal := biasAt (m ((c.tc : Thread Cert.KernelIdeal.nD Cert.KernelIdeal.τ).loc Cert.KernelIdeal.main_arg8)) h

/-- The precondition's facts about one batch and head. -/
theorem ok (H : Good (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (b : Fin 2) (h : Fin 20) : ∃ f o v : ℝ, (ctxM m c b h).Ok (bias m c h) f o v := by
  obtain ⟨v, v0, ev⟩ := H.1 (ix2 b h)
  obtain ⟨o, o0, eo⟩ := H.2.1 (ix2 b h)
  obtain ⟨f, ef⟩ := H.2.2 h
  exact ⟨f, o, v, ⟨fun a _ l _ => (show (if a ≤ l then (bias m c h (bkt (l - a)) - bias m c h 31) * (lg : EReal) else ⊥) = _ by
    rw [show bias m c h 31 = f from ef]), ef, eo, ev, o0, v0⟩⟩

/-- The kernel's gradient of the queries. -/
theorem kernel_dq (H : Good (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (i : Cert.KernelIdeal.S2x20x896x128.Idx) :
    Cert.KernelIdeal.Value.G9 m c i
      = (ctxM m c ⟨(i 0).val, (i 0).isLt⟩ ⟨(i 1).val, (i 1).isLt⟩).RDQ (bias m c ⟨(i 1).val, (i 1).isLt⟩) (i 2).val (i 3).val := by
  obtain ⟨f, o, v, H⟩ := ok m c H ⟨(i 0).val, (i 0).isLt⟩ ⟨(i 1).val, (i 1).isLt⟩
  exact (congrArg (Cert.KernelIdeal.Value.G9 m c) (eta4 i)).trans ((array9 m c _ _ _ _ f H.hf).trans (H.dq_eq _ _ (i 2).isLt))

/-- The kernel's gradient of the keys. -/
theorem kernel_dk (H : Good (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (i : Cert.KernelIdeal.S2x20x896x128.Idx) :
    Cert.KernelIdeal.Value.G10 m c i
      = (ctxM m c ⟨(i 0).val, (i 0).isLt⟩ ⟨(i 1).val, (i 1).isLt⟩).RDK (bias m c ⟨(i 1).val, (i 1).isLt⟩) (i 2).val (i 3).val := by
  obtain ⟨f, o, v, H⟩ := ok m c H ⟨(i 0).val, (i 0).isLt⟩ ⟨(i 1).val, (i 1).isLt⟩
  exact (congrArg (Cert.KernelIdeal.Value.G10 m c) (eta4 i)).trans ((array10 m c _ _ _ _ f H.hf).trans (H.dk_eq _ _))

/-- The kernel's gradient of the values. -/
theorem kernel_dv (H : Good (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (i : Cert.KernelIdeal.S2x20x896x128.Idx) :
    Cert.KernelIdeal.Value.G11 m c i
      = (ctxM m c ⟨(i 0).val, (i 0).isLt⟩ ⟨(i 1).val, (i 1).isLt⟩).RDV (bias m c ⟨(i 1).val, (i 1).isLt⟩) (i 2).val (i 3).val := by
  obtain ⟨f, o, v, H⟩ := ok m c H ⟨(i 0).val, (i 0).isLt⟩ ⟨(i 1).val, (i 1).isLt⟩
  exact (congrArg (Cert.KernelIdeal.Value.G11 m c) (eta4 i)).trans ((array11 m c _ _ _ _ f H.hf).trans (H.dv_eq _ _))

/-- The kernel's gradient of the bias, at every lane but the last bucket's. -/
theorem kernel_db (H : Good (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (i : Cert.KernelIdeal.S20x1x128.Idx) (hi : (i 2).val ≠ 31) :
    Cert.KernelIdeal.Value.G12 m c i
      = bucketSum (ctxM m c 0 ⟨(i 0).val, (i 0).isLt⟩) (ctxM m c 1 ⟨(i 0).val, (i 0).isLt⟩) (bias m c ⟨(i 0).val, (i 0).isLt⟩) (i 2).val := by
  obtain ⟨f, o, v, H0⟩ := ok m c H 0 ⟨(i 0).val, (i 0).isLt⟩
  obtain ⟨f', o', v', H1⟩ := ok m c H 1 ⟨(i 0).val, (i 0).isLt⟩
  exact (congrArg (Cert.KernelIdeal.Value.G12 m c) (eta3 i)).trans ((array12 m c _ _ hi f H0.hf).trans (bias_eq H0 H1 _ hi))

end

section
open Cert.ReferenceIdeal Cert.ReferenceIdeal.Read
variable (m : (ℓ : Loc Cert.ReferenceIdeal.nD Cert.ReferenceIdeal.τ Cert.ReferenceIdeal.sig) → Buf (Elt Ideal) ℓ) (c : Dev Cert.ReferenceIdeal.nD)

/-- The reference's data of one batch and head. -/
def ctxR (b : Fin 2) (h : Fin 20) : Ctx :=
  ctx (fun i => m ((c.tc : Thread Cert.ReferenceIdeal.nD Cert.ReferenceIdeal.τ).loc main_arg0) i) (fun i => m ((c.tc : Thread Cert.ReferenceIdeal.nD Cert.ReferenceIdeal.τ).loc main_arg1) i) (fun i => m ((c.tc : Thread Cert.ReferenceIdeal.nD Cert.ReferenceIdeal.τ).loc main_arg2) i) (fun i => m ((c.tc : Thread Cert.ReferenceIdeal.nD Cert.ReferenceIdeal.τ).loc main_arg3) i) (fun i => m ((c.tc : Thread Cert.ReferenceIdeal.nD Cert.ReferenceIdeal.τ).loc main_arg4) i) (fun i => m ((c.tc : Thread Cert.ReferenceIdeal.nD Cert.ReferenceIdeal.τ).loc main_arg5) i) (fun i => m ((c.tc : Thread Cert.ReferenceIdeal.nD Cert.ReferenceIdeal.τ).loc main_arg6) i) (fun i => m ((c.tc : Thread Cert.ReferenceIdeal.nD Cert.ReferenceIdeal.τ).loc main_arg7) i) (fun i => m ((c.tc : Thread Cert.ReferenceIdeal.nD Cert.ReferenceIdeal.τ).loc main_arg8) i) b h

/-- The reference's bias of a head, at a bucket. -/
def biasR (h : Fin 20) : ℕ → EReal := biasAt (fun i => m ((c.tc : Thread Cert.ReferenceIdeal.nD Cert.ReferenceIdeal.τ).loc main_arg8) i) h

/-- The reference's gradient of the queries. -/
theorem ref_dq (i : S2x20x896x128.Idx) :
    val_main_v134 (F := Ideal) (Value.exitV m c (Proc.devRef .tc main_arg3)) (Value.exitV m c (Proc.devRef .tc main_arg4)) (Value.exitV m c (Proc.devRef .tc main_arg5)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_2)) (Value.exitV m c (Proc.devRef .tc main_v0_3)) i
      = (ctxR m c ⟨(i 0).val, (i 0).isLt⟩ ⟨(i 1).val, (i 1).isLt⟩).RDQ (biasR m c ⟨(i 1).val, (i 1).isLt⟩) (i 2).val (i 3).val := by
  rw [Value.exit_main_arg3, Value.exit_main_arg4, Value.exit_main_arg5, Value.exit_main_arg7, Value.exit_main_arg8, Value.exit_main_v0_0, Value.exit_main_v0_1, Value.exit_main_v0_2, Value.exit_main_v0_3, Cert.ReferenceIdeal.Gen.reg0, Cert.ReferenceIdeal.Gen.reg1, Cert.ReferenceIdeal.Gen.reg2, Cert.ReferenceIdeal.Gen.reg3]
  exact r_v134 _ _ (m ((c.tc : Thread Cert.ReferenceIdeal.nD Cert.ReferenceIdeal.τ).loc main_arg5)) _ _ _ _ (m ((c.tc : Thread Cert.ReferenceIdeal.nD Cert.ReferenceIdeal.τ).loc main_arg2)) _ ⟨(i 0).val, (i 0).isLt⟩ ⟨(i 1).val, (i 1).isLt⟩ i rfl rfl

/-- The reference's gradient of the keys. -/
theorem ref_dk (i : S2x20x896x128.Idx) :
    val_main_v149 (F := Ideal) (Value.exitV m c (Proc.devRef .tc main_arg3)) (Value.exitV m c (Proc.devRef .tc main_arg4)) (Value.exitV m c (Proc.devRef .tc main_arg5)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_2)) (Value.exitV m c (Proc.devRef .tc main_v0_3)) i
      = (ctxR m c ⟨(i 0).val, (i 0).isLt⟩ ⟨(i 1).val, (i 1).isLt⟩).RDK (biasR m c ⟨(i 1).val, (i 1).isLt⟩) (i 2).val (i 3).val := by
  rw [Value.exit_main_arg3, Value.exit_main_arg4, Value.exit_main_arg5, Value.exit_main_arg7, Value.exit_main_arg8, Value.exit_main_v0_0, Value.exit_main_v0_1, Value.exit_main_v0_2, Value.exit_main_v0_3, Cert.ReferenceIdeal.Gen.reg0, Cert.ReferenceIdeal.Gen.reg1, Cert.ReferenceIdeal.Gen.reg2, Cert.ReferenceIdeal.Gen.reg3]
  exact r_v149 _ _ (m ((c.tc : Thread Cert.ReferenceIdeal.nD Cert.ReferenceIdeal.τ).loc main_arg5)) _ _ _ _ (m ((c.tc : Thread Cert.ReferenceIdeal.nD Cert.ReferenceIdeal.τ).loc main_arg2)) _ ⟨(i 0).val, (i 0).isLt⟩ ⟨(i 1).val, (i 1).isLt⟩ i rfl rfl

/-- The reference's gradient of the values. -/
theorem ref_dv (i : S2x20x896x128.Idx) :
    val_main_v153 (F := Ideal) (Value.exitV m c (Proc.devRef .tc main_arg3)) (Value.exitV m c (Proc.devRef .tc main_arg4)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_3)) i
      = (ctxR m c ⟨(i 0).val, (i 0).isLt⟩ ⟨(i 1).val, (i 1).isLt⟩).RDV (biasR m c ⟨(i 1).val, (i 1).isLt⟩) (i 2).val (i 3).val := by
  rw [Value.exit_main_arg3, Value.exit_main_arg4, Value.exit_main_arg7, Value.exit_main_arg8, Value.exit_main_v0_0, Value.exit_main_v0_1, Value.exit_main_v0_3, Cert.ReferenceIdeal.Gen.reg0, Cert.ReferenceIdeal.Gen.reg1, Cert.ReferenceIdeal.Gen.reg3]
  exact r_v153 _ _ (m ((c.tc : Thread Cert.ReferenceIdeal.nD Cert.ReferenceIdeal.τ).loc main_arg5)) _ _ _ _ (m ((c.tc : Thread Cert.ReferenceIdeal.nD Cert.ReferenceIdeal.τ).loc main_arg2)) _ ⟨(i 0).val, (i 0).isLt⟩ ⟨(i 1).val, (i 1).isLt⟩ i rfl rfl

/-- The reference's gradient of the bias. -/
theorem ref_db (i : S20x1x128.Idx) :
    val_main_v155 (F := Ideal) (Value.exitV m c (Proc.devRef .tc main_arg3)) (Value.exitV m c (Proc.devRef .tc main_arg4)) (Value.exitV m c (Proc.devRef .tc main_arg5)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_2)) (Value.exitV m c (Proc.devRef .tc main_v0_3)) i
      = bucketSum (ctxR m c 0 ⟨(i 0).val, (i 0).isLt⟩) (ctxR m c 1 ⟨(i 0).val, (i 0).isLt⟩) (biasR m c ⟨(i 0).val, (i 0).isLt⟩) (i 2).val := by
  rw [Value.exit_main_arg3, Value.exit_main_arg4, Value.exit_main_arg5, Value.exit_main_arg7, Value.exit_main_arg8, Value.exit_main_v0_0, Value.exit_main_v0_1, Value.exit_main_v0_2, Value.exit_main_v0_3, Cert.ReferenceIdeal.Gen.reg0, Cert.ReferenceIdeal.Gen.reg1, Cert.ReferenceIdeal.Gen.reg2, Cert.ReferenceIdeal.Gen.reg3]
  exact r_v155 _ _ (m ((c.tc : Thread Cert.ReferenceIdeal.nD Cert.ReferenceIdeal.τ).loc main_arg5)) _ _ _ _ (m ((c.tc : Thread Cert.ReferenceIdeal.nD Cert.ReferenceIdeal.τ).loc main_arg2)) _ ⟨(i 0).val, (i 0).isLt⟩ i rfl

end

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_nonneg_far_finite
public import proofs.«01_k».proof.Proof.Gen.On_all_but_far_lane
public import proofs.«01_k».proof.Proof.Gen.KernelIdeal.Value
public import proofs.«01_k».proof.Proof.Gen.ReferenceIdeal.Run
public import proofs.«01_k».proof.Proof.Gen.ReferenceIdeal.Read
public import proofs.«01_k».proof.Proof.Results
public import Idealize.ShloMosaic.Adequacy
public import Idealize.ShloMosaic.Init

@[expose] public section

noncomputable section

namespace Cert.Proof

open Idealize.ShloMosaic Idealize.ShloMosaic.TcCoe Idealize.SL Idealize.SL.Sem Cert.KernelIdeal.Tiles Cert.KernelIdeal.Gen

/-- The precondition gives nonnegative real scales of the values and output gradients, and a real bias at each head's last bucket. -/
theorem good (m : (ℓ : Loc Cert.KernelIdeal.nD Cert.KernelIdeal.τ Cert.KernelIdeal.sig) → Buf (Elt Ideal) ℓ)
    (h : @Cert.Pre_KernelIdeal_scales_nonneg_far_finite Cert.Pre_scales_nonneg_far_finite.Gen.facts m) (c : Dev Cert.KernelIdeal.nD) :
    Good (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) :=
  @Cert.Pre_scales_nonneg_far_finite.reals Cert.Pre_scales_nonneg_far_finite.Gen.facts _ _ _ _ _ _ _ _ _ (h c)

/-- The mask leaves the last bucket's lane out. -/
theorem lane_ne (i : Cert.KernelIdeal.S20x1x128.Idx) (hi : IntOp.cmpi .ne (BitVec.ofNat 32 (i 2).val) 31#32 = 1#1) : (i 2).val ≠ 31 := by
  intro e
  rw [e] at hi
  exact absurd hi (by decide)

/-- Over the extended reals, where the precondition holds, the kernel's first three results and the reference's are the same arrays, and the
    fourth agree at every lane but the last bucket's. -/
theorem algebraic : @Cert.algebraic_KernelIdeal_ReferenceIdeal_on_all_but_far_lane_pre_scales_nonneg_far_finite Cert.KernelIdeal.Gen.facts
    Cert.ReferenceIdeal.Gen.facts Cert.Pre_scales_nonneg_far_finite.Gen.facts Cert.On_all_but_far_lane.Gen.facts := by
  intro m ρ m' ρ' hpre hagree
  have hctx : ∀ c b h, ctxR m' c b h = ctxM m c b h := fun c b h => by
    obtain ⟨a0, a1, a2, a3, a4, a5, a6, a7, a8⟩ := hagree c
    exact ctx_congr a0 a1 a2 a3 a4 a5 a6 a7 a8 b h
  have hbias : ∀ c h, biasR m' c h = bias m c h := fun c h => congrArg (fun x => biasAt x h) (hagree c).2.2.2.2.2.2.2.2
  refine ⟨Cert.KernelIdeal.Value.G9 m, Cert.KernelIdeal.Value.G10 m, Cert.KernelIdeal.Value.G11 m, Cert.KernelIdeal.Value.G12 m, ?_, ?_⟩
  · refine (θ_run Cert.KernelIdeal.defs _ _).mono (fun r h c => ?_) (Cert.KernelIdeal.Value.run (F := Ideal) m ρ)
    obtain ⟨h9, h10, h11, h12, hk⟩ := h c
    exact ⟨fun i _ => congrFun h9 i, fun i _ => congrFun h10 i, fun i _ => congrFun h11 i, fun i _ => congrFun h12 i, hk⟩
  · refine (θ_run Cert.ReferenceIdeal.defs _ _).mono (fun r h c => ?_) (Cert.ReferenceIdeal.Value.run (F := Ideal) m' ρ')
    obtain ⟨h9, h10, h11, h12, hk⟩ := h c
    refine ⟨fun i _ => ?_, fun i _ => ?_, fun i _ => ?_, fun i hi => ?_, hk⟩
    · refine (congrFun (h9.trans (Cert.ReferenceIdeal.Read.val_main_v134_eq (Cert.ReferenceIdeal.Value.exitV m' c))) i).trans ((ref_dq m' c i).trans ?_)
      rw [hctx, hbias]
      exact (kernel_dq m c (good m hpre c) i).symm
    · refine (congrFun (h10.trans (Cert.ReferenceIdeal.Read.val_main_v149_eq (Cert.ReferenceIdeal.Value.exitV m' c))) i).trans ((ref_dk m' c i).trans ?_)
      rw [hctx, hbias]
      exact (kernel_dk m c (good m hpre c) i).symm
    · refine (congrFun (h11.trans (Cert.ReferenceIdeal.Read.val_main_v153_eq (Cert.ReferenceIdeal.Value.exitV m' c))) i).trans ((ref_dv m' c i).trans ?_)
      rw [hctx, hbias]
      exact (kernel_dv m c (good m hpre c) i).symm
    · refine (congrFun (h12.trans (Cert.ReferenceIdeal.Read.val_main_v155_eq (Cert.ReferenceIdeal.Value.exitV m' c))) i).trans ((ref_db m' c i).trans ?_)
      rw [hctx, hctx, hbias]
      exact (kernel_db m c (good m hpre c) i (lane_ne i hi)).symm

/-- Every claim of the certificate. -/
theorem claim : Cert.Claim := ⟨Cert.Kernel.Gen.facts, Cert.KernelIdeal.Gen.facts, Cert.ReferenceIdeal.Gen.facts, Cert.Pre_scales_nonneg_far_finite.Gen.facts, Cert.On_all_but_far_lane.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  IdealRules.named_const.statement Cert.KernelIdeal.κ "log2e" .f32 0x3FB8AA3B#32 (((Real.log 2)⁻¹ : ℝ) : EReal) rfl,
  algebraic⟩

end Cert.Proof

end
